-- ==== Defs.lean ====
def Pre_Kernel [hPre_table_ok : Cert.Pre_table_ok.Facts] (m : (ℓ : Loc Cert.Kernel.nD Cert.Kernel.τ Cert.Kernel.sig) → Buf (Elt Bits) ℓ) : Prop :=
  ∀ c : Dev Cert.Kernel.nD,
    (Cert.Pre_table_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_table_ok : Cert.Pre_table_ok.Facts] (m : (ℓ : Loc Cert.KernelIdeal.nD Cert.KernelIdeal.τ Cert.KernelIdeal.sig) → Buf (Elt Ideal) ℓ) : Prop :=
  ∀ c : Dev Cert.KernelIdeal.nD,
    (Cert.Pre_table_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_table_ok [hPre_table_ok : Cert.Pre_table_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_table_ok2 : Cert.Pre_table_ok2.Facts] (m : (ℓ : Loc Cert.Kernel2.nD Cert.Kernel2.τ Cert.Kernel2.sig) → Buf (Elt Bits) ℓ) : Prop :=
  ∀ c : Dev Cert.Kernel2.nD,
    (Cert.Pre_table_ok2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3))) = (fun _ => 1#1)

def Pre_Kernel2Ideal [hPre_table_ok2 : Cert.Pre_table_ok2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_table_ok2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_table_ok2 [hPre_table_ok2 : Cert.Pre_table_ok2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_table_ok2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] [hPre_table_ok : Cert.Pre_table_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_table_ok : Cert.Pre_table_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_table_ok [hReferenceIdeal : Cert.ReferenceIdeal.Facts] [hPre_table_ok : Cert.Pre_table_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_table_ok2 : Cert.Pre_table_ok2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] [hPre_table_ok2 : Cert.Pre_table_ok2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_table_ok2 [hReference2Ideal : Cert.Reference2Ideal.Facts] [hPre_table_ok2 : Cert.Pre_table_ok2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_table_ok2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_table_ok : Cert.Pre_table_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_table_ok2 : Cert.Pre_table_ok2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_v22) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v18_0)) (v1 : (c : Dev Cert.Kernel7Ideal.nD) → Buf (Elt Ideal) ((c.tc : Thread Cert.Kernel7Ideal.nD Cert.Kernel7Ideal.τ).loc Cert.Kernel7Ideal.main_v18_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v18_0) = v0 c
          ∧ r.2.mem ((c.tc : Thread Cert.Kernel7Ideal.nD Cert.Kernel7Ideal.τ).loc Cert.Kernel7Ideal.main_v18_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_v21) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_table_ok : Cert.Pre_table_ok.Facts) (hPre_table_ok2 : Cert.Pre_table_ok2.Facts),
    quiescent_Kernel (hKernel := hKernel) (hPre_table_ok := hPre_table_ok)
    ∧ quiescent_KernelIdeal (hKernelIdeal := hKernelIdeal) (hPre_table_ok := hPre_table_ok)
    ∧ quiescent_ReferenceIdeal (hReferenceIdeal := hReferenceIdeal)
    ∧ quiescent_ReferenceIdeal_pre_table_ok (hReferenceIdeal := hReferenceIdeal) (hPre_table_ok := hPre_table_ok)
    ∧ quiescent_Kernel2 (hKernel2 := hKernel2) (hPre_table_ok2 := hPre_table_ok2)
    ∧ quiescent_Kernel2Ideal (hKernel2Ideal := hKernel2Ideal) (hPre_table_ok2 := hPre_table_ok2)
    ∧ quiescent_Reference2Ideal (hReference2Ideal := hReference2Ideal)
    ∧ quiescent_Reference2Ideal_pre_table_ok2 (hReference2Ideal := hReference2Ideal) (hPre_table_ok2 := hPre_table_ok2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal) (hPre_table_ok := hPre_table_ok)
    ∧ preserves_Kernel2_Kernel2Ideal
    ∧ algebraic_Kernel2Ideal_Reference2Ideal (hKernel2Ideal := hKernel2Ideal) (hReference2Ideal := hReference2Ideal) (hPre_table_ok2 := hPre_table_ok2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_table_ok.lean ====
abbrev S36864x2048 : Shape := ⟨2, ![36864, 2048]⟩
abbrev S72 : Shape := ⟨1, ![72]⟩
abbrev S1 : Shape := ⟨1, ![1]⟩
abbrev S16x2048x7168 : Shape := ⟨3, ![16, 2048, 7168]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S36864x2048 .bf16) (main_arg1 : IVec S72 32) (main_arg2 : IVec S1 32) (main_arg3 : FVec F S16x2048x7168 .f32) (main_arg4 : FVec F S16x2048x7168 .f32) : IVec S_ 1 :=
  let main_c : IVec S_ 32 := constantI S_ 32 0#32
  let main_v0 : IVec S72 32 := broadcastInDim S72 ![] bcast_S_S72 main_c
  let main_v1 : IVec S72 1 := cmpi .sge main_arg1 main_v0
  let main_c_0 : IVec S_ 32 := constantI S_ 32 16#32
  let main_v2 : IVec S72 32 := broadcastInDim S72 ![] bcast_S_S72 main_c_0
  let main_v3 : IVec S72 1 := cmpi .slt main_arg1 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg2 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Pre_table_ok2.lean ====
abbrev S36864x7168 : Shape := ⟨2, ![36864, 7168]⟩
abbrev S72 : Shape := ⟨1, ![72]⟩
abbrev S1 : Shape := ⟨1, ![1]⟩
abbrev S16x7168x2048 : Shape := ⟨3, ![16, 7168, 2048]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S36864x7168 .bf16) (main_arg1 : IVec S72 32) (main_arg2 : IVec S1 32) (main_arg3 : FVec F S16x7168x2048 .f32) : IVec S_ 1 :=
  let main_c : IVec S_ 32 := constantI S_ 32 0#32
  let main_v0 : IVec S72 32 := broadcastInDim S72 ![] bcast_S_S72 main_c
  let main_v1 : IVec S72 1 := cmpi .sge main_arg1 main_v0
  let main_c_0 : IVec S_ 32 := constantI S_ 32 16#32
  let main_v2 : IVec S72 32 := broadcastInDim S72 ![] bcast_S_S72 main_c_0
  let main_v3 : IVec S72 1 := cmpi .slt main_arg1 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg2 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Kernel.lean ====
abbrev S36864x2048 : Shape := ⟨2, ![36864, 2048]⟩
abbrev S72 : Shape := ⟨1, ![72]⟩
abbrev S1 : Shape := ⟨1, ![1]⟩
abbrev S16x2048x7168 : Shape := ⟨3, ![16, 2048, 7168]⟩
abbrev S_ : Shape := ⟨0, ![]⟩
abbrev S72x1 : Shape := ⟨2, ![72, 1]⟩
abbrev S36864x7168 : Shape := ⟨2, ![36864, 7168]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 18
  | .vmem => 10
  | .smem => 3
  | _ => 0

abbrev bufTy : (tb : Table) → Fin (tcTables nBuf tb) → BufTy
  | .hbm, ⟨0, _⟩ => ⟨S36864x2048, .bf16⟩
  | .hbm, ⟨1, _⟩ => ⟨S16x2048x7168, .f32⟩
  | .hbm, ⟨2, _⟩ => ⟨S16x2048x7168, .f32⟩
  | .hbm, ⟨3, _⟩ => ⟨S72, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S72, .i32⟩
  | .hbm, ⟨8, _⟩ => ⟨S72, .i32⟩
  | .hbm, ⟨9, _⟩ => ⟨S_, .i32⟩
  | .hbm, ⟨10, _⟩ => ⟨S72, .i32⟩
  | .hbm, ⟨11, _⟩ => ⟨S72, .i1⟩
  | .hbm, ⟨12, _⟩ => ⟨S_, .i32⟩
  | .hbm, ⟨13, _⟩ => ⟨S72, .i32⟩
  | .hbm, ⟨14, _⟩ => ⟨S72, .i32⟩
  | .hbm, ⟨15, _⟩ => ⟨S72, .i32⟩
  | .hbm, ⟨16, _⟩ => ⟨S72x1, .i32⟩
  | .hbm, ⟨17, _⟩ => ⟨S36864x7168, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S512x1024, .bf16⟩
  | .local _ .vmem, ⟨7, _⟩ => ⟨S512x1024, .bf16⟩
  | .local _ .vmem, ⟨8, _⟩ => ⟨S2048x1024, .bf16⟩
  | .local _ .vmem, ⟨9, _⟩ => ⟨S2048x1024, .bf16⟩
  | .local _ .smem, ⟨0, _⟩ => ⟨S72, .i32⟩
  | .local _ .smem, ⟨1, _⟩ => ⟨S1, .i32⟩
  | .local _ .smem, ⟨2, _⟩ => ⟨S72, .i32⟩
  | _, _ => ⟨S36864x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v12 : Ref sig .tc := ⟨.hbm, 17, rfl⟩
abbrev main_arg1 : Ref sig .tc := ⟨.smem, 0, rfl⟩
abbrev main_arg2 : Ref sig .tc := ⟨.smem, 1, rfl⟩
abbrev main_v11 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 72], ![false, false]⟩

abbrev pre0 : Pipeline.Prefetch sig := ⟨3, ![main_arg1.idx, main_arg2.idx, main_v11.idx], fun | 0 => main_arg1.names | 1 => main_arg2.names | 2 => main_v11.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v5 : BitVec 32 := Scalar.subi arg1 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg1 : BitVec 32 := BitVec.ofNat 32 (i 1).val
  let v1 : BitVec 1 := Scalar.cmpi .slt arg1 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S36864x2048 : Shape := ⟨2, ![36864, 2048]⟩
abbrev S72 : Shape := ⟨1, ![72]⟩
abbrev S1 : Shape := ⟨1, ![1]⟩
abbrev S16x2048x7168 : Shape := ⟨3, ![16, 2048, 7168]⟩
abbrev S72x512x2048 : Shape := ⟨3, ![72, 512, 2048]⟩
abbrev S_ : Shape := ⟨0, ![]⟩
abbrev S72x1 : Shape := ⟨2, ![72, 1]⟩
abbrev S72x2048x7168 : Shape := ⟨3, ![72, 2048, 7168]⟩
abbrev S72x512x7168 : Shape := ⟨3, ![72, 512, 7168]⟩
abbrev S72x1x1 : Shape := ⟨3, ![72, 1, 1]⟩
abbrev S36864x7168 : Shape := ⟨2, ![36864, 7168]⟩

abbrev nBuf : Space → Nat
  | .hbm => 49
  | .vmem => 0
  | .smem => 0
  | _ => 0

abbrev bufTy : (tb : Table) → Fin (tcTables nBuf tb) → BufTy
  | .hbm, ⟨0, _⟩ => ⟨S36864x2048, .bf16⟩
  | .hbm, ⟨1, _⟩ => ⟨S72, .i32⟩
  | .hbm, ⟨2, _⟩ => ⟨S1, .i32⟩
  | .hbm, ⟨3, _⟩ => ⟨S16x2048x7168, .f32⟩
  | .hbm, ⟨4, _⟩ => ⟨S16x2048x7168, .f32⟩
  | .hbm, ⟨5, _⟩ => ⟨S36864x2048, .f32⟩
  | .hbm, ⟨6, _⟩ => ⟨S72x512x2048, .f32⟩
  | .hbm, ⟨7, _⟩ => ⟨S_, .i32⟩
  | .hbm, ⟨8, _⟩ => ⟨S72, .i32⟩
  | .hbm, ⟨9, _⟩ => ⟨S72, .i1⟩
  | .hbm, ⟨10, _⟩ => ⟨S_, .i32⟩
  | .hbm, ⟨11, _⟩ => ⟨S72, .i32⟩
  | .hbm, ⟨12, _⟩ => ⟨S72, .i32⟩
  | .hbm, ⟨13, _⟩ => ⟨S72, .i32⟩
  | .hbm, ⟨14, _⟩ => ⟨S72x1, .i32⟩
  | .hbm, ⟨15, _⟩ => ⟨S72x2048x7168, .f32⟩
  | .hbm, ⟨16, _⟩ => ⟨S72x512x7168, .f32⟩
  | .hbm, ⟨17, _⟩ => ⟨S_, .i32⟩
  | .hbm, ⟨18, _⟩ => ⟨S72, .i32⟩
  | .hbm, ⟨19, _⟩ => ⟨S72, .i1⟩
  | .hbm, ⟨20, _⟩ => ⟨S_, .i32⟩
  | .hbm, ⟨21, _⟩ => ⟨S72, .i32⟩
  | .hbm, ⟨22, _⟩ => ⟨S72, .i32⟩
  | .hbm, ⟨23, _⟩ => ⟨S72, .i32⟩
  | .hbm, ⟨24, _⟩ => ⟨S72x1, .i32⟩
  | .hbm, ⟨25, _⟩ => ⟨S72x2048x7168, .f32⟩
  | .hbm, ⟨26, _⟩ => ⟨S72x512x7168, .f32⟩
  | .hbm, ⟨27, _⟩ => ⟨S72x512x7168, .f32⟩
  | .hbm, ⟨28, _⟩ => ⟨S72x512x7168, .f32⟩
  | .hbm, ⟨29, _⟩ => ⟨S_, .f32⟩
  | .hbm, ⟨30, _⟩ => ⟨S72x512x7168, .f32⟩
  | .hbm, ⟨31, _⟩ => ⟨S72x512x7168, .f32⟩
  | .hbm, ⟨32, _⟩ => ⟨S_, .f32⟩
  | .hbm, ⟨33, _⟩ => ⟨S72x512x7168, .f32⟩
  | .hbm, ⟨34, _⟩ => ⟨S72x512x7168, .f32⟩
  | .hbm, ⟨35, _⟩ => ⟨S72x512x7168, .f32⟩
  | .hbm, ⟨36, _⟩ => ⟨S72x512x7168, .f32⟩
  | .hbm, ⟨37, _⟩ => ⟨S72, .i32⟩
  | .hbm, ⟨38, _⟩ => ⟨S_, .i32⟩
  | .hbm, ⟨39, _⟩ => ⟨S72, .i32⟩
  | .hbm, ⟨40, _⟩ => ⟨S72, .i1⟩
  | .hbm, ⟨41, _⟩ => ⟨S72x1x1, .i1⟩
  | .hbm, ⟨42, _⟩ => ⟨S_, .f32⟩
  | .hbm, ⟨43, _⟩ => ⟨S_, .f32⟩
  | .hbm, ⟨44, _⟩ => ⟨S72x512x7168, .i1⟩
  | .hbm, ⟨45, _⟩ => ⟨S72x512x7168, .f32⟩
  | .hbm, ⟨46, _⟩ => ⟨S72x512x7168, .f32⟩
  | .hbm, ⟨47, _⟩ => ⟨S36864x7168, .f32⟩
  | .hbm, ⟨48, _⟩ => ⟨S36864x7168, .bf16⟩
  | _, _ => ⟨S36864x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩

abbrev nD : Nat := 1
abbrev τ : Topo := Topo.v7x

variable {F : FTy → Type} [FloatOps F]
-- ==== Kernel2.lean ====
abbrev S36864x7168 : Shape := ⟨2, ![36864, 7168]⟩
abbrev S72 : Shape := ⟨1, ![72]⟩
abbrev S1 : Shape := ⟨1, ![1]⟩
abbrev S16x7168x2048 : Shape := ⟨3, ![16, 7168, 2048]⟩
abbrev S72x1 : Shape := ⟨2, ![72, 1]⟩
abbrev S_ : Shape := ⟨0, ![]⟩
abbrev S36864x2048 : Shape := ⟨2, ![36864, 2048]⟩
abbrev S512x7168 : Shape := ⟨2, ![512, 7168]⟩
abbrev S1x7168x512 : Shape := ⟨3, ![1, 7168, 512]⟩
abbrev S512x512 : Shape := ⟨2, ![512, 512]⟩
abbrev S7168x512 : Shape := ⟨2, ![7168, 512]⟩

abbrev nBuf : Space → Nat
  | .hbm => 22
  | .vmem => 7
  | .smem => 3
  | _ => 0

abbrev bufTy : (tb : Table) → Fin (tcTables nBuf tb) → BufTy
  | .hbm, ⟨0, _⟩ => ⟨S36864x7168, .bf16⟩
  | .hbm, ⟨1, _⟩ => ⟨S72, .i32⟩
  | .hbm, ⟨2, _⟩ => ⟨S1, .i32⟩
  | .hbm, ⟨3, _⟩ => ⟨S16x7168x2048, .f32⟩
  | .hbm, ⟨4, _⟩ => ⟨S72x1, .i32⟩
  | .hbm, ⟨5, _⟩ => ⟨S_, .i32⟩
  | .hbm, ⟨6, _⟩ => ⟨S1, .i32⟩
  | .hbm, ⟨7, _⟩ => ⟨S72, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S72, .i32⟩
  | .hbm, ⟨12, _⟩ => ⟨S72, .i32⟩
  | .hbm, ⟨13, _⟩ => ⟨S_, .i32⟩
  | .hbm, ⟨14, _⟩ => ⟨S72, .i32⟩
  | .hbm, ⟨15, _⟩ => ⟨S72, .i1⟩
  | .hbm, ⟨16, _⟩ => ⟨S_, .i32⟩
  | .hbm, ⟨17, _⟩ => ⟨S72, .i32⟩
  | .hbm, ⟨18, _⟩ => ⟨S72, .i32⟩
  | .hbm, ⟨19, _⟩ => ⟨S72, .i32⟩
  | .hbm, ⟨20, _⟩ => ⟨S72x1, .i32⟩
  | .hbm, ⟨21, _⟩ => ⟨S36864x2048, .f32⟩
  | .local _ .vmem, ⟨0, _⟩ => ⟨S512x7168, .bf16⟩
  | .local _ .vmem, ⟨1, _⟩ => ⟨S512x7168, .bf16⟩
  | .local _ .vmem, ⟨2, _⟩ => ⟨S1x7168x512, .f32⟩
  | .local _ .vmem, ⟨3, _⟩ => ⟨S1x7168x512, .f32⟩
  | .local _ .vmem, ⟨4, _⟩ => ⟨S512x512, .f32⟩
  | .local _ .vmem, ⟨5, _⟩ => ⟨S512x512, .f32⟩
  | .local _ .vmem, ⟨6, _⟩ => ⟨S7168x512, .bf16⟩
  | .local _ .smem, ⟨0, _⟩ => ⟨S72, .i32⟩
  | .local _ .smem, ⟨1, _⟩ => ⟨S1, .i32⟩
  | .local _ .smem, ⟨2, _⟩ => ⟨S72, .i32⟩
  | _, _ => ⟨S36864x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v2 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v16 : Ref sig .tc := ⟨.hbm, 21, rfl⟩
abbrev main_v1 : Ref sig .tc := ⟨.smem, 0, rfl⟩
abbrev main_v3 : Ref sig .tc := ⟨.smem, 1, rfl⟩
abbrev main_v15 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 72], ![false, false]⟩

abbrev pre0 : Pipeline.Prefetch sig := ⟨3, ![main_v1.idx, main_v3.idx, main_v15.idx], fun | 0 => main_v1.names | 1 => main_v3.names | 2 => main_v15.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v5 : BitVec 32 := Scalar.subi arg1 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg1 : BitVec 32 := BitVec.ofNat 32 (i 1).val
  let v1 : BitVec 1 := Scalar.cmpi .slt arg1 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x7168x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S36864x7168 : Shape := ⟨2, ![36864, 7168]⟩
abbrev S72 : Shape := ⟨1, ![72]⟩
abbrev S1 : Shape := ⟨1, ![1]⟩
abbrev S16x7168x2048 : Shape := ⟨3, ![16, 7168, 2048]⟩
abbrev S72x512x7168 : Shape := ⟨3, ![72, 512, 7168]⟩
abbrev S_ : Shape := ⟨0, ![]⟩
abbrev S72x1 : Shape := ⟨2, ![72, 1]⟩
abbrev S72x7168x2048 : Shape := ⟨3, ![72, 7168, 2048]⟩
abbrev S72x512x2048 : Shape := ⟨3, ![72, 512, 2048]⟩
abbrev S72x1x1 : Shape := ⟨3, ![72, 1, 1]⟩
abbrev S36864x2048 : Shape := ⟨2, ![36864, 2048]⟩

abbrev nBuf : Space → Nat
  | .hbm => 27
  | .vmem => 0
  | .smem => 0
  | _ => 0

abbrev bufTy : (tb : Table) → Fin (tcTables nBuf tb) → BufTy
  | .hbm, ⟨0, _⟩ => ⟨S36864x7168, .bf16⟩
  | .hbm, ⟨1, _⟩ => ⟨S72, .i32⟩
  | .hbm, ⟨2, _⟩ => ⟨S1, .i32⟩
  | .hbm, ⟨3, _⟩ => ⟨S16x7168x2048, .f32⟩
  | .hbm, ⟨4, _⟩ => ⟨S36864x7168, .f32⟩
  | .hbm, ⟨5, _⟩ => ⟨S72x512x7168, .f32⟩
  | .hbm, ⟨6, _⟩ => ⟨S_, .i32⟩
  | .hbm, ⟨7, _⟩ => ⟨S72, .i32⟩
  | .hbm, ⟨8, _⟩ => ⟨S72, .i1⟩
  | .hbm, ⟨9, _⟩ => ⟨S_, .i32⟩
  | .hbm, ⟨10, _⟩ => ⟨S72, .i32⟩
  | .hbm, ⟨11, _⟩ => ⟨S72, .i32⟩
  | .hbm, ⟨12, _⟩ => ⟨S72, .i32⟩
  | .hbm, ⟨13, _⟩ => ⟨S72x1, .i32⟩
  | .hbm, ⟨14, _⟩ => ⟨S72x7168x2048, .f32⟩
  | .hbm, ⟨15, _⟩ => ⟨S72x512x2048, .f32⟩
  | .hbm, ⟨16, _⟩ => ⟨S72, .i32⟩
  | .hbm, ⟨17, _⟩ => ⟨S_, .i32⟩
  | .hbm, ⟨18, _⟩ => ⟨S72, .i32⟩
  | .hbm, ⟨19, _⟩ => ⟨S72, .i1⟩
  | .hbm, ⟨20, _⟩ => ⟨S72x1x1, .i1⟩
  | .hbm, ⟨21, _⟩ => ⟨S_, .f32⟩
  | .hbm, ⟨22, _⟩ => ⟨S_, .f32⟩
  | .hbm, ⟨23, _⟩ => ⟨S72x512x2048, .i1⟩
  | .hbm, ⟨24, _⟩ => ⟨S72x512x2048, .f32⟩
  | .hbm, ⟨25, _⟩ => ⟨S72x512x2048, .f32⟩
  | .hbm, ⟨26, _⟩ => ⟨S36864x2048, .f32⟩
  | _, _ => ⟨S36864x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel3.lean ====
abbrev S16384x2048 : Shape := ⟨2, ![16384, 2048]⟩
abbrev S2x2048x5632 : Shape := ⟨3, ![2, 2048, 5632]⟩
abbrev S_ : Shape := ⟨0, ![]⟩
abbrev S16 : Shape := ⟨1, ![16]⟩
abbrev S1 : Shape := ⟨1, ![1]⟩
abbrev S16x1 : Shape := ⟨2, ![16, 1]⟩
abbrev S16384x5632 : Shape := ⟨2, ![16384, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 20
  | .vmem => 10
  | .smem => 3
  | _ => 0

abbrev bufTy : (tb : Table) → Fin (tcTables nBuf tb) → BufTy
  | .hbm, ⟨0, _⟩ => ⟨S16384x2048, .bf16⟩
  | .hbm, ⟨1, _⟩ => ⟨S2x2048x5632, .f32⟩
  | .hbm, ⟨2, _⟩ => ⟨S2x2048x5632, .f32⟩
  | .hbm, ⟨3, _⟩ => ⟨S_, .i32⟩
  | .hbm, ⟨4, _⟩ => ⟨S_, .i32⟩
  | .hbm, ⟨5, _⟩ => ⟨S16, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S_, .i32⟩
  | .hbm, ⟨12, _⟩ => ⟨S16, .i32⟩
  | .hbm, ⟨13, _⟩ => ⟨S16, .i1⟩
  | .hbm, ⟨14, _⟩ => ⟨S_, .i32⟩
  | .hbm, ⟨15, _⟩ => ⟨S16, .i32⟩
  | .hbm, ⟨16, _⟩ => ⟨S16, .i32⟩
  | .hbm, ⟨17, _⟩ => ⟨S16, .i32⟩
  | .hbm, ⟨18, _⟩ => ⟨S16x1, .i32⟩
  | .hbm, ⟨19, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | .local _ .smem, ⟨0, _⟩ => ⟨S16, .i32⟩
  | .local _ .smem, ⟨1, _⟩ => ⟨S1, .i32⟩
  | .local _ .smem, ⟨2, _⟩ => ⟨S16, .i32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v2 : Ref sig .tc := ⟨.hbm, 5, rfl⟩
abbrev main_v3 : Ref sig .tc := ⟨.hbm, 6, rfl⟩
abbrev main_c_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v14 : Ref sig .tc := ⟨.hbm, 19, rfl⟩
abbrev main_v0 : Ref sig .tc := ⟨.smem, 0, rfl⟩
abbrev main_v1 : Ref sig .tc := ⟨.smem, 1, rfl⟩
abbrev main_v13 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 16], ![false, false]⟩

abbrev pre0 : Pipeline.Prefetch sig := ⟨3, ![main_v0.idx, main_v1.idx, main_v13.idx], fun | 0 => main_v0.names | 1 => main_v1.names | 2 => main_v13.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v5 : BitVec 32 := Scalar.subi arg1 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg1 : BitVec 32 := BitVec.ofNat 32 (i 1).val
  let v1 : BitVec 1 := Scalar.cmpi .slt arg1 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S16) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S16) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x2048 : Shape := ⟨2, ![16384, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S16384x5632 : Shape := ⟨2, ![16384, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x5632, .f32⟩
  | .hbm, ⟨2, _⟩ => ⟨S2x2048x5632, .f32⟩
  | .hbm, ⟨3, _⟩ => ⟨S16384x2048, .f32⟩
  | .hbm, ⟨4, _⟩ => ⟨S1x2048x5632, .f32⟩
  | .hbm, ⟨5, _⟩ => ⟨S2048x5632, .f32⟩
  | .hbm, ⟨6, _⟩ => ⟨S16384x5632, .f32⟩
  | .hbm, ⟨7, _⟩ => ⟨S16384x5632, .f32⟩
  | .hbm, ⟨8, _⟩ => ⟨S16384x5632, .f32⟩
  | .hbm, ⟨9, _⟩ => ⟨S_, .f32⟩
  | .hbm, ⟨10, _⟩ => ⟨S16384x5632, .f32⟩
  | .hbm, ⟨11, _⟩ => ⟨S16384x5632, .f32⟩
  | .hbm, ⟨12, _⟩ => ⟨S_, .f32⟩
  | .hbm, ⟨13, _⟩ => ⟨S16384x5632, .f32⟩
  | .hbm, ⟨14, _⟩ => ⟨S16384x5632, .f32⟩
  | .hbm, ⟨15, _⟩ => ⟨S16384x5632, .f32⟩
  | .hbm, ⟨16, _⟩ => ⟨S1x2048x5632, .f32⟩
  | .hbm, ⟨17, _⟩ => ⟨S2048x5632, .f32⟩
  | .hbm, ⟨18, _⟩ => ⟨S16384x5632, .f32⟩
  | .hbm, ⟨19, _⟩ => ⟨S16384x5632, .f32⟩
  | .hbm, ⟨20, _⟩ => ⟨S16384x5632, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel4.lean ====
abbrev S16384x5632 : Shape := ⟨2, ![16384, 5632]⟩
abbrev S2x5632x2048 : Shape := ⟨3, ![2, 5632, 2048]⟩
abbrev S16384x2048 : Shape := ⟨2, ![16384, 2048]⟩
abbrev S_ : Shape := ⟨0, ![]⟩
abbrev S32 : Shape := ⟨1, ![32]⟩
abbrev S1 : Shape := ⟨1, ![1]⟩
abbrev S32x1 : Shape := ⟨2, ![32, 1]⟩
abbrev S512x5632 : Shape := ⟨2, ![512, 5632]⟩
abbrev S1x5632x512 : Shape := ⟨3, ![1, 5632, 512]⟩
abbrev S512x512 : Shape := ⟨2, ![512, 512]⟩
abbrev S5632x512 : Shape := ⟨2, ![5632, 512]⟩

abbrev nBuf : Space → Nat
  | .hbm => 20
  | .vmem => 9
  | .smem => 3
  | _ => 0

abbrev bufTy : (tb : Table) → Fin (tcTables nBuf tb) → BufTy
  | .hbm, ⟨0, _⟩ => ⟨S16384x5632, .bf16⟩
  | .hbm, ⟨1, _⟩ => ⟨S2x5632x2048, .f32⟩
  | .hbm, ⟨2, _⟩ => ⟨S16384x2048, .f32⟩
  | .hbm, ⟨3, _⟩ => ⟨S_, .i32⟩
  | .hbm, ⟨4, _⟩ => ⟨S_, .i32⟩
  | .hbm, ⟨5, _⟩ => ⟨S32, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i1⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S32, .i32⟩
  | .hbm, ⟨18, _⟩ => ⟨S32x1, .i32⟩
  | .hbm, ⟨19, _⟩ => ⟨S16384x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S5632x512, .bf16⟩
  | .local _ .smem, ⟨0, _⟩ => ⟨S32, .i32⟩
  | .local _ .smem, ⟨1, _⟩ => ⟨S1, .i32⟩
  | .local _ .smem, ⟨2, _⟩ => ⟨S32, .i32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v2 : Ref sig .tc := ⟨.hbm, 5, rfl⟩
abbrev main_v3 : Ref sig .tc := ⟨.hbm, 6, rfl⟩
abbrev main_c_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v14 : Ref sig .tc := ⟨.hbm, 19, rfl⟩
abbrev main_v0 : Ref sig .tc := ⟨.smem, 0, rfl⟩
abbrev main_v1 : Ref sig .tc := ⟨.smem, 1, rfl⟩
abbrev main_v13 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

abbrev pre0 : Pipeline.Prefetch sig := ⟨3, ![main_v0.idx, main_v1.idx, main_v13.idx], fun | 0 => main_v0.names | 1 => main_v1.names | 2 => main_v13.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v5 : BitVec 32 := Scalar.subi arg1 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg1 : BitVec 32 := BitVec.ofNat 32 (i 1).val
  let v1 : BitVec 1 := Scalar.cmpi .slt arg1 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S32) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x5632 : Shape := ⟨2, ![16384, 5632]⟩
abbrev S2x5632x2048 : Shape := ⟨3, ![2, 5632, 2048]⟩
abbrev S16384x2048 : Shape := ⟨2, ![16384, 2048]⟩
abbrev S1x5632x2048 : Shape := ⟨3, ![1, 5632, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S2x5632x2048, .f32⟩
  | .hbm, ⟨2, _⟩ => ⟨S16384x2048, .f32⟩
  | .hbm, ⟨3, _⟩ => ⟨S16384x5632, .f32⟩
  | .hbm, ⟨4, _⟩ => ⟨S1x5632x2048, .f32⟩
  | .hbm, ⟨5, _⟩ => ⟨S5632x2048, .f32⟩
  | .hbm, ⟨6, _⟩ => ⟨S16384x2048, .f32⟩
  | .hbm, ⟨7, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S16384x2048 : Shape := ⟨2, ![16384, 2048]⟩
abbrev S4x2048 : Shape := ⟨2, ![4, 2048]⟩
abbrev S4x2048x7168 : Shape := ⟨3, ![4, 2048, 7168]⟩
abbrev S1x2048 : Shape := ⟨2, ![1, 2048]⟩
abbrev S2048 : Shape := ⟨1, ![2048]⟩
abbrev S16384x7168 : Shape := ⟨2, ![16384, 7168]⟩
abbrev S1024x2048 : Shape := ⟨2, ![1024, 2048]⟩
abbrev S1x2048x1024 : Shape := ⟨3, ![1, 2048, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S4x2048, .f32⟩
  | .hbm, ⟨2, _⟩ => ⟨S4x2048x7168, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S16384x7168, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .f32⟩
  | .local _ .vmem, ⟨4, _⟩ => ⟨S1x2048x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S16384x2048 : Shape := ⟨2, ![16384, 2048]⟩
abbrev S4x2048 : Shape := ⟨2, ![4, 2048]⟩
abbrev S4x2048x7168 : Shape := ⟨3, ![4, 2048, 7168]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048 : Shape := ⟨1, ![2048]⟩
abbrev S1x2048x7168 : Shape := ⟨3, ![1, 2048, 7168]⟩
abbrev S2048x7168 : Shape := ⟨2, ![2048, 7168]⟩
abbrev S16384x7168 : Shape := ⟨2, ![16384, 7168]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x2048, .f32⟩
  | .hbm, ⟨2, _⟩ => ⟨S4x2048x7168, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S1x2048x7168, .f32⟩
  | .hbm, ⟨22, _⟩ => ⟨S2048x7168, .f32⟩
  | .hbm, ⟨23, _⟩ => ⟨S16384x7168, .f32⟩
  | .hbm, ⟨24, _⟩ => ⟨S16384x7168, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel6.lean ====
abbrev S16384x1024 : Shape := ⟨2, ![16384, 1024]⟩
abbrev S16384x2048 : Shape := ⟨2, ![16384, 2048]⟩
abbrev S4x2048x2048 : Shape := ⟨3, ![4, 2048, 2048]⟩
abbrev S4x2048 : Shape := ⟨2, ![4, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S512x1024 : Shape := ⟨2, ![512, 1024]⟩
abbrev S512x2048 : Shape := ⟨2, ![512, 2048]⟩
abbrev S256x1024 : Shape := ⟨2, ![256, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S4x2048x2048, .f32⟩
  | .hbm, ⟨4, _⟩ => ⟨S4x2048, .f32⟩
  | .hbm, ⟨5, _⟩ => ⟨S1x2048x2048, .f32⟩
  | .hbm, ⟨6, _⟩ => ⟨S2048x2048, .f32⟩
  | .hbm, ⟨7, _⟩ => ⟨S2048x2048, .bf16⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S16384x2048, .f32⟩
  | .hbm, ⟨12, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S16384x1024 : Shape := ⟨2, ![16384, 1024]⟩
abbrev S16384x2048 : Shape := ⟨2, ![16384, 2048]⟩
abbrev S4x2048x2048 : Shape := ⟨3, ![4, 2048, 2048]⟩
abbrev S4x2048 : Shape := ⟨2, ![4, 2048]⟩
abbrev S1x2048x2048 : Shape := ⟨3, ![1, 2048, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048 : Shape := ⟨1, ![2048]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S4x2048x2048, .f32⟩
  | .hbm, ⟨4, _⟩ => ⟨S4x2048, .f32⟩
  | .hbm, ⟨5, _⟩ => ⟨S16384x1024, .f32⟩
  | .hbm, ⟨6, _⟩ => ⟨S16384x1024, .f32⟩
  | .hbm, ⟨7, _⟩ => ⟨S16384x2048, .f32⟩
  | .hbm, ⟨8, _⟩ => ⟨S1x2048x2048, .f32⟩
  | .hbm, ⟨9, _⟩ => ⟨S2048x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x2048, .f32⟩
  | .hbm, ⟨24, _⟩ => ⟨S16384x2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S16384x2048, .f32⟩
  | .hbm, ⟨29, _⟩ => ⟨S16384x2048, .f32⟩
  | .hbm, ⟨30, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel7.lean ====
abbrev S16384x1024 : Shape := ⟨2, ![16384, 1024]⟩
abbrev S16384x2048 : Shape := ⟨2, ![16384, 2048]⟩
abbrev S4x2048x2048 : Shape := ⟨3, ![4, 2048, 2048]⟩
abbrev S4x2048 : Shape := ⟨2, ![4, 2048]⟩
abbrev S2x2048x8 : Shape := ⟨3, ![2, 2048, 8]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S1x2048x8 : Shape := ⟨3, ![1, 2048, 8]⟩
abbrev S2048x8 : Shape := ⟨2, ![2048, 8]⟩
abbrev S_ : Shape := ⟨0, ![]⟩
abbrev S2048x128 : Shape := ⟨2, ![2048, 128]⟩
abbrev S1 : Shape := ⟨1, ![1]⟩
abbrev S1x2048x128 : Shape := ⟨3, ![1, 2048, 128]⟩
abbrev S2x2048x128 : Shape := ⟨3, ![2, 2048, 128]⟩
abbrev S16384x128 : Shape := ⟨2, ![16384, 128]⟩
abbrev S512x1024 : Shape := ⟨2, ![512, 1024]⟩
abbrev S512x2048 : Shape := ⟨2, ![512, 2048]⟩
abbrev S512x128 : Shape := ⟨2, ![512, 128]⟩
abbrev S256x1024 : Shape := ⟨2, ![256, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩

abbrev nBuf : Space → Nat
  | .hbm => 30
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S4x2048x2048, .f32⟩
  | .hbm, ⟨4, _⟩ => ⟨S4x2048, .f32⟩
  | .hbm, ⟨5, _⟩ => ⟨S2x2048x8, .f32⟩
  | .hbm, ⟨6, _⟩ => ⟨S1x2048x2048, .f32⟩
  | .hbm, ⟨7, _⟩ => ⟨S2048x2048, .f32⟩
  | .hbm, ⟨8, _⟩ => ⟨S2048x2048, .bf16⟩
  | .hbm, ⟨9, _⟩ => ⟨S1x2048, .f32⟩
  | .hbm, ⟨10, _⟩ => ⟨S2048, .f32⟩
  | .hbm, ⟨11, _⟩ => ⟨S1x2048x8, .f32⟩
  | .hbm, ⟨12, _⟩ => ⟨S2048x8, .f32⟩
  | .hbm, ⟨13, _⟩ => ⟨S1x2048, .f32⟩
  | .hbm, ⟨14, _⟩ => ⟨S_, .f32⟩
  | .hbm, ⟨15, _⟩ => ⟨S2048x128, .f32⟩
  | .hbm, ⟨16, _⟩ => ⟨S_, .i32⟩
  | .hbm, ⟨17, _⟩ => ⟨S1, .i32⟩
  | .hbm, ⟨18, _⟩ => ⟨S2048x128, .f32⟩
  | .hbm, ⟨19, _⟩ => ⟨S2048x128, .bf16⟩
  | .hbm, ⟨20, _⟩ => ⟨S2048x128, .f32⟩
  | .hbm, ⟨21, _⟩ => ⟨S2048x128, .f32⟩
  | .hbm, ⟨22, _⟩ => ⟨S2048x128, .bf16⟩
  | .hbm, ⟨23, _⟩ => ⟨S1x2048x128, .bf16⟩
  | .hbm, ⟨24, _⟩ => ⟨S1x2048x128, .bf16⟩
  | .hbm, ⟨25, _⟩ => ⟨S2x2048x128, .bf16⟩
  | .hbm, ⟨26, _⟩ => ⟨S16384x2048, .f32⟩
  | .hbm, ⟨27, _⟩ => ⟨S16384x2048, .f32⟩
  | .hbm, ⟨28, _⟩ => ⟨S16384x128, .f32⟩
  | .hbm, ⟨29, _⟩ => ⟨S16384x128, .i32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x2048, .f32⟩
  | .local _ .vmem, ⟨8, _⟩ => ⟨S2x2048x128, .bf16⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x128, .f32⟩
  | .local _ .vmem, ⟨14, _⟩ => ⟨S512x128, .f32⟩
  | .local _ .vmem, ⟨15, _⟩ => ⟨S512x128, .i32⟩
  | .local _ .vmem, ⟨16, _⟩ => ⟨S512x128, .i32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v18_2 : Ref sig .tc := ⟨.hbm, 28, rfl⟩
abbrev main_v18_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S16384x1024 : Shape := ⟨2, ![16384, 1024]⟩
abbrev S16384x2048 : Shape := ⟨2, ![16384, 2048]⟩
abbrev S4x2048x2048 : Shape := ⟨3, ![4, 2048, 2048]⟩
abbrev S4x2048 : Shape := ⟨2, ![4, 2048]⟩
abbrev S2x2048x8 : Shape := ⟨3, ![2, 2048, 8]⟩
abbrev S1x2048x2048 : Shape := ⟨3, ![1, 2048, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048 : Shape := ⟨1, ![2048]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S4x2048x2048, .f32⟩
  | .hbm, ⟨4, _⟩ => ⟨S4x2048, .f32⟩
  | .hbm, ⟨5, _⟩ => ⟨S2x2048x8, .f32⟩
  | .hbm, ⟨6, _⟩ => ⟨S16384x1024, .f32⟩
  | .hbm, ⟨7, _⟩ => ⟨S16384x1024, .f32⟩
  | .hbm, ⟨8, _⟩ => ⟨S16384x2048, .f32⟩
  | .hbm, ⟨9, _⟩ => ⟨S1x2048x2048, .f32⟩
  | .hbm, ⟨10, _⟩ => ⟨S2048x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x2048, .f32⟩
  | .hbm, ⟨25, _⟩ => ⟨S16384x2048, .f32⟩
  | .hbm, ⟨26, _⟩ => ⟨S1x2048, .f32⟩
  | .hbm, ⟨27, _⟩ => ⟨S2048, .f32⟩
  | .hbm, ⟨28, _⟩ => ⟨S1x2048, .f32⟩
  | .hbm, ⟨29, _⟩ => ⟨S16384x2048, .f32⟩
  | .hbm, ⟨30, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Proof.Tables.lean ====
/- What the precondition says of the two tables: every block's expert is one of the sixteen, and at least one block is
   in use. -/
module

public import proofs.«01_k».proof.Proof.Gen.Pre_table_ok
public import proofs.«01_k».proof.Proof.Gen.Pre_table_ok2
public import Idealize.ShloMosaic.Lib.Pointwise
public import Idealize.ShloMosaic.Lib.ReduceAll
public import Idealize.ShloMosaic.Lib.StableHlo.Predicate

@[expose] public section

namespace Cert.Tables

open Cert.Pre_table_ok Cert.Pre_table_ok.Gen Idealize.ShloMosaic

variable {F : FTy → Type} [FloatOps F]

instance : Subsingleton S_.Idx := ⟨fun a b => funext fun k => k.elim0⟩

theorem bit_true : ∀ b : Bool, BitVec.ofBool b = 1#1 ↔ b = true := by decide

/-- A word that is at least zero and below sixteen, as signed words. -/
theorem expert_bound (w : BitVec 32) (h0 : IntOp.cmpi .sge w 0#32 = 1#1) (h1 : IntOp.cmpi .slt w 16#32 = 1#1) : w.toNat < 16 := by
  have k0 : (0#32).sle w = true := (bit_true _).1 h0
  have k1 : w.slt 16#32 = true := (bit_true _).1 h1
  simp only [BitVec.sle, BitVec.slt, decide_eq_true_eq, BitVec.toInt_eq_msb_cond, BitVec.msb_eq_decide] at k0 k1
  simp at k0 k1
  omega

/-- A word that is at least one, as signed words. -/
theorem count_bound (w : BitVec 32) (h0 : IntOp.cmpi .sge w 1#32 = 1#1) : 1 ≤ w.toInt := by
  have k0 : (1#32).sle w = true := (bit_true _).1 h0
  simpa [BitVec.sle] using k0

/-- The precondition's two facts. -/
theorem of_pre (x : FVec F S36864x2048 .bf16) (be : IVec S72 32) (na : IVec S1 32) (g u : FVec F S16x2048x7168 .f32)
    (h : fn (F := F) x be na g u = fun _ => 1#1) : (∀ j, (be j).toNat < 16) ∧ ∀ j, 1 ≤ (na j).toInt := by
  have hh := congrFun h (fun k => k.elim0)
  unfold fn at hh
  simp only [andi, constantI] at hh
  obtain ⟨h1, h2⟩ := IntOp.andi_eq_one.1 hh
  refine ⟨fun j => ?_, fun j => ?_⟩
  · have hj := Host.reduce_andi_all _ _ _ _ _ h1 j
    obtain ⟨a, b⟩ := IntOp.andi_eq_one.1 hj
    exact expert_bound _ a b
  · exact count_bound _ (Host.reduce_andi_all _ _ _ _ _ h2 j)

/-- The same two facts from the down projection's precondition. -/
theorem of_pre2 (x : FVec F Pre_table_ok2.S36864x7168 .bf16) (be : IVec Pre_table_ok2.S72 32) (na : IVec Pre_table_ok2.S1 32)
    (w : FVec F Pre_table_ok2.S16x7168x2048 .f32)
    (h : Pre_table_ok2.fn (F := F) x be na w = fun _ => 1#1) : (∀ j, (be j).toNat < 16) ∧ ∀ j, 1 ≤ (na j).toInt := by
  have hh := congrFun h (fun k => k.elim0)
  unfold Pre_table_ok2.fn at hh
  simp only [andi, constantI] at hh
  obtain ⟨h1, h2⟩ := IntOp.andi_eq_one.1 hh
  refine ⟨fun j => ?_, fun j => ?_⟩
  · have hj := Host.reduce_andi_all _ _ _ _ _ h1 j
    obtain ⟨a, b⟩ := IntOp.andi_eq_one.1 hj
    exact expert_bound _ a b
  · exact count_bound _ (Host.reduce_andi_all _ _ _ _ _ h2 j)

end Cert.Tables

end
-- ==== Proof.UpBody.lean ====
/- What the body of the experts' up projection does at one grid point, by its three control cases: a block in use
   whose expert differs from the one before (its weight tiles are converted into the two scratch buffers first), a
   block in use whose weight tiles are already there, and a block past the last one in use (zeros). -/
module

public import proofs.«01_k».proof.Proof.Gen.KernelIdeal.Skeleton
public import proofs.«01_k».proof.Proof.Gen.KernelIdeal.Launch
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.Lib.Pipeline.ValueKit

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table that names each block's expert, the number of blocks in use, and the table of the weights' blocks. -/
abbrev tb0 : Memref sig .tc .smem S72 .i32 := Memref.whole main_arg1
abbrev tb1 : Memref sig .tc .smem S1 .i32 := Memref.whole main_arg2
abbrev tb2 : Memref sig .tc .smem S72 .i32 := Memref.whole main_v11

/-- The two scratch buffers, of the gate's and of the up projection's weight tile. -/
abbrev sc0 : Memref sig .tc .vmem S2048x1024 .bf16 := Memref.whole cc0_scratch0
abbrev sc1 : Memref sig .tc .vmem S2048x1024 .bf16 := Memref.whole cc0_scratch1

/-- The words the body loads: the number of blocks in use, this block's expert, the expert of the block before. -/
abbrev wNa (T1 : S1.Idx → Elt F .i32) : Elt F .i32 :=
  View.readAt (Elt F) tb1.view (Rect.unit (s := S1) ![0] S1.size inb_S1_S1_0).toLoadRect T1 (Shape.Idx.first (numel1_S1.symm ▸ Nat.one_pos))
abbrev wBe (i : grid0.Coords) (T0 : S72.Idx → Elt F .i32) : Elt F .i32 :=
  View.readAt (Elt F) tb0.view (Rect.unit (s := S72) (k0_off1 i) S1.size (k0_off1_inb i)).toLoadRect T0 (Shape.Idx.first (numel1_S1.symm ▸ Nat.one_pos))
abbrev wPrev (i : grid0.Coords) (T0 : S72.Idx → Elt F .i32) : Elt F .i32 :=
  View.readAt (Elt F) tb0.view (Rect.unit (s := S72) (k0_off2 i) S1.size (k0_off2_inb i)).toLoadRect T0 (Shape.Idx.first (numel1_S1.symm ▸ Nat.one_pos))

/-- The condition under which the body converts the weight tiles, over the words it loads. -/
def fresh (i : grid0.Coords) (v0 v4 v8 : BitVec 32) : BitVec 1 :=
  Scalar.cmpi .ne (Scalar.extui (Scalar.andi (Scalar.cmpi .slt (BitVec.ofNat 32 (i 1).val) v0)
    (Scalar.ori (Scalar.cmpi .eq (BitVec.ofNat 32 (i 1).val) 0#32) (Scalar.cmpi .ne v4 v8))) : BitVec 32) 0#32

set_option maxHeartbeats 4000000 in
/-- A block in use with a new expert: both scratch buffers end at the converted weight tiles, and the output block at
    the gated product computed from them. -/
theorem body_fresh (c : Dev nD) (i : grid0.Coords) (arg5 : Memref sig .tc .vmem S512x2048 .bf16) (harg5 : arg5.IsWhole) (arg6 : Memref sig .tc .vmem S1x2048x1024 .f32) (harg6 : arg6.IsWhole) (arg7 : Memref sig .tc .vmem S1x2048x1024 .f32) (harg7 : arg7.IsWhole) (arg8 : Memref sig .tc .vmem S512x1024 .bf16) (harg8 : arg8.IsWhole)
    (T0 : S72.Idx → Elt F .i32) (T1 : S1.Idx → Elt F .i32) (T2 : S72.Idx → Elt F .i32)
    (x0 : S512x2048.Idx → Elt F .bf16) (x1 x2 : S1x2048x1024.Idx → Elt F .f32) (s0 s1 : S2048x1024.Idx → Elt F .bf16)
    (h1 : fresh i (wNa T1) (wBe i T0) (wPrev i T0) = 1#1) (h2 : k0_cond2 i (wNa T1) = 1#1) (h3 : ¬ k0_cond3 i (wNa T1) = 1#1) (K : PUnit → sProp 𝕄) :
    iprop(owns (c : Thread nD τ) arg5 fullShare x0 ∗ owns (c : Thread nD τ) arg6 fullShare x1 ∗ owns (c : Thread nD τ) arg7 fullShare x2
        ∗ (tb0.view.loc (c : Thread nD τ) ↦{fullShare.right} T0) ∗ (tb1.view.loc (c : Thread nD τ) ↦{fullShare.right} T1) ∗ (tb2.view.loc (c : Thread nD τ) ↦{fullShare.right} T2)
        ∗ (∃ d, owns (c : Thread nD τ) arg8 fullShare d)
        ∗ owns (c : Thread nD τ) sc0 fullShare s0 ∗ owns (c : Thread nD τ) sc1 fullShare s1
        ∗ (iprop(owns (c : Thread nD τ) arg5 fullShare x0 ∗ owns (c : Thread nD τ) arg6 fullShare x1 ∗ owns (c : Thread nD τ) arg7 fullShare x2
            ∗ (tb0.view.loc (c : Thread nD τ) ↦{fullShare.right} T0) ∗ (tb1.view.loc (c : Thread nD τ) ↦{fullShare.right} T1) ∗ (tb2.view.loc (c : Thread nD τ) ↦{fullShare.right} T2)
            ∗ owns (c : Thread nD τ) arg8 fullShare (k0_pay3 x0 (k0_pay1 x1) (k0_pay2 x2))
            ∗ owns (c : Thread nD τ) sc0 fullShare (k0_pay1 x1) ∗ owns (c : Thread nD τ) sc1 fullShare (k0_pay2 x2)) -∗ K ⟨⟩))
      ⊢ wp frame (wpE (defs₀ (F := F)) Variants.none c none) Set.univ (cc0_ffn_up i tb0 (Memref.isWhole_whole _) tb1 (Memref.isWhole_whole _) tb2 (Memref.isWhole_whole _) arg5 harg5 arg6 harg6 arg7 harg7 arg8 harg8 sc0 (Memref.isWhole_whole _) sc1 (Memref.isWhole_whole _)) K := by
  rw [cc0_ffn_up_eq_skeleton]; unfold cc0_ffn_up_skel
  unfold owns
  iintro ⟨⟨%f0, %hf0, H0⟩, ⟨%f1, %hf1, H1⟩, ⟨%f2, %hf2, H2⟩, HT0, HT1, HT2, ⟨%d3, %f3, -, HO3⟩, ⟨%g0, -, HS0⟩, ⟨%g1, -, HS1⟩, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  have hT2 : tb2.IsWhole := Memref.isWhole_whole _
  sl_exec! (disch := first | (guard_target = k0_cond2 _ _ = _; exact h2) | (guard_target = ¬(k0_cond3 _ _ = _); exact h3) | exact h1)
  sl_step
  iapply Hk
  isplitl [H0]
  · iexists f0; isplitr
    · ipureintro; exact hf0
    · iexact H0
  isplitl [H1]
  · iexists f1; isplitr
    · ipureintro; exact hf1
    · iexact H1
  isplitl [H2]
  · iexists f2; isplitr
    · ipureintro; exact hf2
    · iexact H2
  isplitl [HT0]; · iexact HT0
  isplitl [HT1]; · iexact HT1
  isplitl [HT2]; · iexact HT2
  subst hf0 hf1 hf2
  isplitl [HO3]
  · iexists _; isplitr; swap
    · iexact HO3
    · ipureintro
      sl_unfold_words
      frame_out
  isplitl [HS0]
  · iexists _; isplitr; swap
    · iexact HS0
    · ipureintro
      sl_unfold_words
      frame_out
  iexists _; isplitr; swap
  · iexact HS1
  · ipureintro
    sl_unfold_words
    frame_out

set_option maxHeartbeats 4000000 in
/-- A block in use whose expert is the one before it: the scratch buffers are read and kept. -/
theorem body_kept (c : Dev nD) (i : grid0.Coords) (arg5 : Memref sig .tc .vmem S512x2048 .bf16) (harg5 : arg5.IsWhole) (arg6 : Memref sig .tc .vmem S1x2048x1024 .f32) (harg6 : arg6.IsWhole) (arg7 : Memref sig .tc .vmem S1x2048x1024 .f32) (harg7 : arg7.IsWhole) (arg8 : Memref sig .tc .vmem S512x1024 .bf16) (harg8 : arg8.IsWhole)
    (T0 : S72.Idx → Elt F .i32) (T1 : S1.Idx → Elt F .i32) (T2 : S72.Idx → Elt F .i32)
    (x0 : S512x2048.Idx → Elt F .bf16) (x1 x2 : S1x2048x1024.Idx → Elt F .f32) (s0 s1 : S2048x1024.Idx → Elt F .bf16)
    (h1 : ¬ fresh i (wNa T1) (wBe i T0) (wPrev i T0) = 1#1) (h2 : k0_cond2 i (wNa T1) = 1#1) (h3 : ¬ k0_cond3 i (wNa T1) = 1#1) (K : PUnit → sProp 𝕄) :
    iprop(owns (c : Thread nD τ) arg5 fullShare x0 ∗ owns (c : Thread nD τ) arg6 fullShare x1 ∗ owns (c : Thread nD τ) arg7 fullShare x2
        ∗ (tb0.view.loc (c : Thread nD τ) ↦{fullShare.right} T0) ∗ (tb1.view.loc (c : Thread nD τ) ↦{fullShare.right} T1) ∗ (tb2.view.loc (c : Thread nD τ) ↦{fullShare.right} T2)
        ∗ (∃ d, owns (c : Thread nD τ) arg8 fullShare d)
        ∗ owns (c : Thread nD τ) sc0 fullShare s0 ∗ owns (c : Thread nD τ) sc1 fullShare s1
        ∗ (iprop(owns (c : Thread nD τ) arg5 fullShare x0 ∗ owns (c : Thread nD τ) arg6 fullShare x1 ∗ owns (c : Thread nD τ) arg7 fullShare x2
            ∗ (tb0.view.loc (c : Thread nD τ) ↦{fullShare.right} T0) ∗ (tb1.view.loc (c : Thread nD τ) ↦{fullShare.right} T1) ∗ (tb2.view.loc (c : Thread nD τ) ↦{fullShare.right} T2)
            ∗ owns (c : Thread nD τ) arg8 fullShare (k0_pay3 x0 s0 s1)
            ∗ owns (c : Thread nD τ) sc0 fullShare s0 ∗ owns (c : Thread nD τ) sc1 fullShare s1) -∗ K ⟨⟩))
      ⊢ wp frame (wpE (defs₀ (F := F)) Variants.none c none) Set.univ (cc0_ffn_up i tb0 (Memref.isWhole_whole _) tb1 (Memref.isWhole_whole _) tb2 (Memref.isWhole_whole _) arg5 harg5 arg6 harg6 arg7 harg7 arg8 harg8 sc0 (Memref.isWhole_whole _) sc1 (Memref.isWhole_whole _)) K := by
  rw [cc0_ffn_up_eq_skeleton]; unfold cc0_ffn_up_skel
  unfold owns
  iintro ⟨⟨%f0, %hf0, H0⟩, ⟨%f1, %hf1, H1⟩, ⟨%f2, %hf2, H2⟩, HT0, HT1, HT2, ⟨%d3, %f3, -, HO3⟩, ⟨%g0, %hg0, HS0⟩, ⟨%g1, %hg1, HS1⟩, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  have hT2 : tb2.IsWhole := Memref.isWhole_whole _
  sl_exec! (disch := first | (guard_target = k0_cond2 _ _ = _; exact h2) | (guard_target = ¬(k0_cond3 _ _ = _); exact h3) | exact h1)
  sl_step
  iapply Hk
  isplitl [H0]
  · iexists f0; isplitr
    · ipureintro; exact hf0
    · iexact H0
  isplitl [H1]
  · iexists f1; isplitr
    · ipureintro; exact hf1
    · iexact H1
  isplitl [H2]
  · iexists f2; isplitr
    · ipureintro; exact hf2
    · iexact H2
  isplitl [HT0]; · iexact HT0
  isplitl [HT1]; · iexact HT1
  isplitl [HT2]; · iexact HT2
  subst hf0 hf1 hf2 hg0 hg1
  isplitl [HO3]
  · iexists _; isplitr; swap
    · iexact HO3
    · ipureintro
      sl_unfold_words
      frame_out
  isplitl [HS0]
  · iexists g0; isplitr
    · ipureintro; rfl
    · iexact HS0
  iexists g1; isplitr
  · ipureintro; rfl
  · iexact HS1

set_option maxHeartbeats 4000000 in
/-- A block past the last one in use: zeros, and the scratch buffers are kept. -/
theorem body_past (c : Dev nD) (i : grid0.Coords) (arg5 : Memref sig .tc .vmem S512x2048 .bf16) (harg5 : arg5.IsWhole) (arg6 : Memref sig .tc .vmem S1x2048x1024 .f32) (harg6 : arg6.IsWhole) (arg7 : Memref sig .tc .vmem S1x2048x1024 .f32) (harg7 : arg7.IsWhole) (arg8 : Memref sig .tc .vmem S512x1024 .bf16) (harg8 : arg8.IsWhole)
    (T0 : S72.Idx → Elt F .i32) (T1 : S1.Idx → Elt F .i32) (T2 : S72.Idx → Elt F .i32)
    (x0 : S512x2048.Idx → Elt F .bf16) (x1 x2 : S1x2048x1024.Idx → Elt F .f32) (s0 s1 : S2048x1024.Idx → Elt F .bf16)
    (h1 : ¬ fresh i (wNa T1) (wBe i T0) (wPrev i T0) = 1#1) (h2 : ¬ k0_cond2 i (wNa T1) = 1#1) (h3 : k0_cond3 i (wNa T1) = 1#1) (K : PUnit → sProp 𝕄) :
    iprop(owns (c : Thread nD τ) arg5 fullShare x0 ∗ owns (c : Thread nD τ) arg6 fullShare x1 ∗ owns (c : Thread nD τ) arg7 fullShare x2
        ∗ (tb0.view.loc (c : Thread nD τ) ↦{fullShare.right} T0) ∗ (tb1.view.loc (c : Thread nD τ) ↦{fullShare.right} T1) ∗ (tb2.view.loc (c : Thread nD τ) ↦{fullShare.right} T2)
        ∗ (∃ d, owns (c : Thread nD τ) arg8 fullShare d)
        ∗ owns (c : Thread nD τ) sc0 fullShare s0 ∗ owns (c : Thread nD τ) sc1 fullShare s1
        ∗ (iprop(owns (c : Thread nD τ) arg5 fullShare x0 ∗ owns (c : Thread nD τ) arg6 fullShare x1 ∗ owns (c : Thread nD τ) arg7 fullShare x2
            ∗ (tb0.view.loc (c : Thread nD τ) ↦{fullShare.right} T0) ∗ (tb1.view.loc (c : Thread nD τ) ↦{fullShare.right} T1) ∗ (tb2.view.loc (c : Thread nD τ) ↦{fullShare.right} T2)
            ∗ owns (c : Thread nD τ) arg8 fullShare k0_pay4
            ∗ owns (c : Thread nD τ) sc0 fullShare s0 ∗ owns (c : Thread nD τ) sc1 fullShare s1) -∗ K ⟨⟩))
      ⊢ wp frame (wpE (defs₀ (F := F)) Variants.none c none) Set.univ (cc0_ffn_up i tb0 (Memref.isWhole_whole _) tb1 (Memref.isWhole_whole _) tb2 (Memref.isWhole_whole _) arg5 harg5 arg6 harg6 arg7 harg7 arg8 harg8 sc0 (Memref.isWhole_whole _) sc1 (Memref.isWhole_whole _)) K := by
  rw [cc0_ffn_up_eq_skeleton]; unfold cc0_ffn_up_skel
  unfold owns
  iintro ⟨⟨%f0, %hf0, H0⟩, ⟨%f1, %hf1, H1⟩, ⟨%f2, %hf2, H2⟩, HT0, HT1, HT2, ⟨%d3, %f3, -, HO3⟩, ⟨%g0, %hg0, HS0⟩, ⟨%g1, %hg1, HS1⟩, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  have hT2 : tb2.IsWhole := Memref.isWhole_whole _
  sl_exec! (disch := first | (guard_target = ¬(k0_cond2 _ _ = _); exact h2) | (guard_target = k0_cond3 _ _ = _; exact h3) | exact h1)
  sl_step
  iapply Hk
  isplitl [H0]
  · iexists f0; isplitr
    · ipureintro; exact hf0
    · iexact H0
  isplitl [H1]
  · iexists f1; isplitr
    · ipureintro; exact hf1
    · iexact H1
  isplitl [H2]
  · iexists f2; isplitr
    · ipureintro; exact hf2
    · iexact H2
  isplitl [HT0]; · iexact HT0
  isplitl [HT1]; · iexact HT1
  isplitl [HT2]; · iexact HT2
  subst hf0 hf1 hf2 hg0 hg1
  isplitl [HO3]
  · iexists _; isplitr; swap
    · iexact HO3
    · ipureintro
      sl_unfold_words
      frame_out
  isplitl [HS0]
  · iexists g0; isplitr
    · ipureintro; rfl
    · iexact HS0
  iexists g1; isplitr
  · ipureintro; rfl
  · iexact HS1

end Cert.KernelIdeal.Up

end
-- ==== Proof.Words.lean ====
/- The signed words of the block tables: a block is in use where its number is below the count of blocks in use, and the
   index maps hold a block past that count at the last block in use. -/
module

public import Idealize.ShloMosaic.Lib.Pointwise.Index
public import Idealize.ShloMosaic.Lib.ValueIdx

@[expose] public section

namespace Cert.Words

open Idealize.ShloMosaic

/-- Block `n` is in use: `n` is below the number of blocks in use, as signed words. -/
abbrev InUse (v : BitVec 32) (n : ℕ) : Prop := (BitVec.ofNat 32 n).slt v = true

/-- A small number's word has the number as its unsigned value, -/
theorem toNat_small (n : ℕ) (hn : n < 1024) : (BitVec.ofNat 32 n).toNat = n := by
  rw [BitVec.toNat_ofNat]; omega

/-- and as its signed value. -/
theorem toInt_small (n : ℕ) (hn : n < 1024) : (BitVec.ofNat 32 n).toInt = n := by
  rw [BitVec.toInt_eq_toNat_of_lt (by rw [toNat_small n hn]; omega), toNat_small n hn]

/-- A small number's word is the zero word where the number is zero. -/
theorem eq_zero_small (n : ℕ) (hn : n < 1024) : ((BitVec.ofNat 32 n == 0#32) = true) ↔ n = 0 := by
  rw [beq_iff_eq]
  refine ⟨fun h => ?_, fun h => by rw [h]⟩
  rw [← toNat_small n hn, h]; rfl

/-- One less than a word that is not the least one. -/
theorem pred_toInt (v : BitVec 32) (k : ℤ) (hk : 0 ≤ k) (h : k < v.toInt) : (IntOp.subi v 1#32).toInt = v.toInt - 1 := by
  unfold IntOp.subi
  rw [BitVec.toInt_sub]
  have h1 := BitVec.toInt_lt (x := v)
  have h2 : (1#32 : BitVec 32).toInt = 1 := by decide
  rw [h2]
  exact Int.bmod_eq_of_le (by omega) (by omega)

/-- A block in use, on the integers. -/
theorem inUse_iff (v : BitVec 32) (n : ℕ) (hn : n < 1024) : InUse v n ↔ (n : ℤ) < v.toInt := by
  unfold InUse
  rw [BitVec.slt_iff_toInt_lt, toInt_small n hn]

/-- A block before one in use is in use. -/
theorem inUse_pred (v : BitVec 32) (n : ℕ) (hn : n < 1024) (h : InUse v n) : InUse v (n - 1) := by
  rw [inUse_iff v _ (by omega)]
  rw [inUse_iff v n hn] at h
  omega

/-- The lesser of a block in use and the last block in use is the block. -/
theorem min_inUse (v : BitVec 32) (n : ℕ) (hn : n < 1024) (h : InUse v n) :
    IntOp.minsi (BitVec.ofNat 32 n) (IntOp.subi v 1#32) = BitVec.ofNat 32 n := by
  rw [inUse_iff v n hn] at h
  have es := pred_toInt v n (by omega) h
  have e := toInt_small n hn
  unfold IntOp.minsi
  split
  · rfl
  · next hc =>
    apply BitVec.eq_of_toInt_eq
    simp only [BitVec.sle, BitVec.slt, decide_eq_true_eq, es, e] at *
    omega

/-- A block in use reads its own rows. -/
theorem minsi_inUse (v : BitVec 32) (n : ℕ) (hn : n < 1024) (h : InUse v n) :
    (Scalar.minsi (BitVec.ofNat 32 n) (Scalar.subi v 1#32)).toNat = n := by
  rw [show Scalar.minsi (BitVec.ofNat 32 n) (Scalar.subi v 1#32) = BitVec.ofNat 32 n from min_inUse v n hn h, toNat_small n hn]

/-- The rows' block that any block reads is one of the array's, where a block is in use. -/
theorem minsi_lt (v : BitVec 32) (hv : 1 ≤ v.toInt) (N n : ℕ) (hN : N ≤ 1024) (hn : n < N) :
    (Scalar.minsi (BitVec.ofNat 32 n) (Scalar.subi v 1#32)).toNat < N := by
  have e := toInt_small n (by omega)
  have e' := toNat_small n (by omega)
  have es := pred_toInt v 0 (by omega) (by omega)
  show (IntOp.minsi (BitVec.ofNat 32 n) (IntOp.subi v 1#32)).toNat < N
  unfold IntOp.minsi
  split
  · omega
  · next hc =>
    simp only [BitVec.sle, BitVec.slt, decide_eq_true_eq, es, e] at hc
    have : (IntOp.subi v 1#32).toInt = (IntOp.subi v 1#32).toNat := by
      rw [BitVec.toInt_eq_toNat_cond]
      split
      · rfl
      · next hc' =>
        exfalso
        have := es
        rw [BitVec.toInt_eq_toNat_cond, if_neg hc'] at this
        have := (IntOp.subi v 1#32).isLt
        omega
    omega

/-- The position that the host computes for block `n` of `N` where `v` blocks are in use: `min n (v - 1)`, with `N`
    added to a negative one. -/
def posW (N : BitVec 32) (n : ℕ) (v : BitVec 32) : BitVec 32 :=
  Scalar.select (IntOp.cmpi .slt (IntOp.minsi (BitVec.ofNat 32 n) (IntOp.subi v 1#32)) 0#32)
    (IntOp.addi (IntOp.minsi (BitVec.ofNat 32 n) (IntOp.subi v 1#32)) N) (IntOp.minsi (BitVec.ofNat 32 n) (IntOp.subi v 1#32))

/-- A block in use has its own position. -/
theorem posW_inUse (N : BitVec 32) (M n : ℕ) (hM : M ≤ 1024) (hn : n < M) (v : BitVec 32) (h : InUse v n) :
    min (posW N n v).toInt.toNat (M - 1) = n := by
  unfold posW
  rw [min_inUse v n (by omega) h]
  have e := toInt_small n (by omega)
  have : IntOp.cmpi .slt (BitVec.ofNat 32 n) 0#32 = 0#1 := by
    show BitVec.ofBool ((BitVec.ofNat 32 n).slt 0#32) = 0#1
    rw [show (BitVec.ofNat 32 n).slt 0#32 = false by
      simp only [BitVec.slt, decide_eq_false_iff_not, e, BitVec.toInt_zero]; omega]
    rfl
  rw [this]
  show min (BitVec.ofNat 32 n).toInt.toNat (M - 1) = n
  rw [e]
  omega

end Cert.Words
-- ==== Proof.UpRun.lean ====
/- The run of the experts' up projection: at tables the program admits, what the scratch buffers hold between points,
   the body's obligation at every point, and the launch. -/
module

public import proofs.«01_k».proof.Proof.UpBody
public import proofs.«01_k».proof.Proof.Words
public import Idealize.ShloMosaic.Lib.Pipeline.Frame
public import Idealize.ShloMosaic.Lib.Pipeline.TableIdle
public import Idealize.ShloMosaic.Lib.Pipeline.Kit

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Words (InUse)
open Idealize.ShloMosaic.Pipeline (Dat Cfg Window BodyObligation BodyObligationLoose cellOf)

variable {F : FTy → Type} [FloatOps F]

local notation "𝕄" => MT nD τ sig Unit (Elt F) ℕ (UR sig nD τ) ℕ

/-! ## The words -/

/-- The index `n` into a table of 72 words, and the one index into a table of one word. -/
abbrev ixB (n : ℕ) (hn : n < 72) : S72.Idx := fun a => ⟨n, by fin_cases a; exact hn⟩
abbrev ix1 : S1.Idx := fun a => ⟨0, by fin_cases a; exact Nat.one_pos⟩

/-- The number of blocks in use, read off its table. -/
abbrev naOf (pf : pre0.Contents (Elt F)) : BitVec 32 := (pf 1 : S1.Idx → Elt F .i32) ix1
/-- Block `n`'s expert. -/
abbrev beOf (pf : pre0.Contents (Elt F)) (n : ℕ) (hn : n < 72) : BitVec 32 := (pf 0 : S72.Idx → Elt F .i32) (ixB n hn)
/-- The index of the weights that block `n` reads. -/
abbrev bwOf (pf : pre0.Contents (Elt F)) (n : ℕ) (hn : n < 72) : BitVec 32 := (pf 2 : S72.Idx → Elt F .i32) (ixB n hn)

theorem wNa_eq (pf : pre0.Contents (Elt F)) : wNa (pf 1) = naOf pf :=
  congrArg (pf 1 : S1.Idx → Elt F .i32) (funext fun a => Fin.ext (by fin_cases a; rfl))

theorem off1_val (i : grid0.Coords) : k0_off1 i 0 = (i 1).val :=
  (by decide +kernel : ∀ n : Fin 72, (Scalar.indexCast (BitVec.ofNat 32 n.val) : Index).toNat = n.val) (i 1)

theorem off2_val (i : grid0.Coords) : k0_off2 i 0 = (i 1).val - 1 :=
  (by decide +kernel : ∀ n : Fin 72, (Scalar.indexCast (Scalar.maxsi (Scalar.subi (BitVec.ofNat 32 n.val) 1#32) 0#32) : Index).toNat = n.val - 1) (i 1)

theorem wBe_eq (pf : pre0.Contents (Elt F)) (i : grid0.Coords) : wBe i (pf 0) = beOf pf (i 1).val (i 1).isLt :=
  congrArg (pf 0 : S72.Idx → Elt F .i32) (funext fun a => Fin.ext (by fin_cases a; exact off1_val i))

theorem wPrev_eq (pf : pre0.Contents (Elt F)) (i : grid0.Coords) :
    wPrev i (pf 0) = beOf pf ((i 1).val - 1) (lt_of_le_of_lt (Nat.sub_le _ _) (i 1).isLt) :=
  congrArg (pf 0 : S72.Idx → Elt F .i32) (funext fun a => Fin.ext (by fin_cases a; exact off2_val i))

theorem cond2_iff (i : grid0.Coords) (v : BitVec 32) : k0_cond2 i v = 1#1 ↔ InUse v (i 1).val :=
  (by decide : ∀ b : Bool, Scalar.cmpi .ne (Scalar.extui (BitVec.ofBool b) : BitVec 32) 0#32 = 1#1 ↔ b = true) _

theorem cond3_iff (i : grid0.Coords) (v : BitVec 32) : k0_cond3 i v = 1#1 ↔ ¬ InUse v (i 1).val :=
  (by decide : ∀ b : Bool, Scalar.cmpi .ne (Scalar.extui (Scalar.xori (BitVec.ofBool b) 1#1) : BitVec 32) 0#32 = 1#1 ↔ ¬ b = true) _

theorem fresh_iff (i : grid0.Coords) (v a b : BitVec 32) :
    fresh i v a b = 1#1 ↔ InUse v (i 1).val ∧ ((i 1).val = 0 ∨ a ≠ b) := by
  have h0 := Words.eq_zero_small (i 1).val (lt_trans (show (i 1).val < 72 from (i 1).isLt) (by decide))
  have h1 : ((a != b) = true) ↔ a ≠ b := bne_iff_ne
  rw [← h0, ← h1]
  exact (by decide : ∀ p q r : Bool, Scalar.cmpi .ne (Scalar.extui (Scalar.andi (BitVec.ofBool p)
    (Scalar.ori (BitVec.ofBool q) (BitVec.ofBool r))) : BitVec 32) 0#32 = 1#1 ↔ p = true ∧ (q = true ∨ r = true)) _ _ _

/-! ## The pipeline at admitted tables -/

/-- The pipeline's windows and grid at the tables' contents `a`. -/
abbrev cfgA (a : (pcfg0 (F := F)).Adm) : Pipeline.Cfg sig Λ₀ := cfg0 (F := F) a

section Points
variable (a : (pcfg0 (F := F)).Adm)

/-- Point `t`'s coordinates: the column block and the row block. -/
abbrev crd (t : Fin (cfgA a).N) : grid0.Coords := grid0.coords t

abbrev ms0 (t : Fin (cfgA a).N) : Memref sig .tc .vmem S512x2048 .bf16 := spec0_0.stage ((cfgA a).slots t (0 : Fin 4))
abbrev hs0 (t : Fin (cfgA a).N) : (ms0 a t).IsWhole := hstage0_0 (((cfgA a).slots t (0 : Fin 4)).cast nbuf0_0)
abbrev ms1 (t : Fin (cfgA a).N) : Memref sig .tc .vmem S1x2048x1024 .f32 := spec0_1.stage ((cfgA a).slots t (1 : Fin 4))
abbrev hs1 (t : Fin (cfgA a).N) : (ms1 a t).IsWhole := hstage0_1 (((cfgA a).slots t (1 : Fin 4)).cast nbuf0_1)
abbrev ms2 (t : Fin (cfgA a).N) : Memref sig .tc .vmem S1x2048x1024 .f32 := spec0_2.stage ((cfgA a).slots t (2 : Fin 4))
abbrev hs2 (t : Fin (cfgA a).N) : (ms2 a t).IsWhole := hstage0_2 (((cfgA a).slots t (2 : Fin 4)).cast nbuf0_2)
abbrev ms3 (t : Fin (cfgA a).N) : Memref sig .tc .vmem S512x1024 .bf16 := spec0_3.stage ((cfgA a).slots t (3 : Fin 4))
abbrev hs3 (t : Fin (cfgA a).N) : (ms3 a t).IsWhole := hstage0_3 (((cfgA a).slots t (3 : Fin 4)).cast nbuf0_3)

/-- The coordinates of point `t`, the row block the faster. -/
theorem crd_val : ∀ t : Fin grid0.N, (grid0.coords t 0).val = t.val / 72 ∧ (grid0.coords t 1).val = t.val % 72 := by
  decide +kernel

variable (V : (c : Dev nD) → (b : Ref sig .tc) → Buf (Elt F) ((c : Thread nD τ).loc b))

/-- Window `w`'s block at point `t`, of the array as the region finds it. -/
def iblk (c : Dev nD) (w : Fin 4) (t : Fin (cfgA a).N) : (((cfgA a).win w).xblock (crd a t)).Idx → Elt F ((cfgA a).win w).elt :=
  (((cfgA a).win w).blk t).view.read (Elt F) (V c (Pipeline.arrRef spec0 w))

/-- The three input blocks at their own types. -/
abbrev xB (c : Dev nD) (t : Fin (cfgA a).N) : S512x2048.Idx → Elt F .bf16 := iblk a V c 0 t
abbrev gB (c : Dev nD) (t : Fin (cfgA a).N) : S1x2048x1024.Idx → Elt F .f32 := iblk a V c 1 t
abbrev uB (c : Dev nD) (t : Fin (cfgA a).N) : S1x2048x1024.Idx → Elt F .f32 := iblk a V c 2 t

/-- What point `t` leaves in the output block. -/
def outB (c : Dev nD) (t : Fin (cfgA a).N) : S512x1024.Idx → Elt F .bf16 :=
  if InUse (naOf a.1) (crd a t 1).val then k0_pay3 (xB a V c t) (k0_pay1 (gB a V c t)) (k0_pay2 (uB a V c t)) else k0_pay4

/-- Between points: the scratch buffers hold the converted weight tiles of the point before, where that point's block
    is in use; the tables are held for reading. -/
def Phi (c : Dev nD) (t : Fin ((cfgA a).N + 1)) : sProp 𝕄 :=
  iprop((∃ s0 s1, ⌜∀ p : Fin (cfgA a).N, p.val + 1 = t.val → InUse (naOf a.1) (crd a p 1).val →
          s0 = k0_pay1 (gB a V c p) ∧ s1 = k0_pay2 (uB a V c p)⌝
        ∗ owns (c : Thread nD τ) sc0 fullShare s0 ∗ owns (c : Thread nD τ) sc1 fullShare s1)
    ∗ (tb0.view.loc (c : Thread nD τ) ↦{fullShare.right} a.1 0) ∗ (tb1.view.loc (c : Thread nD τ) ↦{fullShare.right} a.1 1)
    ∗ (tb2.view.loc (c : Thread nD τ) ↦{fullShare.right} a.1 2) ∗ ∃ r, prngReg c r)

/-- The proof data of the one pipeline on core `c`. -/
def dats (_ : Fin 1) (c : Dev nD) : Dat τ (Elt F) Unit ℕ (UR sig nD τ) ℕ (cfgA a) c where
  A w := V c (Pipeline.arrRef spec0 w)
  after w t := match w with
    | ⟨0, _⟩ => iblk a V c 0 t
    | ⟨1, _⟩ => iblk a V c 1 t
    | ⟨2, _⟩ => iblk a V c 2 t
    | ⟨3, _⟩ => outB a V c t
  Φ t := Phi a V c t
  q _ := fullShare
  owed _ := 0

theorem after0 (c : Dev nD) (t : Fin (cfgA a).N) : (dats a V 0 c).after (0 : Fin 4) t = iblk a V c 0 t := rfl
theorem after1 (c : Dev nD) (t : Fin (cfgA a).N) : (dats a V 0 c).after (1 : Fin 4) t = iblk a V c 1 t := rfl
theorem after2 (c : Dev nD) (t : Fin (cfgA a).N) : (dats a V 0 c).after (2 : Fin 4) t = iblk a V c 2 t := rfl
theorem after3 (c : Dev nD) (t : Fin (cfgA a).N) : (dats a V 0 c).after (3 : Fin 4) t = outB a V c t := rfl

/-- Each input window holds its block when the body runs, fetched at that point or not. -/
theorem before0 (c : Dev nD) (t : Fin (cfgA a).N) (d) : (dats a V 0 c).before (0 : Fin 4) t d = iblk a V c 0 t :=
  ((dats a V 0 c).before_in_eq_fetched (0 : Fin 4) rfl (fun _ => rfl) (fun _ _ _ => rfl) (fun t => by rw [after0]; unfold Dat.blockOf iblk; rfl) t d).trans
    (by unfold Dat.fetched Dat.blockOf iblk; rfl)
theorem before1 (c : Dev nD) (t : Fin (cfgA a).N) (d) : (dats a V 0 c).before (1 : Fin 4) t d = iblk a V c 1 t :=
  ((dats a V 0 c).before_in_eq_fetched (1 : Fin 4) rfl (fun _ => rfl) (fun _ _ _ => rfl) (fun t => by rw [after1]; unfold Dat.blockOf iblk; rfl) t d).trans
    (by unfold Dat.fetched Dat.blockOf iblk; rfl)
theorem before2 (c : Dev nD) (t : Fin (cfgA a).N) (d) : (dats a V 0 c).before (2 : Fin 4) t d = iblk a V c 2 t :=
  ((dats a V 0 c).before_in_eq_fetched (2 : Fin 4) rfl (fun _ => rfl) (fun _ _ _ => rfl) (fun t => by rw [after2]; unfold Dat.blockOf iblk; rfl) t d).trans
    (by unfold Dat.fetched Dat.blockOf iblk; rfl)

/-- The word that the windows' schedule reads for "in use" is the number of blocks in use. -/
theorem atD_na : a.1.atD 1 ![0] = naOf a.1 := by
  unfold Pipeline.Prefetch.Contents.atD
  rw [dif_pos (by intro b; fin_cases b; exact Nat.le_refl 1)]
  exact congrArg (a.1 1 : S1.Idx → Elt F .i32) (funext fun b => Fin.ext (by fin_cases b; rfl))

/-- The output block is stored at every point. -/
theorem idle3 (t : Fin (cfgA a).N) : (cfgA a).idle (3 : Fin 4) (crd a t) = false := by
  show (!(k0_cond2 (crd a t) (a.1.atD 1 ![0]) == 1#1) && !(k0_cond3 (crd a t) (a.1.atD 1 ![0]) == 1#1)) = false
  by_cases h : InUse (a.1.atD 1 ![0]) (crd a t 1).val
  · rw [(cond2_iff _ _).2 h]; rfl
  · rw [(cond3_iff _ _).2 h]; simp

/-- A column block's word is its number. -/
theorem coord0 (i : grid0.Coords) : (BitVec.ofNat 32 (i 0).val).toNat = (i 0).val :=
  (by decide +kernel : ∀ n : Fin 7, (BitVec.ofNat 32 n.val).toNat = n.val) (i 0)

/-- The word the weights' index maps load. -/
theorem bw_at (pf : pre0.Contents (Elt F)) (i : grid0.Coords) :
    pf.at 2 (Rect.unit (s := S72) (k0_off1 i) S1.size (k0_off1_inb i)) numel1_S1 = bwOf pf (i 1).val (i 1).isLt :=
  congrArg (pf 2 : S72.Idx → Elt F .i32) (funext fun b => Fin.ext (by fin_cases b; exact off1_val i))

/-- The weights' index maps read the third table at the row block, and the column block. -/
theorem index1 (t : Fin (cfgA a).N) : ((cfgA a).win (1 : Fin 4)).index t
    = ![(bwOf a.1 (crd a t 1).val (crd a t 1).isLt).toNat, 0, (crd a t 0).val] := by
  funext j
  fin_cases j
  · exact congrArg BitVec.toNat (bw_at a.1 (grid0.coords t))
  · rfl
  · exact coord0 (grid0.coords t)
theorem index2 (t : Fin (cfgA a).N) : ((cfgA a).win (2 : Fin 4)).index t
    = ![(bwOf a.1 (crd a t 1).val (crd a t 1).isLt).toNat, 0, (crd a t 0).val] := by
  funext j
  fin_cases j
  · exact congrArg BitVec.toNat (bw_at a.1 (grid0.coords t))
  · rfl
  · exact coord0 (grid0.coords t)

/-- Two points with one column block and one weights' index read one weight tile. -/
theorem gB_congr (c : Dev nD) (t p : Fin (cfgA a).N) (h0 : (crd a t 0).val = (crd a p 0).val)
    (h : bwOf a.1 (crd a t 1).val (crd a t 1).isLt = bwOf a.1 (crd a p 1).val (crd a p 1).isLt) : gB a V c t = gB a V c p := by
  funext y
  unfold gB
  blk_simp [iblk]
  blk_ext [index1 a t, index1 a p]
  rw [h]

theorem uB_congr (c : Dev nD) (t p : Fin (cfgA a).N) (h0 : (crd a t 0).val = (crd a p 0).val)
    (h : bwOf a.1 (crd a t 1).val (crd a t 1).isLt = bwOf a.1 (crd a p 1).val (crd a p 1).isLt) : uB a V c t = uB a V c p := by
  funext y
  unfold uB
  blk_simp [iblk]
  blk_ext [index2 a t, index2 a p]
  rw [h]

/-! ## The body's obligation -/

/-- The weights' index table agrees with the experts' table at the blocks in use. -/
def Agree : Prop := ∀ n (hn : n < 72), InUse (naOf a.1) n → bwOf a.1 n hn = beOf a.1 n hn

/-- The body at point `t` on its staging buffers, as the pipeline calls it. -/
abbrev bodyAt (t : Fin (cfgA a).N) : Prog (TpuEff nD τ sig (Elt F) Λ₀ .tc) PUnit :=
  cc0_ffn_up (crd a t) tb0 (Memref.isWhole_whole _) tb1 (Memref.isWhole_whole _) tb2 (Memref.isWhole_whole _) (ms0 a t) (hs0 a t) (ms1 a t) (hs1 a t)
    (ms2 a t) (hs2 a t) (ms3 a t) (hs3 a t) sc0 (Memref.isWhole_whole _) sc1 (Memref.isWhole_whole _)

set_option maxHeartbeats 1000000 in
/-- At every point the body takes the invariant and the input blocks to the invariant and the output block: at a block
    in use whose weights differ from the ones before, with the weights converted there; at another block in use, with
    the weights the scratch buffers hold; past the blocks in use, with zeros. -/
theorem sound_body (hag : Agree a) (c : Dev nD) (t : Fin (cfgA a).N) :
    iprop((dats a V 0 c).Φ t.castSucc ∗ (dats a V 0 c).owesAt () t.castSucc
        ∗ (∃ d, owns (c : Thread nD τ) (ms0 a t) fullShare ((dats a V 0 c).before (0 : Fin 4) t d))
        ∗ (∃ d, owns (c : Thread nD τ) (ms1 a t) fullShare ((dats a V 0 c).before (1 : Fin 4) t d))
        ∗ (∃ d, owns (c : Thread nD τ) (ms2 a t) fullShare ((dats a V 0 c).before (2 : Fin 4) t d))
        ∗ (∃ d, owns (c : Thread nD τ) (ms3 a t) fullShare ((dats a V 0 c).before (3 : Fin 4) t d)))
      ⊢ wp frame (wpE (defs₀ (F := F)) Variants.none c none) Set.univ (bodyAt a t) fun _ =>
          iprop((dats a V 0 c).Φ t.succ ∗ (dats a V 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a V 0 c).before w t d))
                  | true => owns (c : Thread nD τ) (((cfgA a).win w).stage ((cfgA a).slots t w)) fullShare ((dats a V 0 c).after w t)
                | false => owns (c : Thread nD τ) (((cfgA a).win w).stage ((cfgA a).slots t w)) fullShare ((dats a V 0 c).after w t)) := by
  rw [bigSep_W0]
  rewrite [show (cfgA a).idle (3 : Fin 4) ((cfgA a).grid.coords t) = false from idle3 a t]
  simp only [before0, before1, before2, after0, after1, after2, after3]
  rewrite [show (dats a V 0 c).Φ t.succ = Phi a V c t.succ from rfl, show (dats a V 0 c).Φ t.castSucc = Phi a V c t.castSucc from rfl,
    show (dats a V 0 c).owesAt () t.succ = (dats a V 0 c).owesAt () t.castSucc from rfl]
  unfold Phi
  simp only [Fin.val_castSucc, Fin.val_succ]
  iintro ⟨⟨⟨%s0, %s1, %hs, HS0, HS1⟩, HT0, HT1, HT2, Hr⟩, Ho, ⟨%d0, H0⟩, ⟨%d1, H1⟩, ⟨%d2, H2⟩, ⟨%d3, H3⟩⟩
  -- the next point's reading of the invariant is at this point
  have only : ∀ p : Fin (cfgA a).N, p.val + 1 = t.val + 1 → p = t := fun p hp => Fin.ext (Nat.succ.inj hp)
  by_cases hu : InUse (naOf a.1) (crd a t 1).val
  · have h2 : k0_cond2 (crd a t) (wNa (a.1 1)) = 1#1 := (cond2_iff _ _).2 (by rw [wNa_eq]; exact hu)
    have h3 : ¬ k0_cond3 (crd a t) (wNa (a.1 1)) = 1#1 := fun h => (cond3_iff _ _).1 h (by rw [wNa_eq]; exact hu)
    have eo : outB a V c t = k0_pay3 (xB a V c t) (k0_pay1 (gB a V c t)) (k0_pay2 (uB a V c t)) := if_pos hu
    by_cases h1 : fresh (crd a t) (wNa (a.1 1)) (wBe (crd a t) (a.1 0)) (wPrev (crd a t) (a.1 0)) = 1#1
    · iapply (body_fresh c (crd a t) (ms0 a t) (hs0 a t) (ms1 a t) (hs1 a t) (ms2 a t) (hs2 a t) (ms3 a t) (hs3 a t)
        (a.1 0) (a.1 1) (a.1 2) (xB a V c t) (gB a V c t) (uB a V c t) s0 s1 h1 h2 h3 _)
      isplitl [H0]; · iexact H0
      isplitl [H1]; · iexact H1
      isplitl [H2]; · iexact H2
      isplitl [HT0]; · iexact HT0
      isplitl [HT1]; · iexact HT1
      isplitl [HT2]; · iexact HT2
      isplitl [H3]; · iexists _; iexact H3
      isplitl [HS0]; · iexact HS0
      isplitl [HS1]; · iexact HS1
      iintro ⟨H0, H1, H2, HT0, HT1, HT2, H3, HS0, HS1⟩
      isplitl [HS0 HS1 HT0 HT1 HT2 Hr]
      · isplitl [HS0 HS1]
        · iexists _; iexists _
          isplitr; swap
          · isplitl [HS0]; · iexact HS0
            iexact HS1
          · ipureintro; intro p hp _; rw [only p hp]; exact ⟨rfl, rfl⟩
        isplitl [HT0]; · iexact HT0
        isplitl [HT1]; · iexact HT1
        isplitl [HT2]; · iexact HT2
        iexact Hr
      isplitl [Ho]; · iexact Ho
      isplitl [H0]; · iexact H0
      isplitl [H1]; · iexact H1
      isplitl [H2]; · iexact H2
      rw [eo]; iexact H3
    · -- the block before has the same expert and the same column block: the scratch buffers hold its weights
      have hk : s0 = k0_pay1 (gB a V c t) ∧ s1 = k0_pay2 (uB a V c t) := by
        rw [fresh_iff, wNa_eq] at h1
        have hne : (crd a t 1).val ≠ 0 := fun h => h1 ⟨hu, Or.inl h⟩
        have hbe : wBe (crd a t) (a.1 0) = wPrev (crd a t) (a.1 0) := by_contra fun h => h1 ⟨hu, Or.inr h⟩
        rw [wBe_eq, wPrev_eq] at hbe
        obtain ⟨v0, v1⟩ := crd_val t
        have ht : t.val < 504 := lt_of_lt_of_eq t.isLt N_0
        let p : Fin (cfgA a).N := ⟨t.val - 1, by have := t.isLt; omega⟩
        obtain ⟨w0, w1⟩ := crd_val p
        have hp : p.val = t.val - 1 := rfl
        have e1 : (crd a p 1).val = (crd a t 1).val - 1 := by
          have v1' : (crd a t 1).val = t.val % 72 := v1
          have w1' : (crd a p 1).val = p.val % 72 := w1
          omega
        have e0 : (crd a t 0).val = (crd a p 0).val := by
          have v1' : (crd a t 1).val = t.val % 72 := v1
          have v0' : (crd a t 0).val = t.val / 72 := v0
          have w0' : (crd a p 0).val = p.val / 72 := w0
          omega
        have hup : InUse (naOf a.1) (crd a p 1).val := by
          rw [e1]; exact Words.inUse_pred _ _ (lt_trans (show (crd a t 1).val < 72 from (crd a t 1).isLt) (by decide)) hu
        have l72 : (crd a t 1).val < 72 := (crd a t 1).isLt
        have hb : bwOf a.1 (crd a t 1).val (crd a t 1).isLt = bwOf a.1 (crd a p 1).val (crd a p 1).isLt := by
          rw [hag _ (crd a t 1).isLt hu, hag _ (crd a p 1).isLt hup, hbe]
          exact congrArg (fun n : Fin 72 => beOf a.1 n.val n.isLt) (Fin.ext e1.symm : (⟨(crd a t 1).val - 1, lt_of_le_of_lt (Nat.sub_le _ _) l72⟩ : Fin 72) = ⟨(crd a p 1).val, (crd a p 1).isLt⟩)
        have ht0 : t.val ≠ 0 := fun h => hne (by
          have v1' : (crd a t 1).val = t.val % 72 := v1
          omega)
        obtain ⟨q0, q1⟩ := hs p (by omega) hup
        exact ⟨by rw [q0, gB_congr a V c t p e0 hb], by rw [q1, uB_congr a V c t p e0 hb]⟩
      obtain ⟨rfl, rfl⟩ := hk
      iapply (body_kept c (crd a t) (ms0 a t) (hs0 a t) (ms1 a t) (hs1 a t) (ms2 a t) (hs2 a t) (ms3 a t) (hs3 a t)
        (a.1 0) (a.1 1) (a.1 2) (xB a V c t) (gB a V c t) (uB a V c t) _ _ h1 h2 h3 _)
      isplitl [H0]; · iexact H0
      isplitl [H1]; · iexact H1
      isplitl [H2]; · iexact H2
      isplitl [HT0]; · iexact HT0
      isplitl [HT1]; · iexact HT1
      isplitl [HT2]; · iexact HT2
      isplitl [H3]; · iexists _; iexact H3
      isplitl [HS0]; · iexact HS0
      isplitl [HS1]; · iexact HS1
      iintro ⟨H0, H1, H2, HT0, HT1, HT2, H3, HS0, HS1⟩
      isplitl [HS0 HS1 HT0 HT1 HT2 Hr]
      · isplitl [HS0 HS1]
        · iexists _; iexists _
          isplitr; swap
          · isplitl [HS0]; · iexact HS0
            iexact HS1
          · ipureintro; intro p hp _; rw [only p hp]; exact ⟨rfl, rfl⟩
        isplitl [HT0]; · iexact HT0
        isplitl [HT1]; · iexact HT1
        isplitl [HT2]; · iexact HT2
        iexact Hr
      isplitl [Ho]; · iexact Ho
      isplitl [H0]; · iexact H0
      isplitl [H1]; · iexact H1
      isplitl [H2]; · iexact H2
      rw [eo]; iexact H3
  · have h1 : ¬ fresh (crd a t) (wNa (a.1 1)) (wBe (crd a t) (a.1 0)) (wPrev (crd a t) (a.1 0)) = 1#1 := fun h => by
      rw [fresh_iff, wNa_eq] at h; exact hu h.1
    have h2 : ¬ k0_cond2 (crd a t) (wNa (a.1 1)) = 1#1 := fun h => hu (by rw [← wNa_eq]; exact (cond2_iff _ _).1 h)
    have h3 : k0_cond3 (crd a t) (wNa (a.1 1)) = 1#1 := (cond3_iff _ _).2 (by rw [wNa_eq]; exact hu)
    have eo : outB a V c t = k0_pay4 := if_neg hu
    iapply (body_past c (crd a t) (ms0 a t) (hs0 a t) (ms1 a t) (hs1 a t) (ms2 a t) (hs2 a t) (ms3 a t) (hs3 a t)
      (a.1 0) (a.1 1) (a.1 2) (xB a V c t) (gB a V c t) (uB a V c t) s0 s1 h1 h2 h3 _)
    isplitl [H0]; · iexact H0
    isplitl [H1]; · iexact H1
    isplitl [H2]; · iexact H2
    isplitl [HT0]; · iexact HT0
    isplitl [HT1]; · iexact HT1
    isplitl [HT2]; · iexact HT2
    isplitl [H3]; · iexists _; iexact H3
    isplitl [HS0]; · iexact HS0
    isplitl [HS1]; · iexact HS1
    iintro ⟨H0, H1, H2, HT0, HT1, HT2, H3, HS0, HS1⟩
    isplitl [HS0 HS1 HT0 HT1 HT2 Hr]
    · isplitl [HS0 HS1]
      · iexists _; iexists _
        isplitr; swap
        · isplitl [HS0]; · iexact HS0
          iexact HS1
        · ipureintro; intro p hp hi; rw [only p hp] at hi; exact absurd hi hu
      isplitl [HT0]; · iexact HT0
      isplitl [HT1]; · iexact HT1
      isplitl [HT2]; · iexact HT2
      iexact Hr
    isplitl [Ho]; · iexact Ho
    isplitl [H0]; · iexact H0
    isplitl [H1]; · iexact H1
    isplitl [H2]; · iexact H2
    rw [eo]; iexact H3

/-- The obligation at every point. -/
theorem body_obligation (hag : Agree a) (c : Dev nD) : BodyObligation (dats a V 0 c) (defs₀ (F := F)) Variants.none () Set.univ := fun t => by
  rw [bigSep_W0]
  exact sound_body a V hag c t

/-! ## The launch -/

theorem share_eq (c : Dev nD) (w : Fin (cfgA a).W) : (dats a V 0 c).share w = fullShare := by unfold Dat.share; split <;> rfl

/-- The tables as the launch hands them to the region, one by one. -/
theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((tb0.view.loc (c : Thread nD τ) ↦{q 0} v 0) ∗ (tb1.view.loc (c : Thread nD τ) ↦{q 1} v 1) ∗ (tb2.view.loc (c : Thread nD τ) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- To hold a scratch buffer is to hold its whole buffer. -/
theorem sc0_eq (c : Dev nD) (f : Buf (Elt F) ((c : Thread nD τ).loc cc0_scratch0)) :
    (owns (c : Thread nD τ) sc0 fullShare f : sProp 𝕄) = (((c : Thread nD τ).loc cc0_scratch0) ↦{fullShare} f) :=
  owns_whole (c : Thread nD τ) cc0_scratch0 fullShare f
theorem sc1_eq (c : Dev nD) (f : Buf (Elt F) ((c : Thread nD τ).loc cc0_scratch1)) :
    (owns (c : Thread nD τ) sc1 fullShare f : sProp 𝕄) = (((c : Thread nD τ).loc cc0_scratch1) ↦{fullShare} f) :=
  owns_whole (c : Thread nD τ) cc0_scratch1 fullShare f

/-- The invariant at the first point, from the scratch buffers and the tables; -/
theorem phi_first (c : Dev nD) : iprop(Pipeline.ΦA spec0 c ∗ Pipeline.ΦT pre0 a.1 c) ⊢ (dats a V 0 c).Φ 0 := by
  unfold Pipeline.ΦA Pipeline.ΦT
  rw [prefHeld_eq, scopedRest0_eq, show (dats a V 0 c).Φ 0 = Phi a V c 0 from rfl]
  unfold Phi
  iintro ⟨⟨⟨⟨%f0, HS0⟩, ⟨%f1, HS1⟩⟩, Hr⟩, HT0, HT1, HT2⟩
  isplitl [HS0 HS1]
  · iexists f0; iexists f1
    isplitr
    · ipureintro; intro p hp; exact absurd hp (Nat.succ_ne_zero _)
    isplitl [HS0]
    · rw [sc0_eq]; iexact HS0
    · rw [sc1_eq]; iexact HS1
  isplitl [HT0]; · iexact HT0
  isplitl [HT1]; · iexact HT1
  isplitl [HT2]; · iexact HT2
  iexact Hr

/-- and after the last point it gives the scratch buffers back. -/
theorem phi_last (c : Dev nD) : (dats a V 0 c).Φ (Fin.last (cfgA a).N) ⊢ Pipeline.ΦA spec0 c := by
  unfold Pipeline.ΦA
  rw [scopedRest0_eq, show (dats a V 0 c).Φ (Fin.last (cfgA a).N) = Phi a V c (Fin.last _) from rfl]
  unfold Phi
  iintro ⟨⟨%s0, %s1, -, HS0, HS1⟩, -, -, -, Hr⟩
  isplitr [Hr]
  · isplitl [HS0]
    · iexists s0; rw [← sc0_eq]; iexact HS0
    · iexists s1; rw [← sc1_eq]; iexact HS1
  iexact Hr

end Points

/-! ## The run -/

section Run
variable (m : (ℓ : Loc nD τ sig) → Buf (Elt F) ℓ) (g : Dev nD → PrngReg)

/-- The arrays as the region finds them: after the host's operations. -/
abbrev Ve (c : Dev nD) (b : Ref sig .tc) : Buf (Elt F) ((c : Thread nD τ).loc b) := StableHlo.after (hostOps0 (F := F)) (fun b => m (c, b)) b

theorem hostOps0_fresh : (hostOps0 (F := F)).Forall fun op => op.fresh = ∅ := by
  unfold hostOps0; repeat' first | exact trivial | refine ⟨rfl, ?_⟩ | rfl

set_option backward.isDefEq.respectTransparency.types false in
/-- Every execution ends with the arrays the pipeline's data say and every semaphore at zero. -/
theorem run (a : (pcfg0 (F := F)).Adm) (hag : Agree a) (htab : ∀ (c : Dev nD) k, Ve m c (pre0.ref k) = a.1 k) :
    θ_run (defs (F := F)) (onTc (τ := τ) (main (F := F))) ⟨m, fun _ => 0, g⟩
      (fun r => Pipeline.FramePost (Pipeline.pin pcfgs fun _ => a) (dats a (Ve m)) 0 (Ve m) r ∧ r.2.sem = fun _ => 0) :=
  Pipeline.θ_run_frameP_track pcfgs (fun _ => a) (dats a (Ve m)) 0 (launch0 (F := F)) (defs₀ (F := F)) Variants.none m g main
    (hbody := fun c => (body_obligation a (Ve m) hag c).loose) (hshare := share_eq a (Ve m)) (howed := fun _ _ => rfl)
    (V := Ve m) (hmain := Pipeline.hmainP_prefix pcfgs 0 defs₀ Variants.none m main hostOps0 hostOps0_sub hostOps0_fresh main_chain)
    (hA := fun _ _ => rfl) (hpf := htab) (hin := phi_first a (Ve m)) (hout := phi_last a (Ve m))
    (Q' := fun r => Pipeline.FramePost (Pipeline.pin pcfgs fun _ => a) (dats a (Ve m)) 0 (Ve m) r ∧ r.2.sem = fun _ => 0) (hQ' := fun _ h => h)

end Run

end Cert.KernelIdeal.Up

end
-- ==== Proof.UpHost.lean ====
/- The table that the host computes for the weights' index maps: block `n` reads the weights of the expert of block
   `min n (n_active - 1)`. -/
module

public import proofs.«01_k».proof.Proof.UpRun
public import proofs.«01_k».proof.Proof.Tables
public import Idealize.ShloMosaic.Lib.StableHlo.ReadAt

@[expose] public section

set_option maxRecDepth 16384

noncomputable section

namespace Cert.KernelIdeal.Up

open Cert.KernelIdeal Cert.KernelIdeal.Gen
open Idealize.ShloMosaic Idealize.ShloMosaic.TcCoe Idealize.SL.Sem
open Cert.Words (InUse)

variable {F : FTy → Type} [FloatOps F]
variable (m : (ℓ : Loc nD τ sig) → Buf (Elt F) ℓ)

/-- The arguments' tables on core `c`. -/
abbrev beA (c : Dev nD) : S72.Idx → BitVec 32 := m ((c : Thread nD τ).loc main_arg1)
abbrev naA (c : Dev nD) : S1.Idx → BitVec 32 := m ((c : Thread nD τ).loc main_arg2)

theorem Ve_be (c : Dev nD) : Ve m c main_arg1 = beA m c := by
  unfold Ve; unfold_abbrev_sides; after_results
theorem Ve_na (c : Dev nD) : Ve m c main_arg2 = naA m c := by
  unfold Ve; unfold_abbrev_sides; after_results

set_option backward.isDefEq.respectTransparency.types false in
/-- Block `n` reads the weights of some block's expert: of its own, where it is in use. -/
theorem Ve_bw (c : Dev nD) (n : ℕ) (hn : n < 72) : ∃ (k : ℕ) (hk : k < 72),
    (Ve m c main_v11 : S72.Idx → BitVec 32) (ixB n hn) = beA m c (ixB k hk) ∧ (InUse (naA m c ix1) n → k = n) := by
  refine ⟨min (Words.posW 72#32 n (naA m c ix1)).toInt.toNat (72 - 1), by omega, ?_, Words.posW_inUse _ _ n (by decide) hn _⟩
  unfold Ve
  after_reads_simp
  have e : ixB n hn = Shape.Idx.ofFin (⟨n, hn⟩ : Fin 72) := by
    funext b; fin_cases b; rfl
  rw [e]
  refine (StableHlo.Predicate.gather_take gather_S72_S72x1_S72_n_0_n_n_0_1_1 rfl rfl rfl rfl _ _ (⟨n, hn⟩ : Fin 72) (by decide)).trans ?_
  refine congrArg (beA m c) (funext fun b => Fin.ext ?_)
  fin_cases b
  refine congrArg (fun w : BitVec 32 => min w.toInt.toNat (72 - 1)) ?_
  unfold Words.posW
  clean_types
  pointwise
  rw [show (Idealize.ShloMosaic.ix1 0 : S1.Idx) = ix1 from funext fun b => Fin.ext (by fin_cases b; rfl)]

/-! ## The tables are admitted -/

theorem na_at (pf : pre0.Contents (Elt F)) : pf.at 1 (Rect.unit (s := S1) ![0] S1.size inb_S1_S1_0) numel1_S1 = naOf pf :=
  congrArg (pf 1 : S1.Idx → Elt F .i32) (funext fun b => Fin.ext (by fin_cases b; rfl))

/-- The weights' index map at any tables. -/
theorem transform1_eq (pf : pre0.Contents (Elt F)) (i : grid0.Coords) :
    cc0_transform_1 k0_off1_inb numel1_S1 pf i = ![(bwOf pf (i 1).val (i 1).isLt).toNat, 0, (i 0).val] := by
  funext b; fin_cases b
  · exact congrArg BitVec.toNat (bw_at pf i)
  · rfl
  · exact coord0 i

/-- The rows' index map at any tables. -/
theorem transform0_eq (pf : pre0.Contents (Elt F)) (i : grid0.Coords) : cc0_transform_0 inb_S1_S1_0 numel1_S1 pf i
    = ![(Scalar.minsi (BitVec.ofNat 32 (i 1).val) (Scalar.subi (naOf pf) 1#32)).toNat, 0] := by
  exact congrArg (fun w : BitVec 32 => (![(Scalar.minsi (BitVec.ofNat 32 (i 1).val) (Scalar.subi w 1#32)).toNat, 0] : Fin 2 → ℕ)) (na_at pf)

theorem weights_in (n f : ℕ) (hn : n < 16) (hf : f < 7) : ∀ b, ((![n, 0, f] : Fin 3 → ℕ) b + 1) * S1x2048x1024.size b ≤ S16x2048x7168.size b
  | ⟨0, _⟩ => by show (n + 1) * 1 ≤ 16; omega
  | ⟨1, _⟩ => by show (0 + 1) * 2048 ≤ 2048; omega
  | ⟨2, _⟩ => by show (f + 1) * 1024 ≤ 7168; omega

theorem rows_in (n : ℕ) (hn : n < 72) : ∀ b, ((![n, 0] : Fin 2 → ℕ) b + 1) * S512x2048.size b ≤ S36864x2048.size b
  | ⟨0, _⟩ => by show (n + 1) * 512 ≤ 36864; omega
  | ⟨1, _⟩ => by show (0 + 1) * 2048 ≤ 2048; omega

/-- A row block starts and ends at whole words. -/
theorem rows_whole : ∀ (n : Fin 72) (h : ∀ b, ((![n.val, 0] : Fin 2 → ℕ) b + 1) * S512x2048.size b ≤ S36864x2048.size b),
    (Rect.block (s := S36864x2048) S512x2048.size ![n.val, 0] h).WholeWords (EltTy.packing .bf16) := by decide +kernel

/-- Every block that the index maps name is inside its array, where the weights' indices are below 16 and a block
    is in use. -/
theorem ok_of (pf : pre0.Contents (Elt F)) (hb : ∀ n (hn : n < 72), (bwOf pf n hn).toNat < 16) (hv : 1 ≤ (naOf pf).toInt) : ok0 pf := by
  refine ⟨fun i => ?_, fun i => ⟨?_, Or.inl rfl⟩, fun i => ⟨?_, Or.inl rfl⟩⟩
  · have hl := Words.minsi_lt (naOf pf) hv 72 (i 1).val (by decide) (i 1).isLt
    rw [transform0_eq]
    generalize (Scalar.minsi (BitVec.ofNat 32 (i 1).val) (Scalar.subi (naOf pf) 1#32)).toNat = n at hl
    exact ⟨rows_in n hl, Or.inr (rows_whole ⟨n, hl⟩ (rows_in n hl))⟩
  · rw [transform1_eq]; exact weights_in _ _ (hb _ _) (i 0).isLt
  · rw [show cc0_transform_2 k0_off1_inb numel1_S1 pf i = cc0_transform_1 k0_off1_inb numel1_S1 pf i from rfl, transform1_eq]
    exact weights_in _ _ (hb _ _) (i 0).isLt

/-- The tables' contents as the region finds them on the one core. -/
def tabs : pre0.Contents (Elt F) := fun k => Ve m (0 : Dev nD) (pre0.ref k)

theorem tabs_na : naOf (tabs m) = naA m 0 ix1 := congrFun (Ve_na m 0) ix1
theorem tabs_be (n : ℕ) (hn : n < 72) : beOf (tabs m) n hn = beA m 0 (ixB n hn) := congrFun (Ve_be m 0) (ixB n hn)

section Admitted
variable (hbe : ∀ j, (beA m 0 j).toNat < 16) (hna : ∀ j, 1 ≤ (naA m 0 j).toInt)

theorem bw_lt (hbe : ∀ j, (beA m 0 j).toNat < 16) (n : ℕ) (hn : n < 72) : (bwOf (tabs m) n hn).toNat < 16 := by
  obtain ⟨k, hk, e, _⟩ := Ve_bw m 0 n hn
  rw [show bwOf (tabs m) n hn = _ from e]
  exact hbe _

include hbe hna in
theorem ok : ok0 (tabs m) := ok_of _ (bw_lt m hbe) (by rw [tabs_na]; exact hna _)

/-- The tables with that. -/
def adm : (pcfg0 (F := F)).Adm := ⟨tabs m, ok m hbe hna⟩

theorem agree : Agree (adm m hbe hna) := fun n hn hu => by
  obtain ⟨k, hk, e, h⟩ := Ve_bw m 0 n hn
  have hu' : InUse (naA m 0 ix1) n := by rw [← tabs_na]; exact hu
  obtain rfl := h hu'
  exact e.trans (tabs_be m k hn).symm

theorem tabs_at (c : Dev nD) (k : Fin 3) : Ve m c (pre0.ref k) = (adm m hbe hna).1 k := by
  obtain rfl : c = 0 := Subsingleton.elim _ _
  rfl

theorem Ve_arg0 (c : Dev nD) : Ve m c main_arg0 = m ((c : Thread nD τ).loc main_arg0) := by
  unfold Ve; unfold_abbrev_sides; after_results
theorem Ve_arg3 (c : Dev nD) : Ve m c main_arg3 = m ((c : Thread nD τ).loc main_arg3) := by
  unfold Ve; unfold_abbrev_sides; after_results
theorem Ve_arg4 (c : Dev nD) : Ve m c main_arg4 = m ((c : Thread nD τ).loc main_arg4) := by
  unfold Ve; unfold_abbrev_sides; after_results

theorem arr_ne_arg1 : ∀ w : Fin 4, (spec0 w).arr.view.ref ≠ main_arg1 := by decide
theorem arr_ne_arg2 : ∀ w : Fin 4, (spec0 w).arr.view.ref ≠ main_arg2 := by decide

variable (g : Dev nD → PrngReg)

/-- Every execution ends with the output array the pipeline's data say, the arguments unchanged and every semaphore at
    zero. -/
theorem run_out : θ_run (defs (F := F)) (onTc (τ := τ) (main (F := F))) ⟨m, fun _ => 0, g⟩ (fun r =>
    (∀ c : Dev nD, r.2.mem ((c : Thread nD τ).loc main_v12) = (dats (adm m hbe hna) (Ve m) 0 c).arrAt (3 : Fin 4) grid0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨h.1.out_eq c (3 : Fin 4), (h.1.in_eq c (0 : Fin 4) rfl).trans (Ve_arg0 m c),
      (h.1.rest_eq c main_arg1 (Pipeline.mem_restRefs_of main_arg1 rfl arr_ne_arg1)).trans (Ve_be m c), (h.1.rest_eq c main_arg2 (Pipeline.mem_restRefs_of main_arg2 rfl arr_ne_arg2)).trans (Ve_na m c),
      (h.1.in_eq c (1 : Fin 4) rfl).trans (Ve_arg3 m c), (h.1.in_eq c (2 : Fin 4) rfl).trans (Ve_arg4 m c)⟩, h.2⟩)
    (run m g (adm m hbe hna) (agree m hbe hna) (tabs_at m hbe hna))

end Admitted

end Cert.KernelIdeal.Up

end
-- ==== Proof.UpPay.lean ====
/- What one block of the output holds, element by element, from the blocks of the rows and of the weights. -/
module

public import proofs.«01_k».proof.Proof.Gen.KernelIdeal.Skeleton
public import Idealize.ShloMosaic.Lib.Pipeline.ValueKit

@[expose] public section

set_option maxRecDepth 16384

noncomputable section

namespace Cert.KernelIdeal.Up

open Cert.KernelIdeal Cert.KernelIdeal.Gen
open Idealize.ShloMosaic Idealize.ShloMosaic.TcCoe

/-- A block in use holds the gated product of its rows and its columns. -/
theorem pay_used (x : S512x2048.Idx → EReal) (wg wu : S1x2048x1024.Idx → EReal) (y : S512x1024.Idx) :
    k0_pay3 (F := Ideal) x (k0_pay1 (F := Ideal) wg) (k0_pay2 (F := Ideal) wu) y
      = (∑ k : Fin 2048, x (ix2 (y 0) k) * wg (ix3 0 k (y 1)))
        * Ideal.logistic (∑ k : Fin 2048, x (ix2 (y 0) k) * wg (ix3 0 k (y 1)))
        * ∑ k : Fin 2048, x (ix2 (y 0) k) * wu (ix3 0 k (y 1)) := by
  unfold k0_pay3 k0_pay1 k0_pay2
  pointwise

/-- A block past the ones in use holds zero. -/
theorem pay_unused (y : S512x1024.Idx) : k0_pay4 (F := Ideal) y = 0 := by
  unfold k0_pay4
  pointwise

end Cert.KernelIdeal.Up

end
-- ==== Proof.UpSpec.lean ====
/- The projections of the channel mixer as mathematics on the extended reals: the value of one element of the output,
   from the rows, the index of the row's weights and the weight arrays. -/
module

public import Idealize.ShloMosaic.Lib.Pointwise.Index
public import Idealize.ShloMosaic.PureOps.Ideal.Laws

@[expose] public section

noncomputable section

namespace Cert.UpSpec

open Idealize.ShloMosaic

/-- Row `r` of the rows times column `q` of the weights of index `e` in the stack. -/
def proj {R K E C : ℕ} (x : (⟨2, ![R, K]⟩ : Shape).Idx → EReal) (w : (⟨3, ![E, K, C]⟩ : Shape).Idx → EReal)
    (e : Fin E) (r : Fin R) (q : Fin C) : EReal := ∑ k : Fin K, x (ix2 r k) * w (ix3 e k q)

/-- The gated value of row `r`, column `q` at the weights of index `e`: `z · logistic z` of the gate's product, times
    the other product. -/
def cell {R K E C : ℕ} (x : (⟨2, ![R, K]⟩ : Shape).Idx → EReal) (wg wu : (⟨3, ![E, K, C]⟩ : Shape).Idx → EReal)
    (e : Fin E) (r : Fin R) (q : Fin C) : EReal :=
  proj x wg e r q * Ideal.logistic (proj x wg e r q) * proj x wu e r q

/-- Row `r`, column `q` of the residual `v` plus the product. -/
def resid {R K E C : ℕ} (x : (⟨2, ![R, K]⟩ : Shape).Idx → EReal) (w : (⟨3, ![E, K, C]⟩ : Shape).Idx → EReal)
    (v : (⟨2, ![R, C]⟩ : Shape).Idx → EReal) (e : Fin E) (r : Fin R) (q : Fin C) : EReal := v (ix2 r q) + proj x w e r q

/-- The output: row `r` belongs to block `r / 512`, which the table `be` gives its expert; a block past the number in
    use holds zero. -/
def out (x : (⟨2, ![36864, 2048]⟩ : Shape).Idx → EReal) (be : Fin 72 → BitVec 32) (na : BitVec 32)
    (wg wu : (⟨3, ![16, 2048, 7168]⟩ : Shape).Idx → EReal) (r : Fin 36864) (q : Fin 7168) : EReal :=
  if (BitVec.ofNat 32 (r.val / 512)).slt na = true then
    cell x wg wu ⟨(be ⟨r.val / 512, by have := r.isLt; omega⟩).toNat % 16, Nat.mod_lt _ (by decide)⟩ r q
  else 0

theorem out_congr {x x' : (⟨2, ![36864, 2048]⟩ : Shape).Idx → EReal} {be be' : Fin 72 → BitVec 32} {na na' : BitVec 32}
    {wg wg' wu wu' : (⟨3, ![16, 2048, 7168]⟩ : Shape).Idx → EReal} (hx : x = x') (hb : be = be') (hn : na = na') (hg : wg = wg')
    (hu : wu = wu') (r : Fin 36864) (q : Fin 7168) : out x be na wg wu r q = out x' be' na' wg' wu' r q := by
  rw [hx, hb, hn, hg, hu]

/-- The down projection's output: row `r` times its expert's weights; a block past the number in use holds zero. -/
def downOut (x : (⟨2, ![36864, 7168]⟩ : Shape).Idx → EReal) (be : Fin 72 → BitVec 32) (na : BitVec 32)
    (w : (⟨3, ![16, 7168, 2048]⟩ : Shape).Idx → EReal) (r : Fin 36864) (q : Fin 2048) : EReal :=
  if (BitVec.ofNat 32 (r.val / 512)).slt na = true then
    proj x w ⟨(be ⟨r.val / 512, by have := r.isLt; omega⟩).toNat % 16, Nat.mod_lt _ (by decide)⟩ r q
  else 0

theorem downOut_congr {x x' : (⟨2, ![36864, 7168]⟩ : Shape).Idx → EReal} {be be' : Fin 72 → BitVec 32} {na na' : BitVec 32}
    {w w' : (⟨3, ![16, 7168, 2048]⟩ : Shape).Idx → EReal} (hx : x = x') (hb : be = be') (hn : na = na') (hw : w = w')
    (r : Fin 36864) (q : Fin 2048) : downOut x be na w r q = downOut x' be' na' w' r q := by
  rw [hx, hb, hn, hw]

end Cert.UpSpec

end
-- ==== Proof.UpOut.lean ====
/- The output array after the run: every element is the mathematics' value of the arguments. -/
module

public import proofs.«01_k».proof.Proof.UpHost
public import proofs.«01_k».proof.Proof.UpPay
public import proofs.«01_k».proof.Proof.UpSpec
public import Idealize.ShloMosaic.Lib.Pipeline.Covers

@[expose] public section

set_option maxRecDepth 16384

noncomputable section

namespace Cert.KernelIdeal.Up

open Cert.KernelIdeal Cert.KernelIdeal.Gen
open Idealize.ShloMosaic Idealize.ShloMosaic.TcCoe Idealize.SL.Sem
open Cert.Words (InUse)

section
variable (a : (pcfg0 (F := Ideal)).Adm)

theorem index0 (t : Fin (cfgA a).N) (h : InUse (naOf a.1) (crd a t 1).val) :
    ((cfgA a).win (0 : Fin 4)).index t = ![(crd a t 1).val, 0] := by
  rw [show ((cfgA a).win (0 : Fin 4)).index t = cc0_transform_0 inb_S1_S1_0 numel1_S1 a.1 (grid0.coords t) from rfl,
    transform0_eq, Words.minsi_inUse _ _ (lt_trans (show (crd a t 1).val < 72 from (crd a t 1).isLt) (by decide)) h]

theorem coord1 (i : grid0.Coords) : (BitVec.ofNat 32 (i 1).val).toNat = (i 1).val :=
  (by decide +kernel : ∀ n : Fin 72, (BitVec.ofNat 32 n.val).toNat = n.val) (i 1)

theorem transform3_eq (i : grid0.Coords) : cc0_transform_3 i = ![(i 1).val, (i 0).val] := by
  funext b; fin_cases b
  · exact coord1 i
  · exact coord0 i

theorem index3 (t : Fin (cfgA a).N) : ((cfgA a).win (3 : Fin 4)).index t = ![(crd a t 1).val, (crd a t 0).val] :=
  transform3_eq (grid0.coords t)

theorem size3_pos : ∀ b, 0 < ((cfgA a).win (3 : Fin 4)).size b
  | ⟨0, _⟩ => by show 0 < 512; decide
  | ⟨1, _⟩ => by show 0 < 1024; decide

theorem nblk3_0 : ((cfgA a).win (3 : Fin 4)).nblk (0 : Fin 2) = 72 := by
  show (36864 + 512 - 1) / 512 = 72; decide
theorem nblk3_1 : ((cfgA a).win (3 : Fin 4)).nblk (1 : Fin 2) = 7 := by
  show (7168 + 1024 - 1) / 1024 = 7; decide

/-- The point of row block `n` and column block `f`. -/
abbrev crdOf (n : Fin 72) (f : Fin 7) : grid0.Coords := fun | ⟨0, _⟩ => f | ⟨1, _⟩ => n

theorem map3 (n : Fin 72) (f : Fin 7) : ∀ b : Fin 2, ((cfgA a).win (3 : Fin 4)).indexMap (crdOf n f) b = (![n.val, f.val] : Fin 2 → ℕ) b :=
  fun b => congrFun (transform3_eq (crdOf n f)) b

/-- The blocks of the output tile its array. -/
theorem covers3 : ((cfgA a).win (3 : Fin 4)).Covers :=
  ((cfgA a).win (3 : Fin 4)).covers_of_indexMap_surj rfl (size3_pos a) fun β =>
    ⟨crdOf ⟨(β (0 : Fin 2)).val, lt_of_lt_of_eq (β (0 : Fin 2)).isLt (nblk3_0 a)⟩ ⟨(β (1 : Fin 2)).val, lt_of_lt_of_eq (β (1 : Fin 2)).isLt (nblk3_1 a)⟩,
      fun b => (map3 a _ _ b).trans (match b with | ⟨0, _⟩ => rfl | ⟨1, _⟩ => rfl)⟩

variable (V : (c : Dev nD) → (b : Ref sig .tc) → Buf (Elt Ideal) ((c : Thread nD τ).loc b))

/-- The output array's element from the tables and the arrays as the region finds them. -/
def G (c : Dev nD) : S36864x7168.Idx → EReal := fun i =>
  UpSpec.out (V c main_arg0) (fun n => beOf a.1 n.val n.isLt) (naOf a.1) (V c main_arg3) (V c main_arg4) (i 0) (i 1)

theorem weight_of (hag : Agree a) (hb : ∀ n (hn : n < 72), (bwOf a.1 n hn).toNat < 16) {n : ℕ} (hu : InUse (naOf a.1) n) (hn : n < 72) :
    (bwOf a.1 n hn).toNat + 0 = (beOf a.1 n hn).toNat % 16 := by
  rw [← hag n hn hu, Nat.mod_eq_of_lt (hb n hn), Nat.add_zero]

set_option maxHeartbeats 1000000 in
/-- The output array after the run: a block in use holds the product of its rows with its expert's weights, another
    holds zero. -/
theorem arr_eq (hag : Agree a) (hb : ∀ n (hn : n < 72), (bwOf a.1 n hn).toNat < 16) (c : Dev nD) :
    (dats a V 0 c).arrAt (3 : Fin 4) grid0.N = G a V c := by
  refine (dats a V 0 c).arrAt_eq_of_covers (3 : Fin 4) _ (covers3 a) fun t hf y => ?_
  blk_simp
  rw [after3]
  unfold outB G UpSpec.out
  have hn := (crd a t 1).isLt
  have e0 : ((((cfgA a).win (3 : Fin 4)).blk t).view.emb y 0).val = (crd a t 1).val * 512 + (y (0 : Fin 2)).val := by
    blk_simp [index3 a t]
  have e1 : ((((cfgA a).win (3 : Fin 4)).blk t).view.emb y 1).val = (crd a t 0).val * 1024 + (y (1 : Fin 2)).val := by
    blk_simp [index3 a t]
  have hy0 : (y (0 : Fin 2)).val < 512 := (y (0 : Fin 2)).isLt
  have hy1 : (y (1 : Fin 2)).val < 1024 := (y (1 : Fin 2)).isLt
  generalize (((cfgA a).win (3 : Fin 4)).blk t).view.emb y = i at e0 e1 ⊢
  have ed : (i 0).val / 512 = (crd a t 1).val := by rw [e0]; omega
  simp only [ed]
  by_cases hu : InUse (naOf a.1) (crd a t 1).val
  · rw [if_pos hu, if_pos hu, pay_used]
    have hx : ∀ k : Fin 2048, xB a V c t (ix2 (y (0 : Fin 2)) k) = (V c main_arg0 : S36864x2048.Idx → EReal) (ix2 (i 0) k) := fun k => by
      unfold xB
      blk_simp [iblk]
      blk_ext [index0 a t hu]
    have hg : ∀ k : Fin 2048, gB a V c t (ix3 0 k (y (1 : Fin 2))) = (V c main_arg3 : S16x2048x7168.Idx → EReal)
        (ix3 ⟨(beOf a.1 (crd a t 1).val hn).toNat % 16, Nat.mod_lt _ (by decide)⟩ k (i 1)) := fun k => by
      unfold gB
      blk_simp [iblk]
      blk_ext [index1 a t]
      exact weight_of a hag hb hu hn
    have hw : ∀ k : Fin 2048, uB a V c t (ix3 0 k (y (1 : Fin 2))) = (V c main_arg4 : S16x2048x7168.Idx → EReal)
        (ix3 ⟨(beOf a.1 (crd a t 1).val hn).toNat % 16, Nat.mod_lt _ (by decide)⟩ k (i 1)) := fun k => by
      unfold uB
      blk_simp [iblk]
      blk_ext [index2 a t]
      exact weight_of a hag hb hu hn
    unfold UpSpec.cell UpSpec.proj
    simp only [hx, hg, hw]
  · rw [if_neg hu, if_neg hu, pay_unused]

end

variable (m : (ℓ : Loc nD τ sig) → Buf (Elt Ideal) ℓ)
variable (hbe : ∀ j, (beA m 0 j).toNat < 16) (hna : ∀ j, 1 ≤ (naA m 0 j).toInt)

/-- The output array as a function of the arguments. -/
def res (c : Dev nD) : S36864x7168.Idx → EReal := fun i =>
  UpSpec.out (m ((c : Thread nD τ).loc main_arg0)) (fun n => beA m c (ixB n.val n.isLt)) (naA m c ix1)
    (m ((c : Thread nD τ).loc main_arg3)) (m ((c : Thread nD τ).loc main_arg4)) (i 0) (i 1)

theorem G_eq (pf : (pcfg0 (F := Ideal)).Adm) (hp : pf.1 = tabs m) : G pf (Ve m) 0 = res m 0 := by
  obtain ⟨pf, hpf⟩ := pf
  subst hp
  funext i
  exact UpSpec.out_congr (Ve_arg0 m 0) (funext fun n => tabs_be m n.val n.isLt) (tabs_na m) (Ve_arg3 m 0) (Ve_arg4 m 0) (i 0) (i 1)

theorem out_eq (c : Dev nD) : (dats (adm m hbe hna) (Ve m) 0 c).arrAt (3 : Fin 4) grid0.N = res m c := by
  obtain rfl : c = 0 := Subsingleton.elim _ _
  exact (arr_eq _ _ (agree m hbe hna) (fun n hn => bw_lt m hbe n hn) 0).trans (G_eq m _ rfl)

end Cert.KernelIdeal.Up

end
-- ==== Proof.ExpertGather.lean ====
/- A table of indices picks one matrix after another out of a stack of matrices: what the gather behind
   `weights[expert]` reads. -/
module

public import Idealize.ShloMosaic.Lib.Pointwise.Index
public import Idealize.ShloMosaic.Lib.ValueIdx

@[expose] public section

namespace Cert.ExpertGather

open Idealize.ShloMosaic

/-- The dimension numbers of `stack[table]`: the table's entry picks along axis zero. -/
abbrev dims {E A B N : ℕ}
    (wf : GatherDims.WF (⟨3, ![E, A, B]⟩ : Shape) (⟨2, ![N, 1]⟩ : Shape) (⟨3, ![N, A, B]⟩ : Shape) [1, 2] [0] [] [0] [] 1 ![1, A, B]) :
    GatherDims (⟨3, ![E, A, B]⟩ : Shape) (⟨2, ![N, 1]⟩ : Shape) (⟨3, ![N, A, B]⟩ : Shape) where
  offsetDims := [1, 2]
  collapsedSliceDims := [0]
  operandBatchingDims := []
  startIndicesBatchingDims := []
  startIndexMap := [0]
  indexVectorDim := 1
  sliceSizes := ![1, A, B]
  wf := wf

/-- The stack has `E` matrices of `A × B`, the table `N` entries; entry `n` names matrix `e`, whose element `(k, q)` is
    the result's element `(n, k, q)`. -/
theorem stack_read {α : Type} {E A B N : ℕ}
    (wf : GatherDims.WF (⟨3, ![E, A, B]⟩ : Shape) (⟨2, ![N, 1]⟩ : Shape) (⟨3, ![N, A, B]⟩ : Shape) [1, 2] [0] [] [0] [] 1 ![1, A, B])
    (x : (⟨3, ![E, A, B]⟩ : Shape).Idx → α) (idx : IVec (⟨2, ![N, 1]⟩ : Shape) 32) (n : Fin N) (k : Fin A) (q : Fin B) (e : Fin E)
    (he : (idx (ix2 n (0 : Fin 1))).toInt.toNat = e.val) :
    Host.gather (dims wf) x idx (ix3 n k q) = x (ix3 e k q) := by
  unfold Host.gather
  refine congrArg x (funext fun a => Fin.ext ?_)
  have hE := e.isLt
  have kept : ∀ a : Fin 3, a ≠ 0 → a ∈ (dims wf).sKept := fun a ha =>
    ((dims wf).mem_sKept a).2 ⟨fun h => ha (List.mem_singleton.1 h), List.not_mem_nil⟩
  have start : ∀ a : Fin 3, a ≠ 0 → a ∉ (dims wf).startIndexMap := fun a ha h => ha (List.mem_singleton.1 h)
  match a with
  | ⟨0, _⟩ =>
    show (dims wf).start _ idx 0 + (dims wf).batchCoord _ 0 + (dims wf).offCoord _ 0 = e.val
    rw [(dims wf).batchCoord_eq_zero _ _ List.not_mem_nil,
      (dims wf).offCoord_eq_zero _ _ fun h => (((dims wf).mem_sKept 0).1 h).1 (List.mem_singleton.2 rfl)]
    unfold GatherDims.start
    rw [dif_pos (List.mem_singleton.2 rfl)]
    have hs : ∀ j, (dims wf).siIdx (ix3 n k q) j = ix2 n (0 : Fin 1) := fun j => by
      funext b
      match b with
      | ⟨0, _⟩ => exact Fin.ext rfl
      | ⟨1, _⟩ => exact Subsingleton.elim (α := Fin 1) _ _
    rw [hs, he]
    show min e.val (E - 1) + 0 + 0 = e.val
    omega
  | ⟨1, _⟩ =>
    show (dims wf).start _ idx 1 + (dims wf).batchCoord _ 1 + (dims wf).offCoord _ 1 = k.val
    rw [(dims wf).batchCoord_eq_zero _ _ List.not_mem_nil]
    unfold GatherDims.start GatherDims.offCoord
    rw [dif_neg (start 1 (by decide)), dif_pos (kept 1 (by decide))]
    exact Nat.zero_add _
  | ⟨2, _⟩ =>
    show (dims wf).start _ idx 2 + (dims wf).batchCoord _ 2 + (dims wf).offCoord _ 2 = q.val
    rw [(dims wf).batchCoord_eq_zero _ _ List.not_mem_nil]
    unfold GatherDims.start GatherDims.offCoord
    rw [dif_neg (start 2 (by decide)), dif_pos (kept 2 (by decide))]
    exact Nat.zero_add _

/-- An index of the table as the reference wraps it: a word below `2 ^ 31` is not negative, so it stays. -/
theorem wrap_eq (w : BitVec 32) (h : w.toNat < 16) : Scalar.select (IntOp.cmpi .slt w 0#32) (IntOp.addi w 16#32) w = w := by
  have : IntOp.cmpi .slt w 0#32 = 0#1 := by
    show BitVec.ofBool (w.slt 0#32) = 0#1
    have : w.slt 0#32 = false := by
      simp only [BitVec.slt, decide_eq_false_iff_not, BitVec.toInt_eq_msb_cond, BitVec.msb_eq_decide]
      simp
      omega
    rw [this]; rfl
  rw [this]; rfl

theorem toInt_toNat (w : BitVec 32) (h : w.toNat < 16) : w.toInt.toNat = w.toNat := by
  rw [BitVec.toInt_eq_toNat_cond, if_pos (by omega)]
  exact Int.toNat_natCast _

end Cert.ExpertGather
-- ==== Proof.UpRef.lean ====
/- What the reference computes: its array at an index is the mathematical output. -/
module

public import proofs.«01_k».proof.Proof.Gen.ReferenceIdeal.Read
public import proofs.«01_k».proof.Proof.ExpertGather
public import proofs.«01_k».proof.Proof.UpSpec
public import Idealize.ShloMosaic.Lib.IdealHost

@[expose] public section

noncomputable section

namespace Cert.ReferenceIdeal.Up

open Cert.ReferenceIdeal Cert.ReferenceIdeal.Gen Cert.ReferenceIdeal.Read Idealize.ShloMosaic

variable (x : (⟨S36864x2048, .bf16⟩ : BufTy).Contents (Elt Ideal)) (be : (⟨S72, .i32⟩ : BufTy).Contents (Elt Ideal))
variable (na : (⟨S1, .i32⟩ : BufTy).Contents (Elt Ideal)) (wg wu : (⟨S16x2048x7168, .f32⟩ : BufTy).Contents (Elt Ideal))

/-- Entry `n` of the table, as an index of the table's array. -/
def entry (n : Fin 72) : S72.Idx := fun | ⟨0, _⟩ => n

variable (hb : ∀ j, (be j).toNat < 16)

include hb in
/-- The index the first gather reads for block `n` is the table's own entry. -/
theorem v7_at (n : Fin 72) : val_main_v7 (F := Ideal) be (ix2 n (0 : Fin 1)) = be (entry n) := by
  rw [val_main_v7_apply, val_main_v6_apply, val_main_v3_apply, val_main_v5_apply, val_main_v2_apply, val_main_v4_apply,
    val_main_c_apply, val_main_c_0_apply, ExpertGather.wrap_eq _ (hb _)]
  exact congrArg be (funext fun | ⟨0, _⟩ => rfl)

include hb in
theorem v15_at (n : Fin 72) : val_main_v15 (F := Ideal) be (ix2 n (0 : Fin 1)) = be (entry n) := by
  rw [val_main_v15_apply, val_main_v14_apply, val_main_v11_apply, val_main_v13_apply, val_main_v10_apply, val_main_v12_apply,
    val_main_c_1_apply, val_main_c_2_apply, ExpertGather.wrap_eq _ (hb _)]
  exact congrArg be (funext fun | ⟨0, _⟩ => rfl)

/-- The expert of block `n`. -/
abbrev expert (n : Fin 72) : Fin 16 := ⟨(be (entry n)).toNat % 16, Nat.mod_lt _ (by decide)⟩

include hb in
theorem expert_of (n : Fin 72) : (be (entry n)).toInt.toNat = (expert be n).val := by
  rw [ExpertGather.toInt_toNat _ (hb _)]
  exact (Nat.mod_eq_of_lt (hb _)).symm

include hb in
/-- The gate weights of block `n` are those of its expert. -/
theorem v8_at (n : Fin 72) (k : Fin 2048) (q : Fin 7168) :
    val_main_v8 (F := Ideal) be wg (ix3 n k q) = wg (ix3 (expert be n) k q) :=
  ExpertGather.stack_read _ wg _ n k q _ ((congrArg (fun w : BitVec 32 => w.toInt.toNat) (v7_at be hb n)).trans (expert_of be hb n))

include hb in
/-- The other weights of block `n` are those of its expert. -/
theorem v16_at (n : Fin 72) (k : Fin 2048) (q : Fin 7168) :
    val_main_v16 (F := Ideal) be wu (ix3 n k q) = wu (ix3 (expert be n) k q) :=
  ExpertGather.stack_read _ wu _ n k q _ ((congrArg (fun w : BitVec 32 => w.toInt.toNat) (v15_at be hb n)).trans (expert_of be hb n))

/-- The rows in blocks: row `i` of block `n` is row `512 n + i`. -/
theorem v1_at (n : Fin 72) (i : Fin 512) (k : Fin 2048) (r : Fin 36864) (hr : r.val = n.val * 512 + i.val) :
    val_main_v1 (F := Ideal) x (ix3 n i k) = x (ix2 r k) := by
  rw [val_main_v1_apply, val_main_v0_apply]
  refine congrArg x (funext fun a => Fin.ext ?_)
  have hk := k.isLt
  match a with
  | ⟨0, _⟩ => show ((n.val * 512 + i.val) * 2048 + k.val) / 2048 = r.val; omega
  | ⟨1, _⟩ => show ((n.val * 512 + i.val) * 2048 + k.val) % 2048 = k.val; omega

include hb in
/-- The product with the gate weights. -/
theorem v9_at (n : Fin 72) (i : Fin 512) (q : Fin 7168) (r : Fin 36864) (hr : r.val = n.val * 512 + i.val) :
    val_main_v9 (F := Ideal) x be wg (ix3 n i q) = UpSpec.proj x wg (expert be n) r q := by
  rw [val_main_v9_apply]
  refine Finset.sum_congr rfl fun k _ => congrArg₂ (· * ·) ?_ ?_
  · have e : lidx_main_v9 (ix3 n i q) k = ix3 n i k := funext fun | ⟨0, _⟩ => rfl | ⟨1, _⟩ => rfl | ⟨2, _⟩ => rfl
    rw [e]
    exact v1_at x n i k r hr
  · have e : ridx_main_v9 (ix3 n i q) k = ix3 n k q := funext fun | ⟨0, _⟩ => rfl | ⟨1, _⟩ => rfl | ⟨2, _⟩ => rfl
    rw [e]
    exact v8_at be wg hb n k q

include hb in
/-- The product with the other weights. -/
theorem v17_at (n : Fin 72) (i : Fin 512) (q : Fin 7168) (r : Fin 36864) (hr : r.val = n.val * 512 + i.val) :
    val_main_v17 (F := Ideal) x be wu (ix3 n i q) = UpSpec.proj x wu (expert be n) r q := by
  rw [val_main_v17_apply]
  refine Finset.sum_congr rfl fun k _ => congrArg₂ (· * ·) ?_ ?_
  · have e : lidx_main_v17 (ix3 n i q) k = ix3 n i k := funext fun | ⟨0, _⟩ => rfl | ⟨1, _⟩ => rfl | ⟨2, _⟩ => rfl
    rw [e]
    exact v1_at x n i k r hr
  · have e : ridx_main_v17 (ix3 n i q) k = ix3 n k q := funext fun | ⟨0, _⟩ => rfl | ⟨1, _⟩ => rfl | ⟨2, _⟩ => rfl
    rw [e]
    exact v16_at be wu hb n k q

/-- One over one plus the exponential of the negated value is the logistic function of it. -/
theorem sigmoid_at (j : S72x512x7168.Idx) :
    val_main_call0_v5 (F := Ideal) x be wg j = Ideal.logistic (val_main_v9 (F := Ideal) x be wg j) := by
  rw [val_main_call0_v5_apply, val_main_call0_v4_apply, val_main_call0_cst_0_apply, val_main_call0_v3_apply, val_main_call0_v2_apply,
    val_main_call0_cst_apply, val_main_call0_v1_apply, val_main_call0_v0_apply]
  show Ideal.div (Ideal.ofBits .f32 0x3F800000#32) (Ideal.ofBits .f32 0x3F800000#32 + Ideal.exp (-_)) = _
  rw [Ideal.ofBits_one_f32]
  rfl

include hb in
/-- The gated value of row `i` of block `n`. -/
theorem v19_at (n : Fin 72) (i : Fin 512) (q : Fin 7168) (r : Fin 36864) (hr : r.val = n.val * 512 + i.val) :
    val_main_v19 (F := Ideal) x be wg wu (ix3 n i q) = UpSpec.cell x wg wu (expert be n) r q := by
  rw [val_main_v19_apply, val_main_v18_apply, sigmoid_at, v9_at x be wg hb n i q r hr, v17_at x be wu hb n i q r hr]
  rfl

/-- Whether block `n` is in use. -/
theorem used_at (n : Fin 72) (i : Fin 512) (q : Fin 7168) :
    val_main_call1_v1 (F := Ideal) na (ix3 n i q) = BitVec.ofBool ((BitVec.ofNat 32 n.val).slt (na (ix1 (0 : Fin 1)))) := by
  rw [val_main_call1_v1_apply, val_main_v24_apply, val_main_v23_apply, val_main_v20_apply, val_main_v22_apply]
  have hw : val_main_v21 (F := Ideal) na (idx_main_v22 (idx_main_v24 (idx_main_call1_v1 (ix3 n i q)))) = na (ix1 (0 : Fin 1)) := by
    unfold val_main_v21
    refine congrArg na (funext fun | ⟨0, _⟩ => Subsingleton.elim (α := Fin 1) _ _)
  rw [hw]
  rfl

include hb in
/-- The reference's array is the mathematical output. -/
theorem value_eq (i : S36864x7168.Idx) :
    val_main_v27 (F := Ideal) x be na wg wu i = UpSpec.out x (fun n => be (entry n)) (na (ix1 (0 : Fin 1))) wg wu (i 0) (i 1) := by
  rw [val_main_v27_apply, val_main_v26_apply]
  have h0 : (i 0).val < 36864 := (i 0).isLt
  have h1 : (i 1).val < 7168 := (i 1).isLt
  have hi : idx_main_v26 i = ix3 (⟨(i 0).val / 512, by omega⟩ : Fin 72) (⟨(i 0).val % 512, by omega⟩ : Fin 512) (⟨(i 1).val, h1⟩ : Fin 7168) := funext fun
    | ⟨0, _⟩ => Fin.ext (by show ((i 0).val * 7168 + (i 1).val) / 3670016 = (i 0).val / 512; omega)
    | ⟨1, _⟩ => Fin.ext (by show ((i 0).val * 7168 + (i 1).val) / 7168 % 512 = (i 0).val % 512; omega)
    | ⟨2, _⟩ => Fin.ext (by show ((i 0).val * 7168 + (i 1).val) % 7168 = (i 1).val; omega)
  rw [hi, val_main_v25_apply, used_at, v19_at x be wg wu hb _ _ _ (i 0) (by show (i 0).val = (i 0).val / 512 * 512 + (i 0).val % 512; omega),
    val_main_call1_v2_apply, val_main_call1_v0_apply, val_main_cst_apply]
  unfold UpSpec.out
  show Scalar.select _ _ (Ideal.ofBits .f32 0x00000000#32) = _
  rw [Ideal.ofBits_zero_f32]
  cases h : (BitVec.ofNat 32 ((i 0).val / 512)).slt (na (ix1 (0 : Fin 1)))
  · rw [if_neg (by decide)]; rfl
  · rw [if_pos rfl]; rfl

end Cert.ReferenceIdeal.Up

end
-- ==== Proof.UpSame.lean ====
/- The up projection: the program read at the machine's floats and the program read on the extended
   reals are one text, so what is proved of the one for any reading of the floats holds of the other. -/
module

public import proofs.«01_k».proof.Proof.Gen.Kernel.Skeleton
public import proofs.«01_k».proof.Proof.Gen.KernelIdeal.Skeleton

@[expose] public section

set_option maxRecDepth 16384

noncomputable section

namespace Cert.UpSame

open Idealize.ShloMosaic Idealize.SL.Sem Cert.Kernel.Gen Cert.KernelIdeal.Gen

variable {F : FTy → Type} [FloatOps F]

/-- The kernel's body is the same. -/
theorem body_eq : Cert.Kernel.defs₀ (F := F) = Cert.KernelIdeal.defs₀ (F := F) := by
  funext p l a
  match p, l, a with
  | .tc, ⟨0, _⟩, (t, s) => rfl
  | .scScalar _, ⟨0, _⟩, (t, s) => rfl
  | .scVector _ _, ⟨0, _⟩, (t, s) => rfl

/-- So is the table of bodies, with the call's pipeline in it. -/
theorem defs_eq : Cert.Kernel.defs (F := F) = Cert.KernelIdeal.defs (F := F) := congrArg (Pipeline.defs Cert.Kernel.pcfgs) body_eq

set_option maxHeartbeats 4000000 in
/-- So is the host's program. -/
theorem main_eq : Cert.Kernel.main (F := F) = Cert.KernelIdeal.main (F := F) := rfl

end Cert.UpSame

end
-- ==== Proof.Runs.lean ====
/- A run depends on its table of bodies and on its programs alone. -/
module

public import Idealize.ShloMosaic.Lib.Pipeline
public import Idealize.ShloMosaic.Lib.Claim

@[expose] public section

namespace Cert.Runs

open Idealize.ShloMosaic Idealize.SL.Sem

/-- What every run of a program ends with, every run of a program equal to it ends with, where the tables of bodies are
    equal too. -/
theorem run_congr {nD : ℕ} {τ : Topo} {sig : RefSig} {Val : EltTy → Type} {Λ : Labels} {d d' : Defs nD τ sig Val Λ}
    {p p' : Dev nD → Prog (TpuEff nD τ sig Val Λ .tc) PUnit} (hd : d = d') (hp : p = p') {s : _} {P : _ → Prop}
    (h : θ_run d' (onTc p') s P) : θ_run d (onTc p) s P := by
  subst hd hp
  exact h

end Cert.Runs

end
-- ==== Proof.UpClaims.lean ====
/- The claims about the up projection: the kernel runs, leaves its arguments and its semaphores as it found them, and
   computes what the reference computes. -/
module

public import proofs.«01_k».proof.Defs
public import proofs.«01_k».proof.Proof.Tables
public import proofs.«01_k».proof.Proof.UpOut
public import proofs.«01_k».proof.Proof.UpRef
public import proofs.«01_k».proof.Proof.UpSame
public import proofs.«01_k».proof.Proof.Runs
public import Idealize.ShloMosaic.Lib.Claim

@[expose] public section

noncomputable section

namespace Cert.UpClaims

open Idealize.ShloMosaic Idealize.SL.Sem Cert.Kernel.Gen Cert.KernelIdeal.Gen Cert.ReferenceIdeal.Gen Cert.Pre_table_ok.Gen

/-- The kernel runs and changes no argument. -/
theorem frame_kernel : quiescent_Kernel := fun m g hp =>
  have ht := Cert.Tables.of_pre _ _ _ _ _ (hp 0)
  Runs.run_congr UpSame.defs_eq UpSame.main_eq
    ((θ_run _ _ _).mono (fun _ h => ⟨fun c => (h.1 c).2, h.2⟩) (Cert.KernelIdeal.Up.run_out (F := Bits) m ht.1 ht.2 g))

/-- So does the kernel on the extended reals. -/
theorem frame_ideal : quiescent_KernelIdeal := fun m g hp =>
  have ht := Cert.Tables.of_pre _ _ _ _ _ (hp 0)
  (θ_run _ _ _).mono (fun _ h => ⟨fun c => (h.1 c).2, h.2⟩) (Cert.KernelIdeal.Up.run_out m ht.1 ht.2 g)

/-- So does the reference. -/
theorem frame_reference : quiescent_ReferenceIdeal := fun m g _ =>
  (θ_run _ _ _).mono (fun r h => ⟨fun c => (h c).2, sem_eq_zero_of_no_sems (by decide) r.2⟩) (Cert.ReferenceIdeal.Value.run m g)

theorem frame_reference_pre : quiescent_ReferenceIdeal_pre_table_ok := fun m g _ => frame_reference m g trivial

/-- The kernel's array and the reference's are one. -/
theorem equal : algebraic_KernelIdeal_ReferenceIdeal := fun m g m' g' hp ha =>
  have ht := Cert.Tables.of_pre _ _ _ _ _ (hp 0)
  ⟨fun c => Cert.KernelIdeal.Up.res m c,
    (θ_run _ _ _).mono (fun _ h c => ⟨(h.1 c).1.trans (Cert.KernelIdeal.Up.out_eq m ht.1 ht.2 c), (h.1 c).2⟩)
      (Cert.KernelIdeal.Up.run_out m ht.1 ht.2 g),
    (θ_run _ _ _).mono (fun _ h c => ⟨(h c).1.trans (by
        obtain rfl : c = 0 := Subsingleton.elim _ _
        rw [Cert.ReferenceIdeal.Read.val_main_v27_eq]
        obtain ⟨a0, a1, a2, a3, a4⟩ := ha 0
        rw [a0, a1, a2, a3, a4]
        funext i
        rw [Cert.ReferenceIdeal.Up.value_eq _ _ _ _ _ ht.1 i]
        exact UpSpec.out_congr rfl (funext fun n => congrArg _ (funext fun | ⟨0, _⟩ => rfl)) (congrArg _ (funext fun | ⟨0, _⟩ => rfl)) rfl rfl _ _), (h c).2⟩)
      (Cert.ReferenceIdeal.Value.run m' g')⟩

end Cert.UpClaims

end
-- ==== Proof.DownBody.lean ====
/- What the body of the experts' down projection does at one grid point, by its three control cases: a block in use
   whose expert differs from the one before (its weight tile is converted into the scratch buffer first), a
   block in use whose weight tile is already there, and a block past the last one in use (zeros). -/
module

public import proofs.«01_k».proof.Proof.Gen.Kernel2Ideal.Skeleton
public import proofs.«01_k».proof.Proof.Gen.Kernel2Ideal.Launch
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.Lib.Pipeline.ValueKit

@[expose] public section

set_option maxRecDepth 16384

noncomputable section

namespace Cert.Kernel2Ideal.Down

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table that names each block's expert, the number of blocks in use, and the table of the weights' blocks. -/
abbrev tb0 : Memref sig .tc .smem S72 .i32 := Memref.whole main_v1
abbrev tb1 : Memref sig .tc .smem S1 .i32 := Memref.whole main_v3
abbrev tb2 : Memref sig .tc .smem S72 .i32 := Memref.whole main_v15

/-- The scratch buffer of the converted weight tile. -/
abbrev sc0 : Memref sig .tc .vmem S7168x512 .bf16 := Memref.whole cc0_scratch0

/-- The words the body loads: the number of blocks in use, this block's expert, the expert of the block before. -/
abbrev wNa (T1 : S1.Idx → Elt F .i32) : Elt F .i32 :=
  View.readAt (Elt F) tb1.view (Rect.unit (s := S1) ![0] S1.size inb_S1_S1_0).toLoadRect T1 (Shape.Idx.first (numel1_S1.symm ▸ Nat.one_pos))
abbrev wBe (i : grid0.Coords) (T0 : S72.Idx → Elt F .i32) : Elt F .i32 :=
  View.readAt (Elt F) tb0.view (Rect.unit (s := S72) (k0_off1 i) S1.size (k0_off1_inb i)).toLoadRect T0 (Shape.Idx.first (numel1_S1.symm ▸ Nat.one_pos))
abbrev wPrev (i : grid0.Coords) (T0 : S72.Idx → Elt F .i32) : Elt F .i32 :=
  View.readAt (Elt F) tb0.view (Rect.unit (s := S72) (k0_off2 i) S1.size (k0_off2_inb i)).toLoadRect T0 (Shape.Idx.first (numel1_S1.symm ▸ Nat.one_pos))

/-- The condition under which the body converts the weight tile, over the words it loads. -/
def fresh (i : grid0.Coords) (v0 v4 v8 : BitVec 32) : BitVec 1 :=
  Scalar.cmpi .ne (Scalar.extui (Scalar.andi (Scalar.cmpi .slt (BitVec.ofNat 32 (i 1).val) v0)
    (Scalar.ori (Scalar.cmpi .eq (BitVec.ofNat 32 (i 1).val) 0#32) (Scalar.cmpi .ne v4 v8))) : BitVec 32) 0#32

set_option maxHeartbeats 4000000 in
/-- A block in use with a new expert: the scratch buffer ends at the converted weight tile, and the output block at
    the gated product computed from them. -/
theorem body_fresh (c : Dev nD) (i : grid0.Coords) (arg5 : Memref sig .tc .vmem S512x7168 .bf16) (harg5 : arg5.IsWhole) (arg6 : Memref sig .tc .vmem S1x7168x512 .f32) (harg6 : arg6.IsWhole) (arg8 : Memref sig .tc .vmem S512x512 .f32) (harg8 : arg8.IsWhole)
    (T0 : S72.Idx → Elt F .i32) (T1 : S1.Idx → Elt F .i32) (T2 : S72.Idx → Elt F .i32)
    (x0 : S512x7168.Idx → Elt F .bf16) (x1 : S1x7168x512.Idx → Elt F .f32) (s0 : S7168x512.Idx → Elt F .bf16)
    (h1 : fresh i (wNa T1) (wBe i T0) (wPrev i T0) = 1#1) (h2 : k0_cond2 i (wNa T1) = 1#1) (h3 : ¬ k0_cond3 i (wNa T1) = 1#1) (K : PUnit → sProp 𝕄) :
    iprop(owns (c : Thread nD τ) arg5 fullShare x0 ∗ owns (c : Thread nD τ) arg6 fullShare x1
        ∗ (tb0.view.loc (c : Thread nD τ) ↦{fullShare.right} T0) ∗ (tb1.view.loc (c : Thread nD τ) ↦{fullShare.right} T1) ∗ (tb2.view.loc (c : Thread nD τ) ↦{fullShare.right} T2)
        ∗ (∃ d, owns (c : Thread nD τ) arg8 fullShare d)
        ∗ owns (c : Thread nD τ) sc0 fullShare s0
        ∗ (iprop(owns (c : Thread nD τ) arg5 fullShare x0 ∗ owns (c : Thread nD τ) arg6 fullShare x1
            ∗ (tb0.view.loc (c : Thread nD τ) ↦{fullShare.right} T0) ∗ (tb1.view.loc (c : Thread nD τ) ↦{fullShare.right} T1) ∗ (tb2.view.loc (c : Thread nD τ) ↦{fullShare.right} T2)
            ∗ owns (c : Thread nD τ) arg8 fullShare (k0_pay2 x0 (k0_pay1 x1))
            ∗ owns (c : Thread nD τ) sc0 fullShare (k0_pay1 x1)) -∗ K ⟨⟩))
      ⊢ wp frame (wpE (defs₀ (F := F)) Variants.none c none) Set.univ (cc0_ffn_down i tb0 (Memref.isWhole_whole _) tb1 (Memref.isWhole_whole _) tb2 (Memref.isWhole_whole _) arg5 harg5 arg6 harg6 arg8 harg8 sc0 (Memref.isWhole_whole _)) K := by
  rw [cc0_ffn_down_eq_skeleton]; unfold cc0_ffn_down_skel
  unfold owns
  iintro ⟨⟨%f0, %hf0, H0⟩, ⟨%f1, %hf1, H1⟩, HT0, HT1, HT2, ⟨%d3, %f3, -, HO3⟩, ⟨%g0, -, HS0⟩, Hk⟩
  have hS0 : sc0.IsWhole := Memref.isWhole_whole _
  have hT0 : tb0.IsWhole := Memref.isWhole_whole _
  have hT1 : tb1.IsWhole := Memref.isWhole_whole _
  have hT2 : tb2.IsWhole := Memref.isWhole_whole _
  sl_exec! (disch := first | (guard_target = k0_cond2 _ _ = _; exact h2) | (guard_target = ¬(k0_cond3 _ _ = _); exact h3) | exact h1)
  sl_step
  iapply Hk
  isplitl [H0]
  · iexists f0; isplitr
    · ipureintro; exact hf0
    · iexact H0
  isplitl [H1]
  · iexists f1; isplitr
    · ipureintro; exact hf1
    · iexact H1
  isplitl [HT0]; · iexact HT0
  isplitl [HT1]; · iexact HT1
  isplitl [HT2]; · iexact HT2
  subst hf0 hf1
  isplitl [HO3]
  · iexists _; isplitr; swap
    · iexact HO3
    · ipureintro
      sl_unfold_words
      frame_out
  iexists _; isplitr; swap
  · iexact HS0
  · ipureintro
    sl_unfold_words
    frame_out

set_option maxHeartbeats 4000000 in
/-- A block in use whose expert is the one before it: the scratch buffer is read and kept. -/
theorem body_kept (c : Dev nD) (i : grid0.Coords) (arg5 : Memref sig .tc .vmem S512x7168 .bf16) (harg5 : arg5.IsWhole) (arg6 : Memref sig .tc .vmem S1x7168x512 .f32) (harg6 : arg6.IsWhole) (arg8 : Memref sig .tc .vmem S512x512 .f32) (harg8 : arg8.IsWhole)
    (T0 : S72.Idx → Elt F .i32) (T1 : S1.Idx → Elt F .i32) (T2 : S72.Idx → Elt F .i32)
    (x0 : S512x7168.Idx → Elt F .bf16) (x1 : S1x7168x512.Idx → Elt F .f32) (s0 : S7168x512.Idx → Elt F .bf16)
    (h1 : ¬ fresh i (wNa T1) (wBe i T0) (wPrev i T0) = 1#1) (h2 : k0_cond2 i (wNa T1) = 1#1) (h3 : ¬ k0_cond3 i (wNa T1) = 1#1) (K : PUnit → sProp 𝕄) :
    iprop(owns (c : Thread nD τ) arg5 fullShare x0 ∗ owns (c : Thread nD τ) arg6 fullShare x1
        ∗ (tb0.view.loc (c : Thread nD τ) ↦{fullShare.right} T0) ∗ (tb1.view.loc (c : Thread nD τ) ↦{fullShare.right} T1) ∗ (tb2.view.loc (c : Thread nD τ) ↦{fullShare.right} T2)
        ∗ (∃ d, owns (c : Thread nD τ) arg8 fullShare d)
        ∗ owns (c : Thread nD τ) sc0 fullShare s0
        ∗ (iprop(owns (c : Thread nD τ) arg5 fullShare x0 ∗ owns (c : Thread nD τ) arg6 fullShare x1
            ∗ (tb0.view.loc (c : Thread nD τ) ↦{fullShare.right} T0) ∗ (tb1.view.loc (c : Thread nD τ) ↦{fullShare.right} T1) ∗ (tb2.view.loc (c : Thread nD τ) ↦{fullShare.right} T2)
            ∗ owns (c : Thread nD τ) arg8 fullShare (k0_pay2 x0 s0)
            ∗ owns (c : Thread nD τ) sc0 fullShare s0) -∗ K ⟨⟩))
      ⊢ wp frame (wpE (defs₀ (F := F)) Variants.none c none) Set.univ (cc0_ffn_down i tb0 (Memref.isWhole_whole _) tb1 (Memref.isWhole_whole _) tb2 (Memref.isWhole_whole _) arg5 harg5 arg6 harg6 arg8 harg8 sc0 (Memref.isWhole_whole _)) K := by
  rw [cc0_ffn_down_eq_skeleton]; unfold cc0_ffn_down_skel
  unfold owns
  iintro ⟨⟨%f0, %hf0, H0⟩, ⟨%f1, %hf1, H1⟩, HT0, HT1, HT2, ⟨%d3, %f3, -, HO3⟩, ⟨%g0, %hg0, HS0⟩, Hk⟩
  have hS0 : sc0.IsWhole := Memref.isWhole_whole _
  have hT0 : tb0.IsWhole := Memref.isWhole_whole _
  have hT1 : tb1.IsWhole := Memref.isWhole_whole _
  have hT2 : tb2.IsWhole := Memref.isWhole_whole _
  sl_exec! (disch := first | (guard_target = k0_cond2 _ _ = _; exact h2) | (guard_target = ¬(k0_cond3 _ _ = _); exact h3) | exact h1)
  sl_step
  iapply Hk
  isplitl [H0]
  · iexists f0; isplitr
    · ipureintro; exact hf0
    · iexact H0
  isplitl [H1]
  · iexists f1; isplitr
    · ipureintro; exact hf1
    · iexact H1
  isplitl [HT0]; · iexact HT0
  isplitl [HT1]; · iexact HT1
  isplitl [HT2]; · iexact HT2
  subst hf0 hf1 hg0
  isplitl [HO3]
  · iexists _; isplitr; swap
    · iexact HO3
    · ipureintro
      sl_unfold_words
      frame_out
  iexists g0; isplitr
  · ipureintro; rfl
  · iexact HS0

set_option maxHeartbeats 4000000 in
/-- A block past the last one in use: zeros, and the scratch buffer is kept. -/
theorem body_past (c : Dev nD) (i : grid0.Coords) (arg5 : Memref sig .tc .vmem S512x7168 .bf16) (harg5 : arg5.IsWhole) (arg6 : Memref sig .tc .vmem S1x7168x512 .f32) (harg6 : arg6.IsWhole) (arg8 : Memref sig .tc .vmem S512x512 .f32) (harg8 : arg8.IsWhole)
    (T0 : S72.Idx → Elt F .i32) (T1 : S1.Idx → Elt F .i32) (T2 : S72.Idx → Elt F .i32)
    (x0 : S512x7168.Idx → Elt F .bf16) (x1 : S1x7168x512.Idx → Elt F .f32) (s0 : S7168x512.Idx → Elt F .bf16)
    (h1 : ¬ fresh i (wNa T1) (wBe i T0) (wPrev i T0) = 1#1) (h2 : ¬ k0_cond2 i (wNa T1) = 1#1) (h3 : k0_cond3 i (wNa T1) = 1#1) (K : PUnit → sProp 𝕄) :
    iprop(owns (c : Thread nD τ) arg5 fullShare x0 ∗ owns (c : Thread nD τ) arg6 fullShare x1
        ∗ (tb0.view.loc (c : Thread nD τ) ↦{fullShare.right} T0) ∗ (tb1.view.loc (c : Thread nD τ) ↦{fullShare.right} T1) ∗ (tb2.view.loc (c : Thread nD τ) ↦{fullShare.right} T2)
        ∗ (∃ d, owns (c : Thread nD τ) arg8 fullShare d)
        ∗ owns (c : Thread nD τ) sc0 fullShare s0
        ∗ (iprop(owns (c : Thread nD τ) arg5 fullShare x0 ∗ owns (c : Thread nD τ) arg6 fullShare x1
            ∗ (tb0.view.loc (c : Thread nD τ) ↦{fullShare.right} T0) ∗ (tb1.view.loc (c : Thread nD τ) ↦{fullShare.right} T1) ∗ (tb2.view.loc (c : Thread nD τ) ↦{fullShare.right} T2)
            ∗ owns (c : Thread nD τ) arg8 fullShare k0_pay3
            ∗ owns (c : Thread nD τ) sc0 fullShare s0) -∗ K ⟨⟩))
      ⊢ wp frame (wpE (defs₀ (F := F)) Variants.none c none) Set.univ (cc0_ffn_down i tb0 (Memref.isWhole_whole _) tb1 (Memref.isWhole_whole _) tb2 (Memref.isWhole_whole _) arg5 harg5 arg6 harg6 arg8 harg8 sc0 (Memref.isWhole_whole _)) K := by
  rw [cc0_ffn_down_eq_skeleton]; unfold cc0_ffn_down_skel
  unfold owns
  iintro ⟨⟨%f0, %hf0, H0⟩, ⟨%f1, %hf1, H1⟩, HT0, HT1, HT2, ⟨%d3, %f3, -, HO3⟩, ⟨%g0, %hg0, HS0⟩, Hk⟩
  have hS0 : sc0.IsWhole := Memref.isWhole_whole _
  have hT0 : tb0.IsWhole := Memref.isWhole_whole _
  have hT1 : tb1.IsWhole := Memref.isWhole_whole _
  have hT2 : tb2.IsWhole := Memref.isWhole_whole _
  sl_exec! (disch := first | (guard_target = ¬(k0_cond2 _ _ = _); exact h2) | (guard_target = k0_cond3 _ _ = _; exact h3) | exact h1)
  sl_step
  iapply Hk
  isplitl [H0]
  · iexists f0; isplitr
    · ipureintro; exact hf0
    · iexact H0
  isplitl [H1]
  · iexists f1; isplitr
    · ipureintro; exact hf1
    · iexact H1
  isplitl [HT0]; · iexact HT0
  isplitl [HT1]; · iexact HT1
  isplitl [HT2]; · iexact HT2
  subst hf0 hf1 hg0
  isplitl [HO3]
  · iexists _; isplitr; swap
    · iexact HO3
    · ipureintro
      sl_unfold_words
      frame_out
  iexists g0; isplitr
  · ipureintro; rfl
  · iexact HS0

end Cert.Kernel2Ideal.Down

end
-- ==== Proof.DownRun.lean ====
/- The run of the experts' down projection: at tables the program admits, what the scratch buffer holds between points,
   the body's obligation at every point, and the launch. -/
module

public import proofs.«01_k».proof.Proof.DownBody
public import proofs.«01_k».proof.Proof.Words
public import Idealize.ShloMosaic.Lib.Pipeline.Frame
public import Idealize.ShloMosaic.Lib.Pipeline.TableIdle
public import Idealize.ShloMosaic.Lib.Pipeline.Kit

@[expose] public section

set_option maxRecDepth 16384

noncomputable section

namespace Cert.Kernel2Ideal.Down

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Words (InUse)
open Idealize.ShloMosaic.Pipeline (Dat Cfg Window BodyObligation BodyObligationLoose cellOf)

variable {F : FTy → Type} [FloatOps F]

local notation "𝕄" => MT nD τ sig Unit (Elt F) ℕ (UR sig nD τ) ℕ

/-! ## The words -/

/-- The index `n` into a table of 72 words, and the one index into a table of one word. -/
abbrev ixB (n : ℕ) (hn : n < 72) : S72.Idx := fun a => ⟨n, by fin_cases a; exact hn⟩
abbrev ix1 : S1.Idx := fun a => ⟨0, by fin_cases a; exact Nat.one_pos⟩

/-- The number of blocks in use, read off its table. -/
abbrev naOf (pf : pre0.Contents (Elt F)) : BitVec 32 := (pf 1 : S1.Idx → Elt F .i32) ix1
/-- Block `n`'s expert. -/
abbrev beOf (pf : pre0.Contents (Elt F)) (n : ℕ) (hn : n < 72) : BitVec 32 := (pf 0 : S72.Idx → Elt F .i32) (ixB n hn)
/-- The index of the weights that block `n` reads. -/
abbrev bwOf (pf : pre0.Contents (Elt F)) (n : ℕ) (hn : n < 72) : BitVec 32 := (pf 2 : S72.Idx → Elt F .i32) (ixB n hn)

theorem wNa_eq (pf : pre0.Contents (Elt F)) : wNa (pf 1) = naOf pf :=
  congrArg (pf 1 : S1.Idx → Elt F .i32) (funext fun a => Fin.ext (by fin_cases a; rfl))

theorem off1_val (i : grid0.Coords) : k0_off1 i 0 = (i 1).val :=
  (by decide +kernel : ∀ n : Fin 72, (Scalar.indexCast (BitVec.ofNat 32 n.val) : Index).toNat = n.val) (i 1)

theorem off2_val (i : grid0.Coords) : k0_off2 i 0 = (i 1).val - 1 :=
  (by decide +kernel : ∀ n : Fin 72, (Scalar.indexCast (Scalar.maxsi (Scalar.subi (BitVec.ofNat 32 n.val) 1#32) 0#32) : Index).toNat = n.val - 1) (i 1)

theorem wBe_eq (pf : pre0.Contents (Elt F)) (i : grid0.Coords) : wBe i (pf 0) = beOf pf (i 1).val (i 1).isLt :=
  congrArg (pf 0 : S72.Idx → Elt F .i32) (funext fun a => Fin.ext (by fin_cases a; exact off1_val i))

theorem wPrev_eq (pf : pre0.Contents (Elt F)) (i : grid0.Coords) :
    wPrev i (pf 0) = beOf pf ((i 1).val - 1) (lt_of_le_of_lt (Nat.sub_le _ _) (i 1).isLt) :=
  congrArg (pf 0 : S72.Idx → Elt F .i32) (funext fun a => Fin.ext (by fin_cases a; exact off2_val i))

theorem cond2_iff (i : grid0.Coords) (v : BitVec 32) : k0_cond2 i v = 1#1 ↔ InUse v (i 1).val :=
  (by decide : ∀ b : Bool, Scalar.cmpi .ne (Scalar.extui (BitVec.ofBool b) : BitVec 32) 0#32 = 1#1 ↔ b = true) _

theorem cond3_iff (i : grid0.Coords) (v : BitVec 32) : k0_cond3 i v = 1#1 ↔ ¬ InUse v (i 1).val :=
  (by decide : ∀ b : Bool, Scalar.cmpi .ne (Scalar.extui (Scalar.xori (BitVec.ofBool b) 1#1) : BitVec 32) 0#32 = 1#1 ↔ ¬ b = true) _

theorem fresh_iff (i : grid0.Coords) (v a b : BitVec 32) :
    fresh i v a b = 1#1 ↔ InUse v (i 1).val ∧ ((i 1).val = 0 ∨ a ≠ b) := by
  have h0 := Words.eq_zero_small (i 1).val (lt_trans (show (i 1).val < 72 from (i 1).isLt) (by decide))
  have h1 : ((a != b) = true) ↔ a ≠ b := bne_iff_ne
  rw [← h0, ← h1]
  exact (by decide : ∀ p q r : Bool, Scalar.cmpi .ne (Scalar.extui (Scalar.andi (BitVec.ofBool p)
    (Scalar.ori (BitVec.ofBool q) (BitVec.ofBool r))) : BitVec 32) 0#32 = 1#1 ↔ p = true ∧ (q = true ∨ r = true)) _ _ _

/-! ## The pipeline at admitted tables -/

/-- The pipeline's windows and grid at the tables' contents `a`. -/
abbrev cfgA (a : (pcfg0 (F := F)).Adm) : Pipeline.Cfg sig Λ₀ := cfg0 (F := F) a

section Points
variable (a : (pcfg0 (F := F)).Adm)

/-- Point `t`'s coordinates: the column block and the row block. -/
abbrev crd (t : Fin (cfgA a).N) : grid0.Coords := grid0.coords t

abbrev ms0 (t : Fin (cfgA a).N) : Memref sig .tc .vmem S512x7168 .bf16 := spec0_0.stage ((cfgA a).slots t (0 : Fin 3))
abbrev hs0 (t : Fin (cfgA a).N) : (ms0 a t).IsWhole := hstage0_0 (((cfgA a).slots t (0 : Fin 3)).cast nbuf0_0)
abbrev ms1 (t : Fin (cfgA a).N) : Memref sig .tc .vmem S1x7168x512 .f32 := spec0_1.stage ((cfgA a).slots t (1 : Fin 3))
abbrev hs1 (t : Fin (cfgA a).N) : (ms1 a t).IsWhole := hstage0_1 (((cfgA a).slots t (1 : Fin 3)).cast nbuf0_1)
abbrev ms3 (t : Fin (cfgA a).N) : Memref sig .tc .vmem S512x512 .f32 := spec0_2.stage ((cfgA a).slots t (2 : Fin 3))
abbrev hs3 (t : Fin (cfgA a).N) : (ms3 a t).IsWhole := hstage0_2 (((cfgA a).slots t (2 : Fin 3)).cast nbuf0_2)

/-- The coordinates of point `t`, the row block the faster. -/
theorem crd_val : ∀ t : Fin grid0.N, (grid0.coords t 0).val = t.val / 72 ∧ (grid0.coords t 1).val = t.val % 72 := by
  decide +kernel

variable (V : (c : Dev nD) → (b : Ref sig .tc) → Buf (Elt F) ((c : Thread nD τ).loc b))

/-- Window `w`'s block at point `t`, of the array as the region finds it. -/
def iblk (c : Dev nD) (w : Fin 3) (t : Fin (cfgA a).N) : (((cfgA a).win w).xblock (crd a t)).Idx → Elt F ((cfgA a).win w).elt :=
  (((cfgA a).win w).blk t).view.read (Elt F) (V c (Pipeline.arrRef spec0 w))

/-- The input blocks at their own types. -/
abbrev xB (c : Dev nD) (t : Fin (cfgA a).N) : S512x7168.Idx → Elt F .bf16 := iblk a V c 0 t
abbrev gB (c : Dev nD) (t : Fin (cfgA a).N) : S1x7168x512.Idx → Elt F .f32 := iblk a V c 1 t

/-- What point `t` leaves in the output block. -/
def outB (c : Dev nD) (t : Fin (cfgA a).N) : S512x512.Idx → Elt F .f32 :=
  if InUse (naOf a.1) (crd a t 1).val then k0_pay2 (xB a V c t) (k0_pay1 (gB a V c t)) else k0_pay3

/-- Between points: the scratch buffer holds the converted weight tile of the point before, where that point's block
    is in use; the tables are held for reading. -/
def Phi (c : Dev nD) (t : Fin ((cfgA a).N + 1)) : sProp 𝕄 :=
  iprop((∃ s0, ⌜∀ p : Fin (cfgA a).N, p.val + 1 = t.val → InUse (naOf a.1) (crd a p 1).val →
          s0 = k0_pay1 (gB a V c p)⌝
        ∗ owns (c : Thread nD τ) sc0 fullShare s0)
    ∗ (tb0.view.loc (c : Thread nD τ) ↦{fullShare.right} a.1 0) ∗ (tb1.view.loc (c : Thread nD τ) ↦{fullShare.right} a.1 1)
    ∗ (tb2.view.loc (c : Thread nD τ) ↦{fullShare.right} a.1 2) ∗ ∃ r, prngReg c r)

/-- The proof data of the one pipeline on core `c`. -/
def dats (_ : Fin 1) (c : Dev nD) : Dat τ (Elt F) Unit ℕ (UR sig nD τ) ℕ (cfgA a) c where
  A w := V c (Pipeline.arrRef spec0 w)
  after w t := match w with
    | ⟨0, _⟩ => iblk a V c 0 t
    | ⟨1, _⟩ => iblk a V c 1 t
    | ⟨2, _⟩ => outB a V c t
  Φ t := Phi a V c t
  q _ := fullShare
  owed _ := 0

theorem after0 (c : Dev nD) (t : Fin (cfgA a).N) : (dats a V 0 c).after (0 : Fin 3) t = iblk a V c 0 t := rfl
theorem after1 (c : Dev nD) (t : Fin (cfgA a).N) : (dats a V 0 c).after (1 : Fin 3) t = iblk a V c 1 t := rfl
theorem after3 (c : Dev nD) (t : Fin (cfgA a).N) : (dats a V 0 c).after (2 : Fin 3) t = outB a V c t := rfl

/-- Each input window holds its block when the body runs, fetched at that point or not. -/
theorem before0 (c : Dev nD) (t : Fin (cfgA a).N) (d) : (dats a V 0 c).before (0 : Fin 3) t d = iblk a V c 0 t :=
  ((dats a V 0 c).before_in_eq_fetched (0 : Fin 3) rfl (fun _ => rfl) (fun _ _ _ => rfl) (fun t => by rw [after0]; unfold Dat.blockOf iblk; rfl) t d).trans
    (by unfold Dat.fetched Dat.blockOf iblk; rfl)
theorem before1 (c : Dev nD) (t : Fin (cfgA a).N) (d) : (dats a V 0 c).before (1 : Fin 3) t d = iblk a V c 1 t :=
  ((dats a V 0 c).before_in_eq_fetched (1 : Fin 3) rfl (fun _ => rfl) (fun _ _ _ => rfl) (fun t => by rw [after1]; unfold Dat.blockOf iblk; rfl) t d).trans
    (by unfold Dat.fetched Dat.blockOf iblk; rfl)

/-- The word that the windows' schedule reads for "in use" is the number of blocks in use. -/
theorem atD_na : a.1.atD 1 ![0] = naOf a.1 := by
  unfold Pipeline.Prefetch.Contents.atD
  rw [dif_pos (by intro b; fin_cases b; exact Nat.le_refl 1)]
  exact congrArg (a.1 1 : S1.Idx → Elt F .i32) (funext fun b => Fin.ext (by fin_cases b; rfl))

/-- The output block is stored at every point. -/
theorem idle3 (t : Fin (cfgA a).N) : (cfgA a).idle (2 : Fin 3) (crd a t) = false := by
  show (!(k0_cond2 (crd a t) (a.1.atD 1 ![0]) == 1#1) && !(k0_cond3 (crd a t) (a.1.atD 1 ![0]) == 1#1)) = false
  by_cases h : InUse (a.1.atD 1 ![0]) (crd a t 1).val
  · rw [(cond2_iff _ _).2 h]; rfl
  · rw [(cond3_iff _ _).2 h]; simp

/-- A column block's word is its number. -/
theorem coord0 (i : grid0.Coords) : (BitVec.ofNat 32 (i 0).val).toNat = (i 0).val :=
  (by decide +kernel : ∀ n : Fin 4, (BitVec.ofNat 32 n.val).toNat = n.val) (i 0)

/-- The word the weights' index maps load. -/
theorem bw_at (pf : pre0.Contents (Elt F)) (i : grid0.Coords) :
    pf.at 2 (Rect.unit (s := S72) (k0_off1 i) S1.size (k0_off1_inb i)) numel1_S1 = bwOf pf (i 1).val (i 1).isLt :=
  congrArg (pf 2 : S72.Idx → Elt F .i32) (funext fun b => Fin.ext (by fin_cases b; exact off1_val i))

/-- The weights' index map reads the third table at the row block, and the column block. -/
theorem index1 (t : Fin (cfgA a).N) : ((cfgA a).win (1 : Fin 3)).index t
    = ![(bwOf a.1 (crd a t 1).val (crd a t 1).isLt).toNat, 0, (crd a t 0).val] := by
  funext j
  fin_cases j
  · exact congrArg BitVec.toNat (bw_at a.1 (grid0.coords t))
  · rfl
  · exact coord0 (grid0.coords t)

/-- Two points with one column block and one weights' index read one weight tile. -/
theorem gB_congr (c : Dev nD) (t p : Fin (cfgA a).N) (h0 : (crd a t 0).val = (crd a p 0).val)
    (h : bwOf a.1 (crd a t 1).val (crd a t 1).isLt = bwOf a.1 (crd a p 1).val (crd a p 1).isLt) : gB a V c t = gB a V c p := by
  funext y
  unfold gB
  blk_simp [iblk]
  blk_ext [index1 a t, index1 a p]
  rw [h]

/-! ## The body's obligation -/

/-- The weights' index table agrees with the experts' table at the blocks in use. -/
def Agree : Prop := ∀ n (hn : n < 72), InUse (naOf a.1) n → bwOf a.1 n hn = beOf a.1 n hn

/-- The body at point `t` on its staging buffers, as the pipeline calls it. -/
abbrev bodyAt (t : Fin (cfgA a).N) : Prog (TpuEff nD τ sig (Elt F) Λ₀ .tc) PUnit :=
  cc0_ffn_down (crd a t) tb0 (Memref.isWhole_whole _) tb1 (Memref.isWhole_whole _) tb2 (Memref.isWhole_whole _) (ms0 a t) (hs0 a t) (ms1 a t) (hs1 a t)
    (ms3 a t) (hs3 a t) sc0 (Memref.isWhole_whole _)

set_option maxHeartbeats 1000000 in
/-- At every point the body takes the invariant and the input blocks to the invariant and the output block: at a block
    in use whose weights differ from the ones before, with the weights converted there; at another block in use, with
    the weights the scratch buffer holds; past the blocks in use, with zeros. -/
theorem sound_body (hag : Agree a) (c : Dev nD) (t : Fin (cfgA a).N) :
    iprop((dats a V 0 c).Φ t.castSucc ∗ (dats a V 0 c).owesAt () t.castSucc
        ∗ (∃ d, owns (c : Thread nD τ) (ms0 a t) fullShare ((dats a V 0 c).before (0 : Fin 3) t d))
        ∗ (∃ d, owns (c : Thread nD τ) (ms1 a t) fullShare ((dats a V 0 c).before (1 : Fin 3) t d))
        ∗ (∃ d, owns (c : Thread nD τ) (ms3 a t) fullShare ((dats a V 0 c).before (2 : Fin 3) t d)))
      ⊢ wp frame (wpE (defs₀ (F := F)) Variants.none c none) Set.univ (bodyAt a t) fun _ =>
          iprop((dats a V 0 c).Φ t.succ ∗ (dats a V 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a V 0 c).before w t d))
                  | true => owns (c : Thread nD τ) (((cfgA a).win w).stage ((cfgA a).slots t w)) fullShare ((dats a V 0 c).after w t)
                | false => owns (c : Thread nD τ) (((cfgA a).win w).stage ((cfgA a).slots t w)) fullShare ((dats a V 0 c).after w t)) := by
  rw [bigSep_W0]
  rewrite [show (cfgA a).idle (2 : Fin 3) ((cfgA a).grid.coords t) = false from idle3 a t]
  simp only [before0, before1, after0, after1, after3]
  rewrite [show (dats a V 0 c).Φ t.succ = Phi a V c t.succ from rfl, show (dats a V 0 c).Φ t.castSucc = Phi a V c t.castSucc from rfl,
    show (dats a V 0 c).owesAt () t.succ = (dats a V 0 c).owesAt () t.castSucc from rfl]
  unfold Phi
  simp only [Fin.val_castSucc, Fin.val_succ]
  iintro ⟨⟨⟨%s0, %hs, HS0⟩, HT0, HT1, HT2, Hr⟩, Ho, ⟨%d0, H0⟩, ⟨%d1, H1⟩, ⟨%d3, H3⟩⟩
  -- the next point's reading of the invariant is at this point
  have only : ∀ p : Fin (cfgA a).N, p.val + 1 = t.val + 1 → p = t := fun p hp => Fin.ext (Nat.succ.inj hp)
  by_cases hu : InUse (naOf a.1) (crd a t 1).val
  · have h2 : k0_cond2 (crd a t) (wNa (a.1 1)) = 1#1 := (cond2_iff _ _).2 (by rw [wNa_eq]; exact hu)
    have h3 : ¬ k0_cond3 (crd a t) (wNa (a.1 1)) = 1#1 := fun h => (cond3_iff _ _).1 h (by rw [wNa_eq]; exact hu)
    have eo : outB a V c t = k0_pay2 (xB a V c t) (k0_pay1 (gB a V c t)) := if_pos hu
    by_cases h1 : fresh (crd a t) (wNa (a.1 1)) (wBe (crd a t) (a.1 0)) (wPrev (crd a t) (a.1 0)) = 1#1
    · iapply (body_fresh c (crd a t) (ms0 a t) (hs0 a t) (ms1 a t) (hs1 a t) (ms3 a t) (hs3 a t)
        (a.1 0) (a.1 1) (a.1 2) (xB a V c t) (gB a V c t) s0 h1 h2 h3 _)
      isplitl [H0]; · iexact H0
      isplitl [H1]; · iexact H1
      isplitl [HT0]; · iexact HT0
      isplitl [HT1]; · iexact HT1
      isplitl [HT2]; · iexact HT2
      isplitl [H3]; · iexists _; iexact H3
      isplitl [HS0]; · iexact HS0
      iintro ⟨H0, H1, HT0, HT1, HT2, H3, HS0⟩
      isplitl [HS0 HT0 HT1 HT2 Hr]
      · isplitl [HS0]
        · iexists _
          isplitr; swap
          · iexact HS0
          · ipureintro; intro p hp _; rw [only p hp]
        isplitl [HT0]; · iexact HT0
        isplitl [HT1]; · iexact HT1
        isplitl [HT2]; · iexact HT2
        iexact Hr
      isplitl [Ho]; · iexact Ho
      isplitl [H0]; · iexact H0
      isplitl [H1]; · iexact H1
      rw [eo]; iexact H3
    · -- the block before has the same expert and the same column block: the scratch buffer holds its weights
      have hk : s0 = k0_pay1 (gB a V c t) := by
        rw [fresh_iff, wNa_eq] at h1
        have hne : (crd a t 1).val ≠ 0 := fun h => h1 ⟨hu, Or.inl h⟩
        have hbe : wBe (crd a t) (a.1 0) = wPrev (crd a t) (a.1 0) := by_contra fun h => h1 ⟨hu, Or.inr h⟩
        rw [wBe_eq, wPrev_eq] at hbe
        obtain ⟨v0, v1⟩ := crd_val t
        have ht : t.val < 288 := lt_of_lt_of_eq t.isLt N_0
        let p : Fin (cfgA a).N := ⟨t.val - 1, by have := t.isLt; omega⟩
        obtain ⟨w0, w1⟩ := crd_val p
        have hp : p.val = t.val - 1 := rfl
        have e1 : (crd a p 1).val = (crd a t 1).val - 1 := by
          have v1' : (crd a t 1).val = t.val % 72 := v1
          have w1' : (crd a p 1).val = p.val % 72 := w1
          omega
        have e0 : (crd a t 0).val = (crd a p 0).val := by
          have v1' : (crd a t 1).val = t.val % 72 := v1
          have v0' : (crd a t 0).val = t.val / 72 := v0
          have w0' : (crd a p 0).val = p.val / 72 := w0
          omega
        have hup : InUse (naOf a.1) (crd a p 1).val := by
          rw [e1]; exact Words.inUse_pred _ _ (lt_trans (show (crd a t 1).val < 72 from (crd a t 1).isLt) (by decide)) hu
        have l72 : (crd a t 1).val < 72 := (crd a t 1).isLt
        have hb : bwOf a.1 (crd a t 1).val (crd a t 1).isLt = bwOf a.1 (crd a p 1).val (crd a p 1).isLt := by
          rw [hag _ (crd a t 1).isLt hu, hag _ (crd a p 1).isLt hup, hbe]
          exact congrArg (fun n : Fin 72 => beOf a.1 n.val n.isLt) (Fin.ext e1.symm : (⟨(crd a t 1).val - 1, lt_of_le_of_lt (Nat.sub_le _ _) l72⟩ : Fin 72) = ⟨(crd a p 1).val, (crd a p 1).isLt⟩)
        have ht0 : t.val ≠ 0 := fun h => hne (by
          have v1' : (crd a t 1).val = t.val % 72 := v1
          omega)
        rw [hs p (by omega) hup, gB_congr a V c t p e0 hb]
      subst hk
      iapply (body_kept c (crd a t) (ms0 a t) (hs0 a t) (ms1 a t) (hs1 a t) (ms3 a t) (hs3 a t)
        (a.1 0) (a.1 1) (a.1 2) (xB a V c t) (gB a V c t) _ h1 h2 h3 _)
      isplitl [H0]; · iexact H0
      isplitl [H1]; · iexact H1
      isplitl [HT0]; · iexact HT0
      isplitl [HT1]; · iexact HT1
      isplitl [HT2]; · iexact HT2
      isplitl [H3]; · iexists _; iexact H3
      isplitl [HS0]; · iexact HS0
      iintro ⟨H0, H1, HT0, HT1, HT2, H3, HS0⟩
      isplitl [HS0 HT0 HT1 HT2 Hr]
      · isplitl [HS0]
        · iexists _
          isplitr; swap
          · iexact HS0
          · ipureintro; intro p hp _; rw [only p hp]
        isplitl [HT0]; · iexact HT0
        isplitl [HT1]; · iexact HT1
        isplitl [HT2]; · iexact HT2
        iexact Hr
      isplitl [Ho]; · iexact Ho
      isplitl [H0]; · iexact H0
      isplitl [H1]; · iexact H1
      rw [eo]; iexact H3
  · have h1 : ¬ fresh (crd a t) (wNa (a.1 1)) (wBe (crd a t) (a.1 0)) (wPrev (crd a t) (a.1 0)) = 1#1 := fun h => by
      rw [fresh_iff, wNa_eq] at h; exact hu h.1
    have h2 : ¬ k0_cond2 (crd a t) (wNa (a.1 1)) = 1#1 := fun h => hu (by rw [← wNa_eq]; exact (cond2_iff _ _).1 h)
    have h3 : k0_cond3 (crd a t) (wNa (a.1 1)) = 1#1 := (cond3_iff _ _).2 (by rw [wNa_eq]; exact hu)
    have eo : outB a V c t = k0_pay3 := if_neg hu
    iapply (body_past c (crd a t) (ms0 a t) (hs0 a t) (ms1 a t) (hs1 a t) (ms3 a t) (hs3 a t)
      (a.1 0) (a.1 1) (a.1 2) (xB a V c t) (gB a V c t) s0 h1 h2 h3 _)
    isplitl [H0]; · iexact H0
    isplitl [H1]; · iexact H1
    isplitl [HT0]; · iexact HT0
    isplitl [HT1]; · iexact HT1
    isplitl [HT2]; · iexact HT2
    isplitl [H3]; · iexists _; iexact H3
    isplitl [HS0]; · iexact HS0
    iintro ⟨H0, H1, HT0, HT1, HT2, H3, HS0⟩
    isplitl [HS0 HT0 HT1 HT2 Hr]
    · isplitl [HS0]
      · iexists _
        isplitr; swap
        · iexact HS0
        · ipureintro; intro p hp hi; rw [only p hp] at hi; exact absurd hi hu
      isplitl [HT0]; · iexact HT0
      isplitl [HT1]; · iexact HT1
      isplitl [HT2]; · iexact HT2
      iexact Hr
    isplitl [Ho]; · iexact Ho
    isplitl [H0]; · iexact H0
    isplitl [H1]; · iexact H1
    rw [eo]; iexact H3

/-- The obligation at every point. -/
theorem body_obligation (hag : Agree a) (c : Dev nD) : BodyObligation (dats a V 0 c) (defs₀ (F := F)) Variants.none () Set.univ := fun t => by
  rw [bigSep_W0]
  exact sound_body a V hag c t

/-! ## The launch -/

theorem share_eq (c : Dev nD) (w : Fin (cfgA a).W) : (dats a V 0 c).share w = fullShare := by unfold Dat.share; split <;> rfl

/-- The tables as the launch hands them to the region, one by one. -/
theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((tb0.view.loc (c : Thread nD τ) ↦{q 0} v 0) ∗ (tb1.view.loc (c : Thread nD τ) ↦{q 1} v 1) ∗ (tb2.view.loc (c : Thread nD τ) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- To hold the scratch buffer is to hold its whole buffer. -/
theorem sc0_eq (c : Dev nD) (f : Buf (Elt F) ((c : Thread nD τ).loc cc0_scratch0)) :
    (owns (c : Thread nD τ) sc0 fullShare f : sProp 𝕄) = (((c : Thread nD τ).loc cc0_scratch0) ↦{fullShare} f) :=
  owns_whole (c : Thread nD τ) cc0_scratch0 fullShare f

/-- The invariant at the first point, from the scratch buffer and the tables; -/
theorem phi_first (c : Dev nD) : iprop(Pipeline.ΦA spec0 c ∗ Pipeline.ΦT pre0 a.1 c) ⊢ (dats a V 0 c).Φ 0 := by
  unfold Pipeline.ΦA Pipeline.ΦT
  rw [prefHeld_eq, scopedRest0_eq, show (dats a V 0 c).Φ 0 = Phi a V c 0 from rfl]
  unfold Phi
  iintro ⟨⟨⟨%f0, HS0⟩, Hr⟩, HT0, HT1, HT2⟩
  isplitl [HS0]
  · iexists f0
    isplitr
    · ipureintro; intro p hp; exact absurd hp (Nat.succ_ne_zero _)
    rw [sc0_eq]; iexact HS0
  isplitl [HT0]; · iexact HT0
  isplitl [HT1]; · iexact HT1
  isplitl [HT2]; · iexact HT2
  iexact Hr

/-- and after the last point it gives the scratch buffer back. -/
theorem phi_last (c : Dev nD) : (dats a V 0 c).Φ (Fin.last (cfgA a).N) ⊢ Pipeline.ΦA spec0 c := by
  unfold Pipeline.ΦA
  rw [scopedRest0_eq, show (dats a V 0 c).Φ (Fin.last (cfgA a).N) = Phi a V c (Fin.last _) from rfl]
  unfold Phi
  iintro ⟨⟨%s0, -, HS0⟩, -, -, -, Hr⟩
  isplitr [Hr]
  · iexists s0; rw [← sc0_eq]; iexact HS0
  iexact Hr

end Points

/-! ## The run -/

section Run
variable (m : (ℓ : Loc nD τ sig) → Buf (Elt F) ℓ) (g : Dev nD → PrngReg)

/-- The arrays as the region finds them: after the host's operations. -/
abbrev Ve (c : Dev nD) (b : Ref sig .tc) : Buf (Elt F) ((c : Thread nD τ).loc b) := StableHlo.after (hostOps0 (F := F)) (fun b => m (c, b)) b

theorem hostOps0_fresh : (hostOps0 (F := F)).Forall fun op => op.fresh = ∅ := by
  unfold hostOps0; repeat' first | exact trivial | refine ⟨rfl, ?_⟩ | rfl

set_option backward.isDefEq.respectTransparency.types false in
/-- Every execution ends with the arrays the pipeline's data say and every semaphore at zero. -/
theorem run (a : (pcfg0 (F := F)).Adm) (hag : Agree a) (htab : ∀ (c : Dev nD) k, Ve m c (pre0.ref k) = a.1 k) :
    θ_run (defs (F := F)) (onTc (τ := τ) (main (F := F))) ⟨m, fun _ => 0, g⟩
      (fun r => Pipeline.FramePost (Pipeline.pin pcfgs fun _ => a) (dats a (Ve m)) 0 (Ve m) r ∧ r.2.sem = fun _ => 0) :=
  Pipeline.θ_run_frameP_track pcfgs (fun _ => a) (dats a (Ve m)) 0 (launch0 (F := F)) (defs₀ (F := F)) Variants.none m g main
    (hbody := fun c => (body_obligation a (Ve m) hag c).loose) (hshare := share_eq a (Ve m)) (howed := fun _ _ => rfl)
    (V := Ve m) (hmain := Pipeline.hmainP_prefix pcfgs 0 defs₀ Variants.none m main hostOps0 hostOps0_sub hostOps0_fresh main_chain)
    (hA := fun _ _ => rfl) (hpf := htab) (hin := phi_first a (Ve m)) (hout := phi_last a (Ve m))
    (Q' := fun r => Pipeline.FramePost (Pipeline.pin pcfgs fun _ => a) (dats a (Ve m)) 0 (Ve m) r ∧ r.2.sem = fun _ => 0) (hQ' := fun _ h => h)

end Run

end Cert.Kernel2Ideal.Down

end
-- ==== Proof.DownHost.lean ====
/- The table that the host computes for the weights' index map: block `n` reads the weights of the expert of block
   `min n (n_active - 1)`. -/
module

public import proofs.«01_k».proof.Proof.DownRun
public import proofs.«01_k».proof.Proof.Tables
public import Idealize.ShloMosaic.Lib.StableHlo.ReadAt

@[expose] public section

set_option maxRecDepth 16384

noncomputable section

namespace Cert.Kernel2Ideal.Down

open Cert.Kernel2Ideal Cert.Kernel2Ideal.Gen
open Idealize.ShloMosaic Idealize.ShloMosaic.TcCoe Idealize.SL.Sem
open Cert.Words (InUse)

variable {F : FTy → Type} [FloatOps F]
variable (m : (ℓ : Loc nD τ sig) → Buf (Elt F) ℓ)

/-- The arguments' tables on core `c`. -/
abbrev beA (c : Dev nD) : S72.Idx → BitVec 32 := m ((c : Thread nD τ).loc main_arg1)
abbrev naA (c : Dev nD) : S1.Idx → BitVec 32 := m ((c : Thread nD τ).loc main_arg2)

theorem Ve_arg1 (c : Dev nD) : Ve m c main_arg1 = beA m c := by
  unfold Ve; unfold_abbrev_sides; after_results
theorem Ve_arg2 (c : Dev nD) : Ve m c main_arg2 = naA m c := by
  unfold Ve; unfold_abbrev_sides; after_results

/-- A table whose every entry is repeated once is the table. -/
theorem table_rep {α : Type} (x : S72.Idx → α) (j : S72.Idx) :
    shapeCast S72 (broadcastInDim S72x1 ![0] bcast_S72_S72x1_0 x) shapeCasts_S72x1_S72 j = x j := by
  pointwise

/-- The table of experts repeats each argument's entry once. -/
theorem Ve_be (c : Dev nD) : (Ve m c main_v1 : S72.Idx → BitVec 32) = beA m c := by
  unfold Ve
  after_reads_simp
  funext j
  clean_types
  pointwise
/-- The number of blocks in use is the argument's times one. -/
theorem Ve_na (c : Dev nD) : (Ve m c main_v3 : S1.Idx → BitVec 32) = naA m c := by
  unfold Ve
  after_reads_simp
  funext j
  clean_types
  pointwise
  exact BitVec.mul_one _

set_option backward.isDefEq.respectTransparency.types false in
/-- Block `n` reads the weights of some block's expert: of its own, where it is in use. -/
theorem Ve_bw (c : Dev nD) (n : ℕ) (hn : n < 72) : ∃ (k : ℕ) (hk : k < 72),
    (Ve m c main_v15 : S72.Idx → BitVec 32) (ixB n hn) = beA m c (ixB k hk) ∧ (InUse (naA m c ix1) n → k = n) := by
  refine ⟨min (Words.posW 72#32 n (naA m c ix1)).toInt.toNat (72 - 1), by omega, ?_, Words.posW_inUse _ _ n (by decide) hn _⟩
  unfold Ve
  after_reads_simp
  have e : ixB n hn = Shape.Idx.ofFin (⟨n, hn⟩ : Fin 72) := by
    funext b; fin_cases b; rfl
  rw [e]
  refine (StableHlo.Predicate.gather_take gather_S72_S72x1_S72_n_0_n_n_0_1_1 rfl rfl rfl rfl _ _ (⟨n, hn⟩ : Fin 72) (by decide)).trans ?_
  refine (table_rep (beA m c) _).trans ?_
  refine congrArg (beA m c) (funext fun b => Fin.ext ?_)
  fin_cases b
  refine congrArg (fun w : BitVec 32 => min w.toInt.toNat (72 - 1)) ?_
  unfold Words.posW
  clean_types
  pointwise
  rw [show (Idealize.ShloMosaic.ix1 0 : S1.Idx) = ix1 from funext fun b => Fin.ext (by fin_cases b; rfl)]
  rw [show ∀ w : BitVec 32, IntOp.muli w 1#32 = w from fun w => BitVec.mul_one w]

/-! ## The tables are admitted -/

theorem na_at (pf : pre0.Contents (Elt F)) : pf.at 1 (Rect.unit (s := S1) ![0] S1.size inb_S1_S1_0) numel1_S1 = naOf pf :=
  congrArg (pf 1 : S1.Idx → Elt F .i32) (funext fun b => Fin.ext (by fin_cases b; rfl))

/-- The weights' index map at any tables. -/
theorem transform1_eq (pf : pre0.Contents (Elt F)) (i : grid0.Coords) :
    cc0_transform_1 k0_off1_inb numel1_S1 pf i = ![(bwOf pf (i 1).val (i 1).isLt).toNat, 0, (i 0).val] := by
  funext b; fin_cases b
  · exact congrArg BitVec.toNat (bw_at pf i)
  · rfl
  · exact coord0 i

/-- The rows' index map at any tables. -/
theorem transform0_eq (pf : pre0.Contents (Elt F)) (i : grid0.Coords) : cc0_transform_0 inb_S1_S1_0 numel1_S1 pf i
    = ![(Scalar.minsi (BitVec.ofNat 32 (i 1).val) (Scalar.subi (naOf pf) 1#32)).toNat, 0] := by
  exact congrArg (fun w : BitVec 32 => (![(Scalar.minsi (BitVec.ofNat 32 (i 1).val) (Scalar.subi w 1#32)).toNat, 0] : Fin 2 → ℕ)) (na_at pf)

theorem weights_in (n f : ℕ) (hn : n < 16) (hf : f < 4) : ∀ b, ((![n, 0, f] : Fin 3 → ℕ) b + 1) * S1x7168x512.size b ≤ S16x7168x2048.size b
  | ⟨0, _⟩ => by show (n + 1) * 1 ≤ 16; omega
  | ⟨1, _⟩ => by show (0 + 1) * 7168 ≤ 7168; omega
  | ⟨2, _⟩ => by show (f + 1) * 512 ≤ 2048; omega

theorem rows_in (n : ℕ) (hn : n < 72) : ∀ b, ((![n, 0] : Fin 2 → ℕ) b + 1) * S512x7168.size b ≤ S36864x7168.size b
  | ⟨0, _⟩ => by show (n + 1) * 512 ≤ 36864; omega
  | ⟨1, _⟩ => by show (0 + 1) * 7168 ≤ 7168; omega

/-- A row block starts and ends at whole words. -/
theorem rows_whole : ∀ (n : Fin 72) (h : ∀ b, ((![n.val, 0] : Fin 2 → ℕ) b + 1) * S512x7168.size b ≤ S36864x7168.size b),
    (Rect.block (s := S36864x7168) S512x7168.size ![n.val, 0] h).WholeWords (EltTy.packing .bf16) := by decide +kernel

/-- Every block that the index maps name is inside its array, where the weights' indices are below 16 and a block
    is in use. -/
theorem ok_of (pf : pre0.Contents (Elt F)) (hb : ∀ n (hn : n < 72), (bwOf pf n hn).toNat < 16) (hv : 1 ≤ (naOf pf).toInt) : ok0 pf := by
  refine ⟨fun i => ?_, fun i => ⟨?_, Or.inl rfl⟩⟩
  · have hl := Words.minsi_lt (naOf pf) hv 72 (i 1).val (by decide) (i 1).isLt
    rw [transform0_eq]
    generalize (Scalar.minsi (BitVec.ofNat 32 (i 1).val) (Scalar.subi (naOf pf) 1#32)).toNat = n at hl
    exact ⟨rows_in n hl, Or.inr (rows_whole ⟨n, hl⟩ (rows_in n hl))⟩
  · rw [transform1_eq]; exact weights_in _ _ (hb _ _) (i 0).isLt

/-- The tables' contents as the region finds them on the one core. -/
def tabs : pre0.Contents (Elt F) := fun k => Ve m (0 : Dev nD) (pre0.ref k)

theorem tabs_na : naOf (tabs m) = naA m 0 ix1 := congrFun (Ve_na m 0) ix1
theorem tabs_be (n : ℕ) (hn : n < 72) : beOf (tabs m) n hn = beA m 0 (ixB n hn) := congrFun (Ve_be m 0) (ixB n hn)

section Admitted
variable (hbe : ∀ j, (beA m 0 j).toNat < 16) (hna : ∀ j, 1 ≤ (naA m 0 j).toInt)

theorem bw_lt (hbe : ∀ j, (beA m 0 j).toNat < 16) (n : ℕ) (hn : n < 72) : (bwOf (tabs m) n hn).toNat < 16 := by
  obtain ⟨k, hk, e, _⟩ := Ve_bw m 0 n hn
  rw [show bwOf (tabs m) n hn = _ from e]
  exact hbe _

include hbe hna in
theorem ok : ok0 (tabs m) := ok_of _ (bw_lt m hbe) (by rw [tabs_na]; exact hna _)

/-- The tables with that. -/
def adm : (pcfg0 (F := F)).Adm := ⟨tabs m, ok m hbe hna⟩

/-- At a block in use the two tables name one expert. -/
theorem tabs_agree (n : ℕ) (hn : n < 72) (hu : InUse (naOf (tabs m)) n) : bwOf (tabs m) n hn = beOf (tabs m) n hn := by
  obtain ⟨k, hk, e, h⟩ := Ve_bw m 0 n hn
  rw [tabs_na] at hu
  obtain rfl := h hu
  rw [tabs_be, show bwOf (tabs m) k hn = _ from e]

theorem agree_of (pf : pre0.Contents (Elt F)) (hok : ok0 pf)
    (h : ∀ n (hn : n < 72), InUse (naOf pf) n → bwOf pf n hn = beOf pf n hn) : Agree ⟨pf, hok⟩ := h

theorem agree : Agree (adm m hbe hna) := agree_of (tabs m) (ok m hbe hna) (tabs_agree m)

theorem tabs_at (c : Dev nD) (k : Fin 3) : Ve m c (pre0.ref k) = (adm m hbe hna).1 k := by
  obtain rfl : c = 0 := Subsingleton.elim _ _
  rfl

theorem Ve_arg0 (c : Dev nD) : Ve m c main_arg0 = m ((c : Thread nD τ).loc main_arg0) := by
  unfold Ve; unfold_abbrev_sides; after_results
theorem Ve_arg3 (c : Dev nD) : Ve m c main_arg3 = m ((c : Thread nD τ).loc main_arg3) := by
  unfold Ve; unfold_abbrev_sides; after_results

theorem arr_ne_arg1 : ∀ w : Fin 3, (spec0 w).arr.view.ref ≠ main_arg1 := by decide
theorem arr_ne_arg2 : ∀ w : Fin 3, (spec0 w).arr.view.ref ≠ main_arg2 := by decide

variable (g : Dev nD → PrngReg)

/-- Every execution ends with the output array the pipeline's data say, the arguments unchanged and every semaphore at
    zero. -/
theorem run_out : θ_run (defs (F := F)) (onTc (τ := τ) (main (F := F))) ⟨m, fun _ => 0, g⟩ (fun r =>
    (∀ c : Dev nD, r.2.mem ((c : Thread nD τ).loc main_v16) = (dats (adm m hbe hna) (Ve m) 0 c).arrAt (2 : Fin 3) grid0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => ⟨h.1.out_eq c (2 : Fin 3), (h.1.in_eq c (0 : Fin 3) rfl).trans (Ve_arg0 m c),
      (h.1.rest_eq c main_arg1 (Pipeline.mem_restRefs_of main_arg1 rfl arr_ne_arg1)).trans (Ve_arg1 m c), (h.1.rest_eq c main_arg2 (Pipeline.mem_restRefs_of main_arg2 rfl arr_ne_arg2)).trans (Ve_arg2 m c),
      (h.1.in_eq c (1 : Fin 3) rfl).trans (Ve_arg3 m c)⟩, h.2⟩)
    (run m g (adm m hbe hna) (agree m hbe hna) (tabs_at m hbe hna))

end Admitted

end Cert.Kernel2Ideal.Down

end
-- ==== Proof.DownPay.lean ====
/- What one block of the output holds, element by element, from the blocks of the rows and of the weights. -/
module

public import proofs.«01_k».proof.Proof.Gen.Kernel2Ideal.Skeleton
public import Idealize.ShloMosaic.Lib.Pipeline.ValueKit

@[expose] public section

set_option maxRecDepth 16384

noncomputable section

namespace Cert.Kernel2Ideal.Down

open Cert.Kernel2Ideal Cert.Kernel2Ideal.Gen
open Idealize.ShloMosaic Idealize.ShloMosaic.TcCoe

/-- A block in use holds the product of its rows and its columns. -/
theorem pay_used (x : S512x7168.Idx → EReal) (w : S1x7168x512.Idx → EReal) (y : S512x512.Idx) :
    k0_pay2 (F := Ideal) x (k0_pay1 (F := Ideal) w) y = ∑ k : Fin 7168, x (ix2 (y 0) k) * w (ix3 0 k (y 1)) := by
  unfold k0_pay2 k0_pay1
  pointwise

/-- A block past the ones in use holds zero. -/
theorem pay_unused (y : S512x512.Idx) : k0_pay3 (F := Ideal) y = 0 := by
  unfold k0_pay3
  pointwise

end Cert.Kernel2Ideal.Down

end
-- ==== Proof.DownOut.lean ====
/- The output array after the run: every element is the mathematics' value of the arguments. -/
module

public import proofs.«01_k».proof.Proof.DownHost
public import proofs.«01_k».proof.Proof.DownPay
public import proofs.«01_k».proof.Proof.UpSpec
public import Idealize.ShloMosaic.Lib.Pipeline.Covers

@[expose] public section

set_option maxRecDepth 16384

noncomputable section

namespace Cert.Kernel2Ideal.Down

open Cert.Kernel2Ideal Cert.Kernel2Ideal.Gen
open Idealize.ShloMosaic Idealize.ShloMosaic.TcCoe Idealize.SL.Sem
open Cert.Words (InUse)

section
variable (a : (pcfg0 (F := Ideal)).Adm)

theorem index0 (t : Fin (cfgA a).N) (h : InUse (naOf a.1) (crd a t 1).val) :
    ((cfgA a).win (0 : Fin 3)).index t = ![(crd a t 1).val, 0] := by
  rw [show ((cfgA a).win (0 : Fin 3)).index t = cc0_transform_0 inb_S1_S1_0 numel1_S1 a.1 (grid0.coords t) from rfl,
    transform0_eq, Words.minsi_inUse _ _ (lt_trans (show (crd a t 1).val < 72 from (crd a t 1).isLt) (by decide)) h]

theorem coord1 (i : grid0.Coords) : (BitVec.ofNat 32 (i 1).val).toNat = (i 1).val :=
  (by decide +kernel : ∀ n : Fin 72, (BitVec.ofNat 32 n.val).toNat = n.val) (i 1)

theorem transform2_eq (i : grid0.Coords) : cc0_transform_2 i = ![(i 1).val, (i 0).val] := by
  funext b; fin_cases b
  · exact coord1 i
  · exact coord0 i

theorem index2 (t : Fin (cfgA a).N) : ((cfgA a).win (2 : Fin 3)).index t = ![(crd a t 1).val, (crd a t 0).val] :=
  transform2_eq (grid0.coords t)

theorem size2_pos : ∀ b, 0 < ((cfgA a).win (2 : Fin 3)).size b
  | ⟨0, _⟩ => by show 0 < 512; decide
  | ⟨1, _⟩ => by show 0 < 512; decide

theorem nblk2_0 : ((cfgA a).win (2 : Fin 3)).nblk (0 : Fin 2) = 72 := by
  show (36864 + 512 - 1) / 512 = 72; decide
theorem nblk2_1 : ((cfgA a).win (2 : Fin 3)).nblk (1 : Fin 2) = 4 := by
  show (2048 + 512 - 1) / 512 = 4; decide

/-- The point of row block `n` and column block `f`. -/
abbrev crdOf (n : Fin 72) (f : Fin 4) : grid0.Coords := fun | ⟨0, _⟩ => f | ⟨1, _⟩ => n

theorem map2 (n : Fin 72) (f : Fin 4) : ∀ b : Fin 2, ((cfgA a).win (2 : Fin 3)).indexMap (crdOf n f) b = (![n.val, f.val] : Fin 2 → ℕ) b :=
  fun b => congrFun (transform2_eq (crdOf n f)) b

/-- The blocks of the output tile its array. -/
theorem covers2 : ((cfgA a).win (2 : Fin 3)).Covers :=
  ((cfgA a).win (2 : Fin 3)).covers_of_indexMap_surj rfl (size2_pos a) fun β =>
    ⟨crdOf ⟨(β (0 : Fin 2)).val, lt_of_lt_of_eq (β (0 : Fin 2)).isLt (nblk2_0 a)⟩ ⟨(β (1 : Fin 2)).val, lt_of_lt_of_eq (β (1 : Fin 2)).isLt (nblk2_1 a)⟩,
      fun b => (map2 a _ _ b).trans (match b with | ⟨0, _⟩ => rfl | ⟨1, _⟩ => rfl)⟩

variable (V : (c : Dev nD) → (b : Ref sig .tc) → Buf (Elt Ideal) ((c : Thread nD τ).loc b))

/-- The output array's element from the tables and the arrays as the region finds them. -/
def G (c : Dev nD) : S36864x2048.Idx → EReal := fun i =>
  UpSpec.downOut (V c main_arg0) (fun n => beOf a.1 n.val n.isLt) (naOf a.1) (V c main_arg3) (i 0) (i 1)

theorem weight_of (hag : Agree a) (hb : ∀ n (hn : n < 72), (bwOf a.1 n hn).toNat < 16) {n : ℕ} (hu : InUse (naOf a.1) n) (hn : n < 72) :
    (bwOf a.1 n hn).toNat + 0 = (beOf a.1 n hn).toNat % 16 := by
  rw [← hag n hn hu, Nat.mod_eq_of_lt (hb n hn), Nat.add_zero]

set_option maxHeartbeats 1000000 in
/-- The output array after the run: a block in use holds the product of its rows with its expert's weights, another
    holds zero. -/
theorem arr_eq (hag : Agree a) (hb : ∀ n (hn : n < 72), (bwOf a.1 n hn).toNat < 16) (c : Dev nD) :
    (dats a V 0 c).arrAt (2 : Fin 3) grid0.N = G a V c := by
  refine (dats a V 0 c).arrAt_eq_of_covers (2 : Fin 3) _ (covers2 a) fun t hf y => ?_
  blk_simp
  rw [after3]
  unfold outB G UpSpec.downOut
  have hn := (crd a t 1).isLt
  have e0 : ((((cfgA a).win (2 : Fin 3)).blk t).view.emb y 0).val = (crd a t 1).val * 512 + (y (0 : Fin 2)).val := by
    blk_simp [index2 a t]
  have e1 : ((((cfgA a).win (2 : Fin 3)).blk t).view.emb y 1).val = (crd a t 0).val * 512 + (y (1 : Fin 2)).val := by
    blk_simp [index2 a t]
  have hy0 : (y (0 : Fin 2)).val < 512 := (y (0 : Fin 2)).isLt
  have hy1 : (y (1 : Fin 2)).val < 512 := (y (1 : Fin 2)).isLt
  generalize (((cfgA a).win (2 : Fin 3)).blk t).view.emb y = i at e0 e1 ⊢
  have ed : (i 0).val / 512 = (crd a t 1).val := by rw [e0]; omega
  simp only [ed]
  by_cases hu : InUse (naOf a.1) (crd a t 1).val
  · rw [if_pos hu, if_pos hu, pay_used]
    have hx : ∀ k : Fin 7168, xB a V c t (ix2 (y (0 : Fin 2)) k) = (V c main_arg0 : S36864x7168.Idx → EReal) (ix2 (i 0) k) := fun k => by
      unfold xB
      blk_simp [iblk]
      blk_ext [index0 a t hu]
    have hg : ∀ k : Fin 7168, gB a V c t (ix3 0 k (y (1 : Fin 2))) = (V c main_arg3 : S16x7168x2048.Idx → EReal)
        (ix3 ⟨(beOf a.1 (crd a t 1).val hn).toNat % 16, Nat.mod_lt _ (by decide)⟩ k (i 1)) := fun k => by
      unfold gB
      blk_simp [iblk]
      blk_ext [index1 a t]
      exact weight_of a hag hb hu hn
    unfold UpSpec.proj
    simp only [hx, hg]
  · rw [if_neg hu, if_neg hu, pay_unused]

end

variable (m : (ℓ : Loc nD τ sig) → Buf (Elt Ideal) ℓ)
variable (hbe : ∀ j, (beA m 0 j).toNat < 16) (hna : ∀ j, 1 ≤ (naA m 0 j).toInt)

/-- The output array as a function of the arguments. -/
def res (c : Dev nD) : S36864x2048.Idx → EReal := fun i =>
  UpSpec.downOut (m ((c : Thread nD τ).loc main_arg0)) (fun n => beA m c (ixB n.val n.isLt)) (naA m c ix1)
    (m ((c : Thread nD τ).loc main_arg3)) (i 0) (i 1)

theorem G_eq (pf : (pcfg0 (F := Ideal)).Adm) (h0 : ∀ n (hn : n < 72), beOf pf.1 n hn = beA m 0 (ixB n hn)) (h1 : naOf pf.1 = naA m 0 ix1) :
    G pf (Ve m) 0 = res m 0 :=
  funext fun i => UpSpec.downOut_congr (Ve_arg0 m 0) (funext fun n => h0 n.val n.isLt) h1 (Ve_arg3 m 0) (i 0) (i 1)

include hbe in
theorem arr_tabs (pf : (pcfg0 (F := Ideal)).Adm) (hp : pf.1 = tabs m) (hag : Agree pf) :
    (dats pf (Ve m) 0 0).arrAt (2 : Fin 3) grid0.N = res m 0 := by
  refine (arr_eq pf _ hag ?_ 0).trans (G_eq m pf ?_ ?_)
  · rw [hp]; exact bw_lt m hbe
  · rw [hp]; exact tabs_be m
  · rw [hp]; exact tabs_na m

theorem out_eq (c : Dev nD) : (dats (adm m hbe hna) (Ve m) 0 c).arrAt (2 : Fin 3) grid0.N = res m c := by
  obtain rfl : c = 0 := Subsingleton.elim _ _
  exact arr_tabs m hbe (adm m hbe hna) rfl (agree m hbe hna)

end Cert.Kernel2Ideal.Down

end
-- ==== Proof.DownRef.lean ====
/- What the reference computes: its array at an index is the mathematical output. -/
module

public import proofs.«01_k».proof.Proof.Gen.Reference2Ideal.Read
public import proofs.«01_k».proof.Proof.ExpertGather
public import proofs.«01_k».proof.Proof.UpSpec
public import Idealize.ShloMosaic.Lib.IdealHost

@[expose] public section

noncomputable section

namespace Cert.Reference2Ideal.Down

open Cert.Reference2Ideal Cert.Reference2Ideal.Gen Cert.Reference2Ideal.Read Idealize.ShloMosaic

variable (x : (⟨S36864x7168, .bf16⟩ : BufTy).Contents (Elt Ideal)) (be : (⟨S72, .i32⟩ : BufTy).Contents (Elt Ideal))
variable (na : (⟨S1, .i32⟩ : BufTy).Contents (Elt Ideal)) (wg : (⟨S16x7168x2048, .f32⟩ : BufTy).Contents (Elt Ideal))

/-- Entry `n` of the table, as an index of the table's array. -/
def entry (n : Fin 72) : S72.Idx := fun | ⟨0, _⟩ => n

variable (hb : ∀ j, (be j).toNat < 16)

include hb in
/-- The index the first gather reads for block `n` is the table's own entry. -/
theorem v7_at (n : Fin 72) : val_main_v7 (F := Ideal) be (ix2 n (0 : Fin 1)) = be (entry n) := by
  rw [val_main_v7_apply, val_main_v6_apply, val_main_v3_apply, val_main_v5_apply, val_main_v2_apply, val_main_v4_apply,
    val_main_c_apply, val_main_c_0_apply, ExpertGather.wrap_eq _ (hb _)]
  exact congrArg be (funext fun | ⟨0, _⟩ => rfl)

/-- The expert of block `n`. -/
abbrev expert (n : Fin 72) : Fin 16 := ⟨(be (entry n)).toNat % 16, Nat.mod_lt _ (by decide)⟩

include hb in
theorem expert_of (n : Fin 72) : (be (entry n)).toInt.toNat = (expert be n).val := by
  rw [ExpertGather.toInt_toNat _ (hb _)]
  exact (Nat.mod_eq_of_lt (hb _)).symm

include hb in
/-- The weights of block `n` are those of its expert. -/
theorem v8_at (n : Fin 72) (k : Fin 7168) (q : Fin 2048) :
    val_main_v8 (F := Ideal) be wg (ix3 n k q) = wg (ix3 (expert be n) k q) :=
  ExpertGather.stack_read _ wg _ n k q _ ((congrArg (fun w : BitVec 32 => w.toInt.toNat) (v7_at be hb n)).trans (expert_of be hb n))

/-- The rows in blocks: row `i` of block `n` is row `512 n + i`. -/
theorem v1_at (n : Fin 72) (i : Fin 512) (k : Fin 7168) (r : Fin 36864) (hr : r.val = n.val * 512 + i.val) :
    val_main_v1 (F := Ideal) x (ix3 n i k) = x (ix2 r k) := by
  rw [val_main_v1_apply, val_main_v0_apply]
  refine congrArg x (funext fun a => Fin.ext ?_)
  have hk := k.isLt
  match a with
  | ⟨0, _⟩ => show ((n.val * 512 + i.val) * 7168 + k.val) / 7168 = r.val; omega
  | ⟨1, _⟩ => show ((n.val * 512 + i.val) * 7168 + k.val) % 7168 = k.val; omega

include hb in
/-- The product with the weights. -/
theorem v9_at (n : Fin 72) (i : Fin 512) (q : Fin 2048) (r : Fin 36864) (hr : r.val = n.val * 512 + i.val) :
    val_main_v9 (F := Ideal) x be wg (ix3 n i q) = UpSpec.proj x wg (expert be n) r q := by
  rw [val_main_v9_apply]
  refine Finset.sum_congr rfl fun k _ => congrArg₂ (· * ·) ?_ ?_
  · have e : lidx_main_v9 (ix3 n i q) k = ix3 n i k := funext fun | ⟨0, _⟩ => rfl | ⟨1, _⟩ => rfl | ⟨2, _⟩ => rfl
    rw [e]
    exact v1_at x n i k r hr
  · have e : ridx_main_v9 (ix3 n i q) k = ix3 n k q := funext fun | ⟨0, _⟩ => rfl | ⟨1, _⟩ => rfl | ⟨2, _⟩ => rfl
    rw [e]
    exact v8_at be wg hb n k q

/-- Whether block `n` is in use. -/
theorem used_at (n : Fin 72) (i : Fin 512) (q : Fin 2048) :
    val_main_call0_v1 (F := Ideal) na (ix3 n i q) = BitVec.ofBool ((BitVec.ofNat 32 n.val).slt (na (ix1 (0 : Fin 1)))) := by
  rw [val_main_call0_v1_apply, val_main_v14_apply, val_main_v13_apply, val_main_v10_apply, val_main_v12_apply]
  have hw : val_main_v11 (F := Ideal) na (idx_main_v12 (idx_main_v14 (idx_main_call0_v1 (ix3 n i q)))) = na (ix1 (0 : Fin 1)) := by
    unfold val_main_v11
    refine congrArg na (funext fun | ⟨0, _⟩ => Subsingleton.elim (α := Fin 1) _ _)
  rw [hw]
  rfl

include hb in
/-- The reference's array is the mathematical output. -/
theorem value_eq (i : S36864x2048.Idx) :
    val_main_v16 (F := Ideal) x be na wg i = UpSpec.downOut x (fun n => be (entry n)) (na (ix1 (0 : Fin 1))) wg (i 0) (i 1) := by
  rw [val_main_v16_apply]
  have h0 : (i 0).val < 36864 := (i 0).isLt
  have h1 : (i 1).val < 2048 := (i 1).isLt
  have hi : idx_main_v16 i = ix3 (⟨(i 0).val / 512, by omega⟩ : Fin 72) (⟨(i 0).val % 512, by omega⟩ : Fin 512) (⟨(i 1).val, h1⟩ : Fin 2048) := funext fun
    | ⟨0, _⟩ => Fin.ext (by show ((i 0).val * 2048 + (i 1).val) / 1048576 = (i 0).val / 512; omega)
    | ⟨1, _⟩ => Fin.ext (by show ((i 0).val * 2048 + (i 1).val) / 2048 % 512 = (i 0).val % 512; omega)
    | ⟨2, _⟩ => Fin.ext (by show ((i 0).val * 2048 + (i 1).val) % 2048 = (i 1).val; omega)
  rw [hi, val_main_v15_apply, used_at, v9_at x be wg hb _ _ _ (i 0) (by show (i 0).val = (i 0).val / 512 * 512 + (i 0).val % 512; omega),
    val_main_call0_v2_apply, val_main_call0_v0_apply, val_main_cst_apply]
  unfold UpSpec.downOut
  show Scalar.select _ _ (Ideal.ofBits .f32 0x00000000#32) = _
  rw [Ideal.ofBits_zero_f32]
  cases h : (BitVec.ofNat 32 ((i 0).val / 512)).slt (na (ix1 (0 : Fin 1)))
  · rw [if_neg (by decide)]; rfl
  · rw [if_pos rfl]; rfl

end Cert.Reference2Ideal.Down

end
-- ==== Proof.DownSame.lean ====
/- The routed experts' down projection: the program read at the machine's floats and the program read on the extended
   reals are one text, so what is proved of the one for any reading of the floats holds of the other. -/
module

public import proofs.«01_k».proof.Proof.Gen.Kernel2.Skeleton
public import proofs.«01_k».proof.Proof.Gen.Kernel2Ideal.Skeleton

@[expose] public section

set_option maxRecDepth 16384

noncomputable section

namespace Cert.DownSame

open Idealize.ShloMosaic Idealize.SL.Sem Cert.Kernel2.Gen Cert.Kernel2Ideal.Gen

variable {F : FTy → Type} [FloatOps F]

/-- The kernel's body is the same. -/
theorem body_eq : Cert.Kernel2.defs₀ (F := F) = Cert.Kernel2Ideal.defs₀ (F := F) := by
  funext p l a
  match p, l, a with
  | .tc, ⟨0, _⟩, (t, s) => rfl
  | .scScalar _, ⟨0, _⟩, (t, s) => rfl
  | .scVector _ _, ⟨0, _⟩, (t, s) => rfl

/-- So is the table of bodies, with the call's pipeline in it. -/
theorem defs_eq : Cert.Kernel2.defs (F := F) = Cert.Kernel2Ideal.defs (F := F) := congrArg (Pipeline.defs Cert.Kernel2.pcfgs) body_eq

set_option maxHeartbeats 4000000 in
/-- So is the host's program. -/
theorem main_eq : Cert.Kernel2.main (F := F) = Cert.Kernel2Ideal.main (F := F) := rfl

end Cert.DownSame

end
-- ==== Proof.DownClaims.lean ====
/- The claims about the routed experts' down projection: the kernel runs, leaves its arguments and its semaphores as it
   found them, and computes what the reference computes. -/
module

public import proofs.«01_k».proof.Defs
public import proofs.«01_k».proof.Proof.Tables
public import proofs.«01_k».proof.Proof.DownOut
public import proofs.«01_k».proof.Proof.DownRef
public import proofs.«01_k».proof.Proof.DownSame
public import proofs.«01_k».proof.Proof.Runs
public import Idealize.ShloMosaic.Lib.Claim

@[expose] public section

noncomputable section

namespace Cert.DownClaims

open Idealize.ShloMosaic Idealize.SL.Sem Cert.Kernel2.Gen Cert.Kernel2Ideal.Gen Cert.Reference2Ideal.Gen Cert.Pre_table_ok2.Gen

/-- The kernel runs and changes no argument. -/
theorem frame_kernel : quiescent_Kernel2 := fun m g hp =>
  have ht := Cert.Tables.of_pre2 _ _ _ _ (hp 0)
  Runs.run_congr DownSame.defs_eq DownSame.main_eq
    ((θ_run _ _ _).mono (fun _ h => ⟨fun c => (h.1 c).2, h.2⟩) (Cert.Kernel2Ideal.Down.run_out (F := Bits) m ht.1 ht.2 g))

/-- So does the kernel on the extended reals. -/
theorem frame_ideal : quiescent_Kernel2Ideal := fun m g hp =>
  have ht := Cert.Tables.of_pre2 _ _ _ _ (hp 0)
  (θ_run _ _ _).mono (fun _ h => ⟨fun c => (h.1 c).2, h.2⟩) (Cert.Kernel2Ideal.Down.run_out m ht.1 ht.2 g)

/-- So does the reference. -/
theorem frame_reference : quiescent_Reference2Ideal := fun m g _ =>
  (θ_run _ _ _).mono (fun r h => ⟨fun c => (h c).2, sem_eq_zero_of_no_sems (by decide) r.2⟩) (Cert.Reference2Ideal.Value.run m g)

/-- So does the reference from tables within the precondition. -/
theorem frame_reference_pre : quiescent_Reference2Ideal_pre_table_ok2 := fun m g _ => frame_reference m g trivial

/-- The kernel's array and the reference's are one. -/
theorem equal : algebraic_Kernel2Ideal_Reference2Ideal := fun m g m' g' hp ha =>
  have ht := Cert.Tables.of_pre2 _ _ _ _ (hp 0)
  ⟨fun c => Cert.Kernel2Ideal.Down.res m c,
    (θ_run _ _ _).mono (fun _ h c => ⟨(h.1 c).1.trans (Cert.Kernel2Ideal.Down.out_eq m ht.1 ht.2 c), (h.1 c).2⟩)
      (Cert.Kernel2Ideal.Down.run_out m ht.1 ht.2 g),
    (θ_run _ _ _).mono (fun _ h c => ⟨(h c).1.trans (by
        obtain rfl : c = 0 := Subsingleton.elim _ _
        rw [Cert.Reference2Ideal.Read.val_main_v16_eq]
        obtain ⟨a0, a1, a2, a3⟩ := ha 0
        rw [a0, a1, a2, a3]
        funext i
        rw [Cert.Reference2Ideal.Down.value_eq _ _ _ _ ht.1 i]
        exact UpSpec.downOut_congr rfl (funext fun n => congrArg _ (funext fun | ⟨0, _⟩ => rfl)) (congrArg _ (funext fun | ⟨0, _⟩ => rfl)) rfl _ _), (h c).2⟩)
      (Cert.Reference2Ideal.Value.run m' g')⟩

end Cert.DownClaims

end
-- ==== Proof.DenseUpBody.lean ====
/- What the body of the dense up projection does at one grid point, by its three control cases: a block in use
   whose expert differs from the one before (its weight tiles are converted into the two scratch buffers first), a
   block in use whose weight tiles are already there, and a block past the last one in use (zeros). -/
module

public import proofs.«01_k».proof.Proof.Gen.Kernel3Ideal.Skeleton
public import proofs.«01_k».proof.Proof.Gen.Kernel3Ideal.Launch
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.Lib.Pipeline.ValueKit

@[expose] public section

set_option maxRecDepth 16384

noncomputable section

namespace Cert.Kernel3Ideal.DenseUp

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table that names each block's expert, the number of blocks in use, and the table of the weights' blocks. -/
abbrev tb0 : Memref sig .tc .smem S16 .i32 := Memref.whole main_v0
abbrev tb1 : Memref sig .tc .smem S1 .i32 := Memref.whole main_v1
abbrev tb2 : Memref sig .tc .smem S16 .i32 := Memref.whole main_v13

/-- The two scratch buffers, of the gate's and of the up projection's weight tile. -/
abbrev sc0 : Memref sig .tc .vmem S2048x512 .bf16 := Memref.whole cc0_scratch0
abbrev sc1 : Memref sig .tc .vmem S2048x512 .bf16 := Memref.whole cc0_scratch1

/-- The words the body loads: the number of blocks in use, this block's expert, the expert of the block before. -/
abbrev wNa (T1 : S1.Idx → Elt F .i32) : Elt F .i32 :=
  View.readAt (Elt F) tb1.view (Rect.unit (s := S1) ![0] S1.size inb_S1_S1_0).toLoadRect T1 (Shape.Idx.first (numel1_S1.symm ▸ Nat.one_pos))
abbrev wBe (i : grid0.Coords) (T0 : S16.Idx → Elt F .i32) : Elt F .i32 :=
  View.readAt (Elt F) tb0.view (Rect.unit (s := S16) (k0_off1 i) S1.size (k0_off1_inb i)).toLoadRect T0 (Shape.Idx.first (numel1_S1.symm ▸ Nat.one_pos))
abbrev wPrev (i : grid0.Coords) (T0 : S16.Idx → Elt F .i32) : Elt F .i32 :=
  View.readAt (Elt F) tb0.view (Rect.unit (s := S16) (k0_off2 i) S1.size (k0_off2_inb i)).toLoadRect T0 (Shape.Idx.first (numel1_S1.symm ▸ Nat.one_pos))

/-- The condition under which the body converts the weight tiles, over the words it loads. -/
def fresh (i : grid0.Coords) (v0 v4 v8 : BitVec 32) : BitVec 1 :=
  Scalar.cmpi .ne (Scalar.extui (Scalar.andi (Scalar.cmpi .slt (BitVec.ofNat 32 (i 1).val) v0)
    (Scalar.ori (Scalar.cmpi .eq (BitVec.ofNat 32 (i 1).val) 0#32) (Scalar.cmpi .ne v4 v8))) : BitVec 32) 0#32

set_option maxHeartbeats 4000000 in
/-- A block in use with a new expert: both scratch buffers end at the converted weight tiles, and the output block at
    the gated product computed from them. -/
theorem body_fresh (c : Dev nD) (i : grid0.Coords) (arg5 : Memref sig .tc .vmem S1024x2048 .bf16) (harg5 : arg5.IsWhole) (arg6 : Memref sig .tc .vmem S1x2048x512 .f32) (harg6 : arg6.IsWhole) (arg7 : Memref sig .tc .vmem S1x2048x512 .f32) (harg7 : arg7.IsWhole) (arg8 : Memref sig .tc .vmem S1024x512 .bf16) (harg8 : arg8.IsWhole)
    (T0 : S16.Idx → Elt F .i32) (T1 : S1.Idx → Elt F .i32) (T2 : S16.Idx → Elt F .i32)
    (x0 : S1024x2048.Idx → Elt F .bf16) (x1 x2 : S1x2048x512.Idx → Elt F .f32) (s0 s1 : S2048x512.Idx → Elt F .bf16)
    (h1 : fresh i (wNa T1) (wBe i T0) (wPrev i T0) = 1#1) (h2 : k0_cond2 i (wNa T1) = 1#1) (h3 : ¬ k0_cond3 i (wNa T1) = 1#1) (K : PUnit → sProp 𝕄) :
    iprop(owns (c : Thread nD τ) arg5 fullShare x0 ∗ owns (c : Thread nD τ) arg6 fullShare x1 ∗ owns (c : Thread nD τ) arg7 fullShare x2
        ∗ (tb0.view.loc (c : Thread nD τ) ↦{fullShare.right} T0) ∗ (tb1.view.loc (c : Thread nD τ) ↦{fullShare.right} T1) ∗ (tb2.view.loc (c : Thread nD τ) ↦{fullShare.right} T2)
        ∗ (∃ d, owns (c : Thread nD τ) arg8 fullShare d)
        ∗ owns (c : Thread nD τ) sc0 fullShare s0 ∗ owns (c : Thread nD τ) sc1 fullShare s1
        ∗ (iprop(owns (c : Thread nD τ) arg5 fullShare x0 ∗ owns (c : Thread nD τ) arg6 fullShare x1 ∗ owns (c : Thread nD τ) arg7 fullShare x2
            ∗ (tb0.view.loc (c : Thread nD τ) ↦{fullShare.right} T0) ∗ (tb1.view.loc (c : Thread nD τ) ↦{fullShare.right} T1) ∗ (tb2.view.loc (c : Thread nD τ) ↦{fullShare.right} T2)
            ∗ owns (c : Thread nD τ) arg8 fullShare (k0_pay3 x0 (k0_pay1 x1) (k0_pay2 x2))
            ∗ owns (c : Thread nD τ) sc0 fullShare (k0_pay1 x1) ∗ owns (c : Thread nD τ) sc1 fullShare (k0_pay2 x2)) -∗ K ⟨⟩))
      ⊢ wp frame (wpE (defs₀ (F := F)) Variants.none c none) Set.univ (cc0_ffn_up i tb0 (Memref.isWhole_whole _) tb1 (Memref.isWhole_whole _) tb2 (Memref.isWhole_whole _) arg5 harg5 arg6 harg6 arg7 harg7 arg8 harg8 sc0 (Memref.isWhole_whole _) sc1 (Memref.isWhole_whole _)) K := by
  rw [cc0_ffn_up_eq_skeleton]; unfold cc0_ffn_up_skel
  unfold owns
  iintro ⟨⟨%f0, %hf0, H0⟩, ⟨%f1, %hf1, H1⟩, ⟨%f2, %hf2, H2⟩, HT0, HT1, HT2, ⟨%d3, %f3, -, HO3⟩, ⟨%g0, -, HS0⟩, ⟨%g1, -, HS1⟩, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  have hT2 : tb2.IsWhole := Memref.isWhole_whole _
  sl_exec! (disch := first | (guard_target = k0_cond2 _ _ = _; exact h2) | (guard_target = ¬(k0_cond3 _ _ = _); exact h3) | exact h1)
  sl_step
  iapply Hk
  isplitl [H0]
  · iexists f0; isplitr
    · ipureintro; exact hf0
    · iexact H0
  isplitl [H1]
  · iexists f1; isplitr
    · ipureintro; exact hf1
    · iexact H1
  isplitl [H2]
  · iexists f2; isplitr
    · ipureintro; exact hf2
    · iexact H2
  isplitl [HT0]; · iexact HT0
  isplitl [HT1]; · iexact HT1
  isplitl [HT2]; · iexact HT2
  subst hf0 hf1 hf2
  isplitl [HO3]
  · iexists _; isplitr; swap
    · iexact HO3
    · ipureintro
      sl_unfold_words
      frame_out
  isplitl [HS0]
  · iexists _; isplitr; swap
    · iexact HS0
    · ipureintro
      sl_unfold_words
      frame_out
  iexists _; isplitr; swap
  · iexact HS1
  · ipureintro
    sl_unfold_words
    frame_out

set_option maxHeartbeats 4000000 in
/-- A block in use whose expert is the one before it: the scratch buffers are read and kept. -/
theorem body_kept (c : Dev nD) (i : grid0.Coords) (arg5 : Memref sig .tc .vmem S1024x2048 .bf16) (harg5 : arg5.IsWhole) (arg6 : Memref sig .tc .vmem S1x2048x512 .f32) (harg6 : arg6.IsWhole) (arg7 : Memref sig .tc .vmem S1x2048x512 .f32) (harg7 : arg7.IsWhole) (arg8 : Memref sig .tc .vmem S1024x512 .bf16) (harg8 : arg8.IsWhole)
    (T0 : S16.Idx → Elt F .i32) (T1 : S1.Idx → Elt F .i32) (T2 : S16.Idx → Elt F .i32)
    (x0 : S1024x2048.Idx → Elt F .bf16) (x1 x2 : S1x2048x512.Idx → Elt F .f32) (s0 s1 : S2048x512.Idx → Elt F .bf16)
    (h1 : ¬ fresh i (wNa T1) (wBe i T0) (wPrev i T0) = 1#1) (h2 : k0_cond2 i (wNa T1) = 1#1) (h3 : ¬ k0_cond3 i (wNa T1) = 1#1) (K : PUnit → sProp 𝕄) :
    iprop(owns (c : Thread nD τ) arg5 fullShare x0 ∗ owns (c : Thread nD τ) arg6 fullShare x1 ∗ owns (c : Thread nD τ) arg7 fullShare x2
        ∗ (tb0.view.loc (c : Thread nD τ) ↦{fullShare.right} T0) ∗ (tb1.view.loc (c : Thread nD τ) ↦{fullShare.right} T1) ∗ (tb2.view.loc (c : Thread nD τ) ↦{fullShare.right} T2)
        ∗ (∃ d, owns (c : Thread nD τ) arg8 fullShare d)
        ∗ owns (c : Thread nD τ) sc0 fullShare s0 ∗ owns (c : Thread nD τ) sc1 fullShare s1
        ∗ (iprop(owns (c : Thread nD τ) arg5 fullShare x0 ∗ owns (c : Thread nD τ) arg6 fullShare x1 ∗ owns (c : Thread nD τ) arg7 fullShare x2
            ∗ (tb0.view.loc (c : Thread nD τ) ↦{fullShare.right} T0) ∗ (tb1.view.loc (c : Thread nD τ) ↦{fullShare.right} T1) ∗ (tb2.view.loc (c : Thread nD τ) ↦{fullShare.right} T2)
            ∗ owns (c : Thread nD τ) arg8 fullShare (k0_pay3 x0 s0 s1)
            ∗ owns (c : Thread nD τ) sc0 fullShare s0 ∗ owns (c : Thread nD τ) sc1 fullShare s1) -∗ K ⟨⟩))
      ⊢ wp frame (wpE (defs₀ (F := F)) Variants.none c none) Set.univ (cc0_ffn_up i tb0 (Memref.isWhole_whole _) tb1 (Memref.isWhole_whole _) tb2 (Memref.isWhole_whole _) arg5 harg5 arg6 harg6 arg7 harg7 arg8 harg8 sc0 (Memref.isWhole_whole _) sc1 (Memref.isWhole_whole _)) K := by
  rw [cc0_ffn_up_eq_skeleton]; unfold cc0_ffn_up_skel
  unfold owns
  iintro ⟨⟨%f0, %hf0, H0⟩, ⟨%f1, %hf1, H1⟩, ⟨%f2, %hf2, H2⟩, HT0, HT1, HT2, ⟨%d3, %f3, -, HO3⟩, ⟨%g0, %hg0, HS0⟩, ⟨%g1, %hg1, HS1⟩, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  have hT2 : tb2.IsWhole := Memref.isWhole_whole _
  sl_exec! (disch := first | (guard_target = k0_cond2 _ _ = _; exact h2) | (guard_target = ¬(k0_cond3 _ _ = _); exact h3) | exact h1)
  sl_step
  iapply Hk
  isplitl [H0]
  · iexists f0; isplitr
    · ipureintro; exact hf0
    · iexact H0
  isplitl [H1]
  · iexists f1; isplitr
    · ipureintro; exact hf1
    · iexact H1
  isplitl [H2]
  · iexists f2; isplitr
    · ipureintro; exact hf2
    · iexact H2
  isplitl [HT0]; · iexact HT0
  isplitl [HT1]; · iexact HT1
  isplitl [HT2]; · iexact HT2
  subst hf0 hf1 hf2 hg0 hg1
  isplitl [HO3]
  · iexists _; isplitr; swap
    · iexact HO3
    · ipureintro
      sl_unfold_words
      frame_out
  isplitl [HS0]
  · iexists g0; isplitr
    · ipureintro; rfl
    · iexact HS0
  iexists g1; isplitr
  · ipureintro; rfl
  · iexact HS1

set_option maxHeartbeats 4000000 in
/-- A block past the last one in use: zeros, and the scratch buffers are kept. -/
theorem body_past (c : Dev nD) (i : grid0.Coords) (arg5 : Memref sig .tc .vmem S1024x2048 .bf16) (harg5 : arg5.IsWhole) (arg6 : Memref sig .tc .vmem S1x2048x512 .f32) (harg6 : arg6.IsWhole) (arg7 : Memref sig .tc .vmem S1x2048x512 .f32) (harg7 : arg7.IsWhole) (arg8 : Memref sig .tc .vmem S1024x512 .bf16) (harg8 : arg8.IsWhole)
    (T0 : S16.Idx → Elt F .i32) (T1 : S1.Idx → Elt F .i32) (T2 : S16.Idx → Elt F .i32)
    (x0 : S1024x2048.Idx → Elt F .bf16) (x1 x2 : S1x2048x512.Idx → Elt F .f32) (s0 s1 : S2048x512.Idx → Elt F .bf16)
    (h1 : ¬ fresh i (wNa T1) (wBe i T0) (wPrev i T0) = 1#1) (h2 : ¬ k0_cond2 i (wNa T1) = 1#1) (h3 : k0_cond3 i (wNa T1) = 1#1) (K : PUnit → sProp 𝕄) :
    iprop(owns (c : Thread nD τ) arg5 fullShare x0 ∗ owns (c : Thread nD τ) arg6 fullShare x1 ∗ owns (c : Thread nD τ) arg7 fullShare x2
        ∗ (tb0.view.loc (c : Thread nD τ) ↦{fullShare.right} T0) ∗ (tb1.view.loc (c : Thread nD τ) ↦{fullShare.right} T1) ∗ (tb2.view.loc (c : Thread nD τ) ↦{fullShare.right} T2)
        ∗ (∃ d, owns (c : Thread nD τ) arg8 fullShare d)
        ∗ owns (c : Thread nD τ) sc0 fullShare s0 ∗ owns (c : Thread nD τ) sc1 fullShare s1
        ∗ (iprop(owns (c : Thread nD τ) arg5 fullShare x0 ∗ owns (c : Thread nD τ) arg6 fullShare x1 ∗ owns (c : Thread nD τ) arg7 fullShare x2
            ∗ (tb0.view.loc (c : Thread nD τ) ↦{fullShare.right} T0) ∗ (tb1.view.loc (c : Thread nD τ) ↦{fullShare.right} T1) ∗ (tb2.view.loc (c : Thread nD τ) ↦{fullShare.right} T2)
            ∗ owns (c : Thread nD τ) arg8 fullShare k0_pay4
            ∗ owns (c : Thread nD τ) sc0 fullShare s0 ∗ owns (c : Thread nD τ) sc1 fullShare s1) -∗ K ⟨⟩))
      ⊢ wp frame (wpE (defs₀ (F := F)) Variants.none c none) Set.univ (cc0_ffn_up i tb0 (Memref.isWhole_whole _) tb1 (Memref.isWhole_whole _) tb2 (Memref.isWhole_whole _) arg5 harg5 arg6 harg6 arg7 harg7 arg8 harg8 sc0 (Memref.isWhole_whole _) sc1 (Memref.isWhole_whole _)) K := by
  rw [cc0_ffn_up_eq_skeleton]; unfold cc0_ffn_up_skel
  unfold owns
  iintro ⟨⟨%f0, %hf0, H0⟩, ⟨%f1, %hf1, H1⟩, ⟨%f2, %hf2, H2⟩, HT0, HT1, HT2, ⟨%d3, %f3, -, HO3⟩, ⟨%g0, %hg0, HS0⟩, ⟨%g1, %hg1, HS1⟩, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  have hT2 : tb2.IsWhole := Memref.isWhole_whole _
  sl_exec! (disch := first | (guard_target = ¬(k0_cond2 _ _ = _); exact h2) | (guard_target = k0_cond3 _ _ = _; exact h3) | exact h1)
  sl_step
  iapply Hk
  isplitl [H0]
  · iexists f0; isplitr
    · ipureintro; exact hf0
    · iexact H0
  isplitl [H1]
  · iexists f1; isplitr
    · ipureintro; exact hf1
    · iexact H1
  isplitl [H2]
  · iexists f2; isplitr
    · ipureintro; exact hf2
    · iexact H2
  isplitl [HT0]; · iexact HT0
  isplitl [HT1]; · iexact HT1
  isplitl [HT2]; · iexact HT2
  subst hf0 hf1 hf2 hg0 hg1
  isplitl [HO3]
  · iexists _; isplitr; swap
    · iexact HO3
    · ipureintro
      sl_unfold_words
      frame_out
  isplitl [HS0]
  · iexists g0; isplitr
    · ipureintro; rfl
    · iexact HS0
  iexists g1; isplitr
  · ipureintro; rfl
  · iexact HS1

end Cert.Kernel3Ideal.DenseUp

end
-- ==== Proof.DenseUpRun.lean ====
/- The run of the dense up projection: at tables the program admits, what the scratch buffers hold between points,
   the body's obligation at every point, and the launch. -/
module

public import proofs.«01_k».proof.Proof.DenseUpBody
public import proofs.«01_k».proof.Proof.Words
public import Idealize.ShloMosaic.Lib.Pipeline.Frame
public import Idealize.ShloMosaic.Lib.Pipeline.TableIdle
public import Idealize.ShloMosaic.Lib.Pipeline.Kit

@[expose] public section

set_option maxRecDepth 16384

noncomputable section

namespace Cert.Kernel3Ideal.DenseUp

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Words (InUse)
open Idealize.ShloMosaic.Pipeline (Dat Cfg Window BodyObligation BodyObligationLoose cellOf)

variable {F : FTy → Type} [FloatOps F]

local notation "𝕄" => MT nD τ sig Unit (Elt F) ℕ (UR sig nD τ) ℕ

/-! ## The words -/

/-- The index `n` into a table of 16 words, and the one index into a table of one word. -/
abbrev ixB (n : ℕ) (hn : n < 16) : S16.Idx := fun a => ⟨n, by fin_cases a; exact hn⟩
abbrev ix1 : S1.Idx := fun a => ⟨0, by fin_cases a; exact Nat.one_pos⟩

/-- The number of blocks in use, read off its table. -/
abbrev naOf (pf : pre0.Contents (Elt F)) : BitVec 32 := (pf 1 : S1.Idx → Elt F .i32) ix1
/-- Block `n`'s expert. -/
abbrev beOf (pf : pre0.Contents (Elt F)) (n : ℕ) (hn : n < 16) : BitVec 32 := (pf 0 : S16.Idx → Elt F .i32) (ixB n hn)
/-- The index of the weights that block `n` reads. -/
abbrev bwOf (pf : pre0.Contents (Elt F)) (n : ℕ) (hn : n < 16) : BitVec 32 := (pf 2 : S16.Idx → Elt F .i32) (ixB n hn)

theorem wNa_eq (pf : pre0.Contents (Elt F)) : wNa (pf 1) = naOf pf :=
  congrArg (pf 1 : S1.Idx → Elt F .i32) (funext fun a => Fin.ext (by fin_cases a; rfl))

theorem off1_val (i : grid0.Coords) : k0_off1 i 0 = (i 1).val :=
  (by decide +kernel : ∀ n : Fin 16, (Scalar.indexCast (BitVec.ofNat 32 n.val) : Index).toNat = n.val) (i 1)

theorem off2_val (i : grid0.Coords) : k0_off2 i 0 = (i 1).val - 1 :=
  (by decide +kernel : ∀ n : Fin 16, (Scalar.indexCast (Scalar.maxsi (Scalar.subi (BitVec.ofNat 32 n.val) 1#32) 0#32) : Index).toNat = n.val - 1) (i 1)

theorem wBe_eq (pf : pre0.Contents (Elt F)) (i : grid0.Coords) : wBe i (pf 0) = beOf pf (i 1).val (i 1).isLt :=
  congrArg (pf 0 : S16.Idx → Elt F .i32) (funext fun a => Fin.ext (by fin_cases a; exact off1_val i))

theorem wPrev_eq (pf : pre0.Contents (Elt F)) (i : grid0.Coords) :
    wPrev i (pf 0) = beOf pf ((i 1).val - 1) (lt_of_le_of_lt (Nat.sub_le _ _) (i 1).isLt) :=
  congrArg (pf 0 : S16.Idx → Elt F .i32) (funext fun a => Fin.ext (by fin_cases a; exact off2_val i))

theorem cond2_iff (i : grid0.Coords) (v : BitVec 32) : k0_cond2 i v = 1#1 ↔ InUse v (i 1).val :=
  (by decide : ∀ b : Bool, Scalar.cmpi .ne (Scalar.extui (BitVec.ofBool b) : BitVec 32) 0#32 = 1#1 ↔ b = true) _

theorem cond3_iff (i : grid0.Coords) (v : BitVec 32) : k0_cond3 i v = 1#1 ↔ ¬ InUse v (i 1).val :=
  (by decide : ∀ b : Bool, Scalar.cmpi .ne (Scalar.extui (Scalar.xori (BitVec.ofBool b) 1#1) : BitVec 32) 0#32 = 1#1 ↔ ¬ b = true) _

theorem fresh_iff (i : grid0.Coords) (v a b : BitVec 32) :
    fresh i v a b = 1#1 ↔ InUse v (i 1).val ∧ ((i 1).val = 0 ∨ a ≠ b) := by
  have h0 := Words.eq_zero_small (i 1).val (lt_trans (show (i 1).val < 16 from (i 1).isLt) (by decide))
  have h1 : ((a != b) = true) ↔ a ≠ b := bne_iff_ne
  rw [← h0, ← h1]
  exact (by decide : ∀ p q r : Bool, Scalar.cmpi .ne (Scalar.extui (Scalar.andi (BitVec.ofBool p)
    (Scalar.ori (BitVec.ofBool q) (BitVec.ofBool r))) : BitVec 32) 0#32 = 1#1 ↔ p = true ∧ (q = true ∨ r = true)) _ _ _

/-! ## The pipeline at admitted tables -/

/-- The pipeline's windows and grid at the tables' contents `a`. -/
abbrev cfgA (a : (pcfg0 (F := F)).Adm) : Pipeline.Cfg sig Λ₀ := cfg0 (F := F) a

section Points
variable (a : (pcfg0 (F := F)).Adm)

/-- Point `t`'s coordinates: the column block and the row block. -/
abbrev crd (t : Fin (cfgA a).N) : grid0.Coords := grid0.coords t

abbrev ms0 (t : Fin (cfgA a).N) : Memref sig .tc .vmem S1024x2048 .bf16 := spec0_0.stage ((cfgA a).slots t (0 : Fin 4))
abbrev hs0 (t : Fin (cfgA a).N) : (ms0 a t).IsWhole := hstage0_0 (((cfgA a).slots t (0 : Fin 4)).cast nbuf0_0)
abbrev ms1 (t : Fin (cfgA a).N) : Memref sig .tc .vmem S1x2048x512 .f32 := spec0_1.stage ((cfgA a).slots t (1 : Fin 4))
abbrev hs1 (t : Fin (cfgA a).N) : (ms1 a t).IsWhole := hstage0_1 (((cfgA a).slots t (1 : Fin 4)).cast nbuf0_1)
abbrev ms2 (t : Fin (cfgA a).N) : Memref sig .tc .vmem S1x2048x512 .f32 := spec0_2.stage ((cfgA a).slots t (2 : Fin 4))
abbrev hs2 (t : Fin (cfgA a).N) : (ms2 a t).IsWhole := hstage0_2 (((cfgA a).slots t (2 : Fin 4)).cast nbuf0_2)
abbrev ms3 (t : Fin (cfgA a).N) : Memref sig .tc .vmem S1024x512 .bf16 := spec0_3.stage ((cfgA a).slots t (3 : Fin 4))
abbrev hs3 (t : Fin (cfgA a).N) : (ms3 a t).IsWhole := hstage0_3 (((cfgA a).slots t (3 : Fin 4)).cast nbuf0_3)

/-- The coordinates of point `t`, the row block the faster. -/
theorem crd_val : ∀ t : Fin grid0.N, (grid0.coords t 0).val = t.val / 16 ∧ (grid0.coords t 1).val = t.val % 16 := by
  decide +kernel

variable (V : (c : Dev nD) → (b : Ref sig .tc) → Buf (Elt F) ((c : Thread nD τ).loc b))

/-- Window `w`'s block at point `t`, of the array as the region finds it. -/
def iblk (c : Dev nD) (w : Fin 4) (t : Fin (cfgA a).N) : (((cfgA a).win w).xblock (crd a t)).Idx → Elt F ((cfgA a).win w).elt :=
  (((cfgA a).win w).blk t).view.read (Elt F) (V c (Pipeline.arrRef spec0 w))

/-- The three input blocks at their own types. -/
abbrev xB (c : Dev nD) (t : Fin (cfgA a).N) : S1024x2048.Idx → Elt F .bf16 := iblk a V c 0 t
abbrev gB (c : Dev nD) (t : Fin (cfgA a).N) : S1x2048x512.Idx → Elt F .f32 := iblk a V c 1 t
abbrev uB (c : Dev nD) (t : Fin (cfgA a).N) : S1x2048x512.Idx → Elt F .f32 := iblk a V c 2 t

/-- What point `t` leaves in the output block. -/
def outB (c : Dev nD) (t : Fin (cfgA a).N) : S1024x512.Idx → Elt F .bf16 :=
  if InUse (naOf a.1) (crd a t 1).val then k0_pay3 (xB a V c t) (k0_pay1 (gB a V c t)) (k0_pay2 (uB a V c t)) else k0_pay4

/-- Between points: the scratch buffers hold the converted weight tiles of the point before, where that point's block
    is in use; the tables are held for reading. -/
def Phi (c : Dev nD) (t : Fin ((cfgA a).N + 1)) : sProp 𝕄 :=
  iprop((∃ s0 s1, ⌜∀ p : Fin (cfgA a).N, p.val + 1 = t.val → InUse (naOf a.1) (crd a p 1).val →
          s0 = k0_pay1 (gB a V c p) ∧ s1 = k0_pay2 (uB a V c p)⌝
        ∗ owns (c : Thread nD τ) sc0 fullShare s0 ∗ owns (c : Thread nD τ) sc1 fullShare s1)
    ∗ (tb0.view.loc (c : Thread nD τ) ↦{fullShare.right} a.1 0) ∗ (tb1.view.loc (c : Thread nD τ) ↦{fullShare.right} a.1 1)
    ∗ (tb2.view.loc (c : Thread nD τ) ↦{fullShare.right} a.1 2) ∗ ∃ r, prngReg c r)

/-- The proof data of the one pipeline on core `c`. -/
def dats (_ : Fin 1) (c : Dev nD) : Dat τ (Elt F) Unit ℕ (UR sig nD τ) ℕ (cfgA a) c where
  A w := V c (Pipeline.arrRef spec0 w)
  after w t := match w with
    | ⟨0, _⟩ => iblk a V c 0 t
    | ⟨1, _⟩ => iblk a V c 1 t
    | ⟨2, _⟩ => iblk a V c 2 t
    | ⟨3, _⟩ => outB a V c t
  Φ t := Phi a V c t
  q _ := fullShare
  owed _ := 0

theorem after0 (c : Dev nD) (t : Fin (cfgA a).N) : (dats a V 0 c).after (0 : Fin 4) t = iblk a V c 0 t := rfl
theorem after1 (c : Dev nD) (t : Fin (cfgA a).N) : (dats a V 0 c).after (1 : Fin 4) t = iblk a V c 1 t := rfl
theorem after2 (c : Dev nD) (t : Fin (cfgA a).N) : (dats a V 0 c).after (2 : Fin 4) t = iblk a V c 2 t := rfl
theorem after3 (c : Dev nD) (t : Fin (cfgA a).N) : (dats a V 0 c).after (3 : Fin 4) t = outB a V c t := rfl

/-- Each input window holds its block when the body runs, fetched at that point or not. -/
theorem before0 (c : Dev nD) (t : Fin (cfgA a).N) (d) : (dats a V 0 c).before (0 : Fin 4) t d = iblk a V c 0 t :=
  ((dats a V 0 c).before_in_eq_fetched (0 : Fin 4) rfl (fun _ => rfl) (fun _ _ _ => rfl) (fun t => by rw [after0]; unfold Dat.blockOf iblk; rfl) t d).trans
    (by unfold Dat.fetched Dat.blockOf iblk; rfl)
theorem before1 (c : Dev nD) (t : Fin (cfgA a).N) (d) : (dats a V 0 c).before (1 : Fin 4) t d = iblk a V c 1 t :=
  ((dats a V 0 c).before_in_eq_fetched (1 : Fin 4) rfl (fun _ => rfl) (fun _ _ _ => rfl) (fun t => by rw [after1]; unfold Dat.blockOf iblk; rfl) t d).trans
    (by unfold Dat.fetched Dat.blockOf iblk; rfl)
theorem before2 (c : Dev nD) (t : Fin (cfgA a).N) (d) : (dats a V 0 c).before (2 : Fin 4) t d = iblk a V c 2 t :=
  ((dats a V 0 c).before_in_eq_fetched (2 : Fin 4) rfl (fun _ => rfl) (fun _ _ _ => rfl) (fun t => by rw [after2]; unfold Dat.blockOf iblk; rfl) t d).trans
    (by unfold Dat.fetched Dat.blockOf iblk; rfl)

/-- The word that the windows' schedule reads for "in use" is the number of blocks in use. -/
theorem atD_na : a.1.atD 1 ![0] = naOf a.1 := by
  unfold Pipeline.Prefetch.Contents.atD
  rw [dif_pos (by intro b; fin_cases b; exact Nat.le_refl 1)]
  exact congrArg (a.1 1 : S1.Idx → Elt F .i32) (funext fun b => Fin.ext (by fin_cases b; rfl))

/-- The output block is stored at every point. -/
theorem idle3 (t : Fin (cfgA a).N) : (cfgA a).idle (3 : Fin 4) (crd a t) = false := by
  show (!(k0_cond2 (crd a t) (a.1.atD 1 ![0]) == 1#1) && !(k0_cond3 (crd a t) (a.1.atD 1 ![0]) == 1#1)) = false
  by_cases h : InUse (a.1.atD 1 ![0]) (crd a t 1).val
  · rw [(cond2_iff _ _).2 h]; rfl
  · rw [(cond3_iff _ _).2 h]; simp

/-- A column block's word is its number. -/
theorem coord0 (i : grid0.Coords) : (BitVec.ofNat 32 (i 0).val).toNat = (i 0).val :=
  (by decide +kernel : ∀ n : Fin 11, (BitVec.ofNat 32 n.val).toNat = n.val) (i 0)

/-- The word the weights' index maps load. -/
theorem bw_at (pf : pre0.Contents (Elt F)) (i : grid0.Coords) :
    pf.at 2 (Rect.unit (s := S16) (k0_off1 i) S1.size (k0_off1_inb i)) numel1_S1 = bwOf pf (i 1).val (i 1).isLt :=
  congrArg (pf 2 : S16.Idx → Elt F .i32) (funext fun b => Fin.ext (by fin_cases b; exact off1_val i))

/-- The weights' index maps read the third table at the row block, and the column block. -/
theorem index1 (t : Fin (cfgA a).N) : ((cfgA a).win (1 : Fin 4)).index t
    = ![(bwOf a.1 (crd a t 1).val (crd a t 1).isLt).toNat, 0, (crd a t 0).val] := by
  funext j
  fin_cases j
  · exact congrArg BitVec.toNat (bw_at a.1 (grid0.coords t))
  · rfl
  · exact coord0 (grid0.coords t)
theorem index2 (t : Fin (cfgA a).N) : ((cfgA a).win (2 : Fin 4)).index t
    = ![(bwOf a.1 (crd a t 1).val (crd a t 1).isLt).toNat, 0, (crd a t 0).val] := by
  funext j
  fin_cases j
  · exact congrArg BitVec.toNat (bw_at a.1 (grid0.coords t))
  · rfl
  · exact coord0 (grid0.coords t)

/-- Two points with one column block and one weights' index read one weight tile. -/
theorem gB_congr (c : Dev nD) (t p : Fin (cfgA a).N) (h0 : (crd a t 0).val = (crd a p 0).val)
    (h : bwOf a.1 (crd a t 1).val (crd a t 1).isLt = bwOf a.1 (crd a p 1).val (crd a p 1).isLt) : gB a V c t = gB a V c p := by
  funext y
  unfold gB
  blk_simp [iblk]
  blk_ext [index1 a t, index1 a p]
  rw [h]

theorem uB_congr (c : Dev nD) (t p : Fin (cfgA a).N) (h0 : (crd a t 0).val = (crd a p 0).val)
    (h : bwOf a.1 (crd a t 1).val (crd a t 1).isLt = bwOf a.1 (crd a p 1).val (crd a p 1).isLt) : uB a V c t = uB a V c p := by
  funext y
  unfold uB
  blk_simp [iblk]
  blk_ext [index2 a t, index2 a p]
  rw [h]

/-! ## The body's obligation -/

/-- The weights' index table agrees with the experts' table at the blocks in use. -/
def Agree : Prop := ∀ n (hn : n < 16), InUse (naOf a.1) n → bwOf a.1 n hn = beOf a.1 n hn

/-- The body at point `t` on its staging buffers, as the pipeline calls it. -/
abbrev bodyAt (t : Fin (cfgA a).N) : Prog (TpuEff nD τ sig (Elt F) Λ₀ .tc) PUnit :=
  cc0_ffn_up (crd a t) tb0 (Memref.isWhole_whole _) tb1 (Memref.isWhole_whole _) tb2 (Memref.isWhole_whole _) (ms0 a t) (hs0 a t) (ms1 a t) (hs1 a t)
    (ms2 a t) (hs2 a t) (ms3 a t) (hs3 a t) sc0 (Memref.isWhole_whole _) sc1 (Memref.isWhole_whole _)

set_option maxHeartbeats 1000000 in
/-- At every point the body takes the invariant and the input blocks to the invariant and the output block: at a block
    in use whose weights differ from the ones before, with the weights converted there; at another block in use, with
    the weights the scratch buffers hold; past the blocks in use, with zeros. -/
theorem sound_body (hag : Agree a) (c : Dev nD) (t : Fin (cfgA a).N) :
    iprop((dats a V 0 c).Φ t.castSucc ∗ (dats a V 0 c).owesAt () t.castSucc
        ∗ (∃ d, owns (c : Thread nD τ) (ms0 a t) fullShare ((dats a V 0 c).before (0 : Fin 4) t d))
        ∗ (∃ d, owns (c : Thread nD τ) (ms1 a t) fullShare ((dats a V 0 c).before (1 : Fin 4) t d))
        ∗ (∃ d, owns (c : Thread nD τ) (ms2 a t) fullShare ((dats a V 0 c).before (2 : Fin 4) t d))
        ∗ (∃ d, owns (c : Thread nD τ) (ms3 a t) fullShare ((dats a V 0 c).before (3 : Fin 4) t d)))
      ⊢ wp frame (wpE (defs₀ (F := F)) Variants.none c none) Set.univ (bodyAt a t) fun _ =>
          iprop((dats a V 0 c).Φ t.succ ∗ (dats a V 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a V 0 c).before w t d))
                  | true => owns (c : Thread nD τ) (((cfgA a).win w).stage ((cfgA a).slots t w)) fullShare ((dats a V 0 c).after w t)
                | false => owns (c : Thread nD τ) (((cfgA a).win w).stage ((cfgA a).slots t w)) fullShare ((dats a V 0 c).after w t)) := by
  rw [bigSep_W0]
  rewrite [show (cfgA a).idle (3 : Fin 4) ((cfgA a).grid.coords t) = false from idle3 a t]
  simp only [before0, before1, before2, after0, after1, after2, after3]
  rewrite [show (dats a V 0 c).Φ t.succ = Phi a V c t.succ from rfl, show (dats a V 0 c).Φ t.castSucc = Phi a V c t.castSucc from rfl,
    show (dats a V 0 c).owesAt () t.succ = (dats a V 0 c).owesAt () t.castSucc from rfl]
  unfold Phi
  simp only [Fin.val_castSucc, Fin.val_succ]
  iintro ⟨⟨⟨%s0, %s1, %hs, HS0, HS1⟩, HT0, HT1, HT2, Hr⟩, Ho, ⟨%d0, H0⟩, ⟨%d1, H1⟩, ⟨%d2, H2⟩, ⟨%d3, H3⟩⟩
  -- the next point's reading of the invariant is at this point
  have only : ∀ p : Fin (cfgA a).N, p.val + 1 = t.val + 1 → p = t := fun p hp => Fin.ext (Nat.succ.inj hp)
  by_cases hu : InUse (naOf a.1) (crd a t 1).val
  · have h2 : k0_cond2 (crd a t) (wNa (a.1 1)) = 1#1 := (cond2_iff _ _).2 (by rw [wNa_eq]; exact hu)
    have h3 : ¬ k0_cond3 (crd a t) (wNa (a.1 1)) = 1#1 := fun h => (cond3_iff _ _).1 h (by rw [wNa_eq]; exact hu)
    have eo : outB a V c t = k0_pay3 (xB a V c t) (k0_pay1 (gB a V c t)) (k0_pay2 (uB a V c t)) := if_pos hu
    by_cases h1 : fresh (crd a t) (wNa (a.1 1)) (wBe (crd a t) (a.1 0)) (wPrev (crd a t) (a.1 0)) = 1#1
    · iapply (body_fresh c (crd a t) (ms0 a t) (hs0 a t) (ms1 a t) (hs1 a t) (ms2 a t) (hs2 a t) (ms3 a t) (hs3 a t)
        (a.1 0) (a.1 1) (a.1 2) (xB a V c t) (gB a V c t) (uB a V c t) s0 s1 h1 h2 h3 _)
      isplitl [H0]; · iexact H0
      isplitl [H1]; · iexact H1
      isplitl [H2]; · iexact H2
      isplitl [HT0]; · iexact HT0
      isplitl [HT1]; · iexact HT1
      isplitl [HT2]; · iexact HT2
      isplitl [H3]; · iexists _; iexact H3
      isplitl [HS0]; · iexact HS0
      isplitl [HS1]; · iexact HS1
      iintro ⟨H0, H1, H2, HT0, HT1, HT2, H3, HS0, HS1⟩
      isplitl [HS0 HS1 HT0 HT1 HT2 Hr]
      · isplitl [HS0 HS1]
        · iexists _; iexists _
          isplitr; swap
          · isplitl [HS0]; · iexact HS0
            iexact HS1
          · ipureintro; intro p hp _; rw [only p hp]; exact ⟨rfl, rfl⟩
        isplitl [HT0]; · iexact HT0
        isplitl [HT1]; · iexact HT1
        isplitl [HT2]; · iexact HT2
        iexact Hr
      isplitl [Ho]; · iexact Ho
      isplitl [H0]; · iexact H0
      isplitl [H1]; · iexact H1
      isplitl [H2]; · iexact H2
      rw [eo]; iexact H3
    · -- the block before has the same expert and the same column block: the scratch buffers hold its weights
      have hk : s0 = k0_pay1 (gB a V c t) ∧ s1 = k0_pay2 (uB a V c t) := by
        rw [fresh_iff, wNa_eq] at h1
        have hne : (crd a t 1).val ≠ 0 := fun h => h1 ⟨hu, Or.inl h⟩
        have hbe : wBe (crd a t) (a.1 0) = wPrev (crd a t) (a.1 0) := by_contra fun h => h1 ⟨hu, Or.inr h⟩
        rw [wBe_eq, wPrev_eq] at hbe
        obtain ⟨v0, v1⟩ := crd_val t
        have ht : t.val < 176 := lt_of_lt_of_eq t.isLt N_0
        let p : Fin (cfgA a).N := ⟨t.val - 1, by have := t.isLt; omega⟩
        obtain ⟨w0, w1⟩ := crd_val p
        have hp : p.val = t.val - 1 := rfl
        have e1 : (crd a p 1).val = (crd a t 1).val - 1 := by
          have v1' : (crd a t 1).val = t.val % 16 := v1
          have w1' : (crd a p 1).val = p.val % 16 := w1
          omega
        have e0 : (crd a t 0).val = (crd a p 0).val := by
          have v1' : (crd a t 1).val = t.val % 16 := v1
          have v0' : (crd a t 0).val = t.val / 16 := v0
          have w0' : (crd a p 0).val = p.val / 16 := w0
          omega
        have hup : InUse (naOf a.1) (crd a p 1).val := by
          rw [e1]; exact Words.inUse_pred _ _ (lt_trans (show (crd a t 1).val < 16 from (crd a t 1).isLt) (by decide)) hu
        have l72 : (crd a t 1).val < 16 := (crd a t 1).isLt
        have hb : bwOf a.1 (crd a t 1).val (crd a t 1).isLt = bwOf a.1 (crd a p 1).val (crd a p 1).isLt := by
          rw [hag _ (crd a t 1).isLt hu, hag _ (crd a p 1).isLt hup, hbe]
          exact congrArg (fun n : Fin 16 => beOf a.1 n.val n.isLt) (Fin.ext e1.symm : (⟨(crd a t 1).val - 1, lt_of_le_of_lt (Nat.sub_le _ _) l72⟩ : Fin 16) = ⟨(crd a p 1).val, (crd a p 1).isLt⟩)
        have ht0 : t.val ≠ 0 := fun h => hne (by
          have v1' : (crd a t 1).val = t.val % 16 := v1
          omega)
        obtain ⟨q0, q1⟩ := hs p (by omega) hup
        exact ⟨by rw [q0, gB_congr a V c t p e0 hb], by rw [q1, uB_congr a V c t p e0 hb]⟩
      obtain ⟨rfl, rfl⟩ := hk
      iapply (body_kept c (crd a t) (ms0 a t) (hs0 a t) (ms1 a t) (hs1 a t) (ms2 a t) (hs2 a t) (ms3 a t) (hs3 a t)
        (a.1 0) (a.1 1) (a.1 2) (xB a V c t) (gB a V c t) (uB a V c t) _ _ h1 h2 h3 _)
      isplitl [H0]; · iexact H0
      isplitl [H1]; · iexact H1
      isplitl [H2]; · iexact H2
      isplitl [HT0]; · iexact HT0
      isplitl [HT1]; · iexact HT1
      isplitl [HT2]; · iexact HT2
      isplitl [H3]; · iexists _; iexact H3
      isplitl [HS0]; · iexact HS0
      isplitl [HS1]; · iexact HS1
      iintro ⟨H0, H1, H2, HT0, HT1, HT2, H3, HS0, HS1⟩
      isplitl [HS0 HS1 HT0 HT1 HT2 Hr]
      · isplitl [HS0 HS1]
        · iexists _; iexists _
          isplitr; swap
          · isplitl [HS0]; · iexact HS0
            iexact HS1
          · ipureintro; intro p hp _; rw [only p hp]; exact ⟨rfl, rfl⟩
        isplitl [HT0]; · iexact HT0
        isplitl [HT1]; · iexact HT1
        isplitl [HT2]; · iexact HT2
        iexact Hr
      isplitl [Ho]; · iexact Ho
      isplitl [H0]; · iexact H0
      isplitl [H1]; · iexact H1
      isplitl [H2]; · iexact H2
      rw [eo]; iexact H3
  · have h1 : ¬ fresh (crd a t) (wNa (a.1 1)) (wBe (crd a t) (a.1 0)) (wPrev (crd a t) (a.1 0)) = 1#1 := fun h => by
      rw [fresh_iff, wNa_eq] at h; exact hu h.1
    have h2 : ¬ k0_cond2 (crd a t) (wNa (a.1 1)) = 1#1 := fun h => hu (by rw [← wNa_eq]; exact (cond2_iff _ _).1 h)
    have h3 : k0_cond3 (crd a t) (wNa (a.1 1)) = 1#1 := (cond3_iff _ _).2 (by rw [wNa_eq]; exact hu)
    have eo : outB a V c t = k0_pay4 := if_neg hu
    iapply (body_past c (crd a t) (ms0 a t) (hs0 a t) (ms1 a t) (hs1 a t) (ms2 a t) (hs2 a t) (ms3 a t) (hs3 a t)
      (a.1 0) (a.1 1) (a.1 2) (xB a V c t) (gB a V c t) (uB a V c t) s0 s1 h1 h2 h3 _)
    isplitl [H0]; · iexact H0
    isplitl [H1]; · iexact H1
    isplitl [H2]; · iexact H2
    isplitl [HT0]; · iexact HT0
    isplitl [HT1]; · iexact HT1
    isplitl [HT2]; · iexact HT2
    isplitl [H3]; · iexists _; iexact H3
    isplitl [HS0]; · iexact HS0
    isplitl [HS1]; · iexact HS1
    iintro ⟨H0, H1, H2, HT0, HT1, HT2, H3, HS0, HS1⟩
    isplitl [HS0 HS1 HT0 HT1 HT2 Hr]
    · isplitl [HS0 HS1]
      · iexists _; iexists _
        isplitr; swap
        · isplitl [HS0]; · iexact HS0
          iexact HS1
        · ipureintro; intro p hp hi; rw [only p hp] at hi; exact absurd hi hu
      isplitl [HT0]; · iexact HT0
      isplitl [HT1]; · iexact HT1
      isplitl [HT2]; · iexact HT2
      iexact Hr
    isplitl [Ho]; · iexact Ho
    isplitl [H0]; · iexact H0
    isplitl [H1]; · iexact H1
    isplitl [H2]; · iexact H2
    rw [eo]; iexact H3

/-- The obligation at every point. -/
theorem body_obligation (hag : Agree a) (c : Dev nD) : BodyObligation (dats a V 0 c) (defs₀ (F := F)) Variants.none () Set.univ := fun t => by
  rw [bigSep_W0]
  exact sound_body a V hag c t

/-! ## The launch -/

theorem share_eq (c : Dev nD) (w : Fin (cfgA a).W) : (dats a V 0 c).share w = fullShare := by unfold Dat.share; split <;> rfl

/-- The tables as the launch hands them to the region, one by one. -/
theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((tb0.view.loc (c : Thread nD τ) ↦{q 0} v 0) ∗ (tb1.view.loc (c : Thread nD τ) ↦{q 1} v 1) ∗ (tb2.view.loc (c : Thread nD τ) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- To hold a scratch buffer is to hold its whole buffer. -/
theorem sc0_eq (c : Dev nD) (f : Buf (Elt F) ((c : Thread nD τ).loc cc0_scratch0)) :
    (owns (c : Thread nD τ) sc0 fullShare f : sProp 𝕄) = (((c : Thread nD τ).loc cc0_scratch0) ↦{fullShare} f) :=
  owns_whole (c : Thread nD τ) cc0_scratch0 fullShare f
theorem sc1_eq (c : Dev nD) (f : Buf (Elt F) ((c : Thread nD τ).loc cc0_scratch1)) :
    (owns (c : Thread nD τ) sc1 fullShare f : sProp 𝕄) = (((c : Thread nD τ).loc cc0_scratch1) ↦{fullShare} f) :=
  owns_whole (c : Thread nD τ) cc0_scratch1 fullShare f

/-- The invariant at the first point, from the scratch buffers and the tables; -/
theorem phi_first (c : Dev nD) : iprop(Pipeline.ΦA spec0 c ∗ Pipeline.ΦT pre0 a.1 c) ⊢ (dats a V 0 c).Φ 0 := by
  unfold Pipeline.ΦA Pipeline.ΦT
  rw [prefHeld_eq, scopedRest0_eq, show (dats a V 0 c).Φ 0 = Phi a V c 0 from rfl]
  unfold Phi
  iintro ⟨⟨⟨⟨%f0, HS0⟩, ⟨%f1, HS1⟩⟩, Hr⟩, HT0, HT1, HT2⟩
  isplitl [HS0 HS1]
  · iexists f0; iexists f1
    isplitr
    · ipureintro; intro p hp; exact absurd hp (Nat.succ_ne_zero _)
    isplitl [HS0]
    · rw [sc0_eq]; iexact HS0
    · rw [sc1_eq]; iexact HS1
  isplitl [HT0]; · iexact HT0
  isplitl [HT1]; · iexact HT1
  isplitl [HT2]; · iexact HT2
  iexact Hr

/-- and after the last point it gives the scratch buffers back. -/
theorem phi_last (c : Dev nD) : (dats a V 0 c).Φ (Fin.last (cfgA a).N) ⊢ Pipeline.ΦA spec0 c := by
  unfold Pipeline.ΦA
  rw [scopedRest0_eq, show (dats a V 0 c).Φ (Fin.last (cfgA a).N) = Phi a V c (Fin.last _) from rfl]
  unfold Phi
  iintro ⟨⟨%s0, %s1, -, HS0, HS1⟩, -, -, -, Hr⟩
  isplitr [Hr]
  · isplitl [HS0]
    · iexists s0; rw [← sc0_eq]; iexact HS0
    · iexists s1; rw [← sc1_eq]; iexact HS1
  iexact Hr

end Points

/-! ## The run -/

section Run
variable (m : (ℓ : Loc nD τ sig) → Buf (Elt F) ℓ) (g : Dev nD → PrngReg)

/-- The arrays as the region finds them: after the host's operations. -/
abbrev Ve (c : Dev nD) (b : Ref sig .tc) : Buf (Elt F) ((c : Thread nD τ).loc b) := StableHlo.after (hostOps0 (F := F)) (fun b => m (c, b)) b

theorem hostOps0_fresh : (hostOps0 (F := F)).Forall fun op => op.fresh = ∅ := by
  unfold hostOps0; repeat' first | exact trivial | refine ⟨rfl, ?_⟩ | rfl

set_option backward.isDefEq.respectTransparency.types false in
/-- Every execution ends with the arrays the pipeline's data say and every semaphore at zero. -/
theorem run (a : (pcfg0 (F := F)).Adm) (hag : Agree a) (htab : ∀ (c : Dev nD) k, Ve m c (pre0.ref k) = a.1 k) :
    θ_run (defs (F := F)) (onTc (τ := τ) (main (F := F))) ⟨m, fun _ => 0, g⟩
      (fun r => Pipeline.FramePost (Pipeline.pin pcfgs fun _ => a) (dats a (Ve m)) 0 (Ve m) r ∧ r.2.sem = fun _ => 0) :=
  Pipeline.θ_run_frameP_track pcfgs (fun _ => a) (dats a (Ve m)) 0 (launch0 (F := F)) (defs₀ (F := F)) Variants.none m g main
    (hbody := fun c => (body_obligation a (Ve m) hag c).loose) (hshare := share_eq a (Ve m)) (howed := fun _ _ => rfl)
    (V := Ve m) (hmain := Pipeline.hmainP_prefix pcfgs 0 defs₀ Variants.none m main hostOps0 hostOps0_sub hostOps0_fresh main_chain)
    (hA := fun _ _ => rfl) (hpf := htab) (hin := phi_first a (Ve m)) (hout := phi_last a (Ve m))
    (Q' := fun r => Pipeline.FramePost (Pipeline.pin pcfgs fun _ => a) (dats a (Ve m)) 0 (Ve m) r ∧ r.2.sem = fun _ => 0) (hQ' := fun _ h => h)

end Run

end Cert.Kernel3Ideal.DenseUp

end
-- ==== Proof.DenseUpHost.lean ====
/- The tables that the host computes for the dense up projection: every block is in use and reads the layer's weights. -/
module

public import proofs.«01_k».proof.Proof.DenseUpRun
public import Idealize.ShloMosaic.Lib.StableHlo.ReadAt
public import Idealize.ShloMosaic.Lib.StableHlo.Predicate

@[expose] public section

set_option maxRecDepth 16384

noncomputable section

namespace Cert.Kernel3Ideal.DenseUp

open Cert.Kernel3Ideal Cert.Kernel3Ideal.Gen
open Idealize.ShloMosaic Idealize.ShloMosaic.TcCoe Idealize.SL.Sem
open Cert.Words (InUse)

variable {F : FTy → Type} [FloatOps F]
variable (m : (ℓ : Loc nD τ sig) → Buf (Elt F) ℓ)

/-- Every block's weights are the second of the two; -/
theorem Ve_be (c : Dev nD) : (Ve m c main_v0 : S16.Idx → BitVec 32) = fun _ => 1#32 := by
  unfold Ve
  after_reads_simp
  funext j
  clean_types
  pointwise
/-- every block is in use; -/
theorem Ve_na (c : Dev nD) : (Ve m c main_v1 : S1.Idx → BitVec 32) = fun _ => 16#32 := by
  unfold Ve
  after_reads_simp
  funext j
  clean_types
  pointwise

set_option backward.isDefEq.respectTransparency.types false in
/-- and an entry gathered out of a table of ones is a one. -/
theorem Ve_bw (c : Dev nD) (n : ℕ) (hn : n < 16) : (Ve m c main_v13 : S16.Idx → BitVec 32) (ixB n hn) = 1#32 := by
  unfold Ve
  after_reads_simp
  have e : ixB n hn = Shape.Idx.ofFin (⟨n, hn⟩ : Fin 16) := by
    funext b; fin_cases b; rfl
  rw [e]
  refine (StableHlo.Predicate.gather_take gather_S16_S16x1_S16_n_0_n_n_0_1_1 rfl rfl rfl rfl _ _ (⟨n, hn⟩ : Fin 16) (by decide)).trans ?_
  rfl

/-! ## The tables are admitted -/

theorem na_at (pf : pre0.Contents (Elt F)) : pf.at 1 (Rect.unit (s := S1) ![0] S1.size inb_S1_S1_0) numel1_S1 = naOf pf :=
  congrArg (pf 1 : S1.Idx → Elt F .i32) (funext fun b => Fin.ext (by fin_cases b; rfl))

/-- The weights' index map at any tables. -/
theorem transform1_eq (pf : pre0.Contents (Elt F)) (i : grid0.Coords) :
    cc0_transform_1 k0_off1_inb numel1_S1 pf i = ![(bwOf pf (i 1).val (i 1).isLt).toNat, 0, (i 0).val] := by
  funext b; fin_cases b
  · exact congrArg BitVec.toNat (bw_at pf i)
  · rfl
  · exact coord0 i

/-- The rows' index map at any tables. -/
theorem transform0_eq (pf : pre0.Contents (Elt F)) (i : grid0.Coords) : cc0_transform_0 inb_S1_S1_0 numel1_S1 pf i
    = ![(Scalar.minsi (BitVec.ofNat 32 (i 1).val) (Scalar.subi (naOf pf) 1#32)).toNat, 0] := by
  exact congrArg (fun w : BitVec 32 => (![(Scalar.minsi (BitVec.ofNat 32 (i 1).val) (Scalar.subi w 1#32)).toNat, 0] : Fin 2 → ℕ)) (na_at pf)

theorem weights_in (n f : ℕ) (hn : n < 2) (hf : f < 11) : ∀ b, ((![n, 0, f] : Fin 3 → ℕ) b + 1) * S1x2048x512.size b ≤ S2x2048x5632.size b
  | ⟨0, _⟩ => by show (n + 1) * 1 ≤ 2; omega
  | ⟨1, _⟩ => by show (0 + 1) * 2048 ≤ 2048; omega
  | ⟨2, _⟩ => by show (f + 1) * 512 ≤ 5632; omega

theorem rows_in (n : ℕ) (hn : n < 16) : ∀ b, ((![n, 0] : Fin 2 → ℕ) b + 1) * S1024x2048.size b ≤ S16384x2048.size b
  | ⟨0, _⟩ => by show (n + 1) * 1024 ≤ 16384; omega
  | ⟨1, _⟩ => by show (0 + 1) * 2048 ≤ 2048; omega

/-- A row block starts and ends at whole words. -/
theorem rows_whole : ∀ (n : Fin 16) (h : ∀ b, ((![n.val, 0] : Fin 2 → ℕ) b + 1) * S1024x2048.size b ≤ S16384x2048.size b),
    (Rect.block (s := S16384x2048) S1024x2048.size ![n.val, 0] h).WholeWords (EltTy.packing .bf16) := by decide +kernel

/-- Every block that the index maps name is inside its array, where the weights' indices are below 2 and a block
    is in use. -/
theorem ok_of (pf : pre0.Contents (Elt F)) (hb : ∀ n (hn : n < 16), (bwOf pf n hn).toNat < 2) (hv : 1 ≤ (naOf pf).toInt) : ok0 pf := by
  refine ⟨fun i => ?_, fun i => ⟨?_, Or.inl rfl⟩, fun i => ⟨?_, Or.inl rfl⟩⟩
  · have hl := Words.minsi_lt (naOf pf) hv 16 (i 1).val (by decide) (i 1).isLt
    rw [transform0_eq]
    generalize (Scalar.minsi (BitVec.ofNat 32 (i 1).val) (Scalar.subi (naOf pf) 1#32)).toNat = n at hl
    exact ⟨rows_in n hl, Or.inr (rows_whole ⟨n, hl⟩ (rows_in n hl))⟩
  · rw [transform1_eq]; exact weights_in _ _ (hb _ _) (i 0).isLt
  · rw [show cc0_transform_2 k0_off1_inb numel1_S1 pf i = cc0_transform_1 k0_off1_inb numel1_S1 pf i from rfl, transform1_eq]
    exact weights_in _ _ (hb _ _) (i 0).isLt

/-- The tables' contents as the region finds them on the one core. -/
def tabs : pre0.Contents (Elt F) := fun k => Ve m (0 : Dev nD) (pre0.ref k)

theorem tabs_na : naOf (tabs m) = 16#32 := congrFun (Ve_na m 0) ix1
theorem tabs_be (n : ℕ) (hn : n < 16) : beOf (tabs m) n hn = 1#32 := congrFun (Ve_be m 0) (ixB n hn)
theorem tabs_bw (n : ℕ) (hn : n < 16) : bwOf (tabs m) n hn = 1#32 := Ve_bw m 0 n hn

theorem ok : ok0 (tabs m) := ok_of _ (fun n hn => by rw [tabs_bw]; decide) (by rw [tabs_na]; decide)

/-- The tables with that. -/
def adm : (pcfg0 (F := F)).Adm := ⟨tabs m, ok m⟩

theorem agree_of (pf : pre0.Contents (Elt F)) (hok : ok0 pf)
    (h : ∀ n (hn : n < 16), bwOf pf n hn = beOf pf n hn) : Agree ⟨pf, hok⟩ := fun n hn _ => h n hn

theorem agree : Agree (adm m) := agree_of (tabs m) (ok m) fun n hn => (tabs_bw m n hn).trans (tabs_be m n hn).symm

theorem tabs_at (c : Dev nD) (k : Fin 3) : Ve m c (pre0.ref k) = (adm m).1 k := by
  obtain rfl : c = 0 := Subsingleton.elim _ _
  rfl

theorem Ve_arg0 (c : Dev nD) : Ve m c main_arg0 = m ((c : Thread nD τ).loc main_arg0) := by
  unfold Ve; unfold_abbrev_sides; after_results
theorem Ve_arg1 (c : Dev nD) : Ve m c main_arg1 = m ((c : Thread nD τ).loc main_arg1) := by
  unfold Ve; unfold_abbrev_sides; after_results
theorem Ve_arg2 (c : Dev nD) : Ve m c main_arg2 = m ((c : Thread nD τ).loc main_arg2) := by
  unfold Ve; unfold_abbrev_sides; after_results

variable (g : Dev nD → PrngReg)

/-- Every execution ends with the output array the pipeline's data say, the arguments unchanged and every semaphore at
    zero. -/
theorem run_out : θ_run (defs (F := F)) (onTc (τ := τ) (main (F := F))) ⟨m, fun _ => 0, g⟩ (fun r =>
    (∀ c : Dev nD, r.2.mem ((c : Thread nD τ).loc main_v14) = (dats (adm m) (Ve m) 0 c).arrAt (3 : Fin 4) grid0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨h.1.out_eq c (3 : Fin 4), (h.1.in_eq c (0 : Fin 4) rfl).trans (Ve_arg0 m c),
      (h.1.in_eq c (1 : Fin 4) rfl).trans (Ve_arg1 m c), (h.1.in_eq c (2 : Fin 4) rfl).trans (Ve_arg2 m c)⟩, h.2⟩)
    (run m g (adm m) (agree m) (tabs_at m))

end Cert.Kernel3Ideal.DenseUp

end
-- ==== Proof.DenseUpPay.lean ====
/- What one block of the output holds, element by element, from the blocks of the rows and of the weights. -/
module

public import proofs.«01_k».proof.Proof.Gen.Kernel3Ideal.Skeleton
public import Idealize.ShloMosaic.Lib.Pipeline.ValueKit

@[expose] public section

set_option maxRecDepth 16384

noncomputable section

namespace Cert.Kernel3Ideal.DenseUp

open Cert.Kernel3Ideal Cert.Kernel3Ideal.Gen
open Idealize.ShloMosaic Idealize.ShloMosaic.TcCoe

/-- A block holds the gated product of its rows and its columns. -/
theorem pay_eq (x : S1024x2048.Idx → EReal) (wg wu : S1x2048x512.Idx → EReal) (y : S1024x512.Idx) :
    k0_pay3 (F := Ideal) x (k0_pay1 (F := Ideal) wg) (k0_pay2 (F := Ideal) wu) y
      = (∑ k : Fin 2048, x (ix2 (y 0) k) * wg (ix3 0 k (y 1)))
        * Ideal.logistic (∑ k : Fin 2048, x (ix2 (y 0) k) * wg (ix3 0 k (y 1)))
        * ∑ k : Fin 2048, x (ix2 (y 0) k) * wu (ix3 0 k (y 1)) := by
  unfold k0_pay3 k0_pay1 k0_pay2
  pointwise

end Cert.Kernel3Ideal.DenseUp

end
-- ==== Proof.DenseUpOut.lean ====
/- The output array after the run: every element is the mathematics' value of the arguments. -/
module

public import proofs.«01_k».proof.Proof.DenseUpHost
public import proofs.«01_k».proof.Proof.DenseUpPay
public import proofs.«01_k».proof.Proof.UpSpec
public import Idealize.ShloMosaic.Lib.Pipeline.Covers

@[expose] public section

set_option maxRecDepth 16384

noncomputable section

namespace Cert.Kernel3Ideal.DenseUp

open Cert.Kernel3Ideal Cert.Kernel3Ideal.Gen
open Idealize.ShloMosaic Idealize.ShloMosaic.TcCoe Idealize.SL.Sem
open Cert.Words (InUse)

section
variable (a : (pcfg0 (F := Ideal)).Adm)

theorem index0 (t : Fin (cfgA a).N) (h : InUse (naOf a.1) (crd a t 1).val) :
    ((cfgA a).win (0 : Fin 4)).index t = ![(crd a t 1).val, 0] := by
  rw [show ((cfgA a).win (0 : Fin 4)).index t = cc0_transform_0 inb_S1_S1_0 numel1_S1 a.1 (grid0.coords t) from rfl,
    transform0_eq, Words.minsi_inUse _ _ (lt_trans (show (crd a t 1).val < 16 from (crd a t 1).isLt) (by decide)) h]

theorem coord1 (i : grid0.Coords) : (BitVec.ofNat 32 (i 1).val).toNat = (i 1).val :=
  (by decide +kernel : ∀ n : Fin 16, (BitVec.ofNat 32 n.val).toNat = n.val) (i 1)

theorem transform3_eq (i : grid0.Coords) : cc0_transform_3 i = ![(i 1).val, (i 0).val] := by
  funext b; fin_cases b
  · exact coord1 i
  · exact coord0 i

theorem index3 (t : Fin (cfgA a).N) : ((cfgA a).win (3 : Fin 4)).index t = ![(crd a t 1).val, (crd a t 0).val] :=
  transform3_eq (grid0.coords t)

theorem size3_pos : ∀ b, 0 < ((cfgA a).win (3 : Fin 4)).size b
  | ⟨0, _⟩ => by show 0 < 1024; decide
  | ⟨1, _⟩ => by show 0 < 512; decide

theorem nblk3_0 : ((cfgA a).win (3 : Fin 4)).nblk (0 : Fin 2) = 16 := by
  show (16384 + 1024 - 1) / 1024 = 16; decide
theorem nblk3_1 : ((cfgA a).win (3 : Fin 4)).nblk (1 : Fin 2) = 11 := by
  show (5632 + 512 - 1) / 512 = 11; decide

/-- The point of row block `n` and column block `f`. -/
abbrev crdOf (n : Fin 16) (f : Fin 11) : grid0.Coords := fun | ⟨0, _⟩ => f | ⟨1, _⟩ => n

theorem map3 (n : Fin 16) (f : Fin 11) : ∀ b : Fin 2, ((cfgA a).win (3 : Fin 4)).indexMap (crdOf n f) b = (![n.val, f.val] : Fin 2 → ℕ) b :=
  fun b => congrFun (transform3_eq (crdOf n f)) b

/-- The blocks of the output tile its array. -/
theorem covers3 : ((cfgA a).win (3 : Fin 4)).Covers :=
  ((cfgA a).win (3 : Fin 4)).covers_of_indexMap_surj rfl (size3_pos a) fun β =>
    ⟨crdOf ⟨(β (0 : Fin 2)).val, lt_of_lt_of_eq (β (0 : Fin 2)).isLt (nblk3_0 a)⟩ ⟨(β (1 : Fin 2)).val, lt_of_lt_of_eq (β (1 : Fin 2)).isLt (nblk3_1 a)⟩,
      fun b => (map3 a _ _ b).trans (match b with | ⟨0, _⟩ => rfl | ⟨1, _⟩ => rfl)⟩

variable (V : (c : Dev nD) → (b : Ref sig .tc) → Buf (Elt Ideal) ((c : Thread nD τ).loc b))

/-- The output array's element from the arrays as the region finds them. -/
def G (c : Dev nD) : S16384x5632.Idx → EReal := fun i =>
  UpSpec.cell (V c main_arg0) (V c main_arg1) (V c main_arg2) (1 : Fin 2) (i 0) (i 1)

theorem weight_of (hb : ∀ n (hn : n < 16), bwOf a.1 n hn = 1#32) {n : ℕ} (hn : n < 16) : (bwOf a.1 n hn).toNat + 0 = 1 := by
  rw [hb n hn]; rfl

set_option maxHeartbeats 1000000 in
/-- The output array after the run: each block holds the gated product of its rows with the layer's weights. -/
theorem arr_eq (hb : ∀ n (hn : n < 16), bwOf a.1 n hn = 1#32) (hu : ∀ n, n < 16 → InUse (naOf a.1) n) (c : Dev nD) :
    (dats a V 0 c).arrAt (3 : Fin 4) grid0.N = G V c := by
  refine (dats a V 0 c).arrAt_eq_of_covers (3 : Fin 4) _ (covers3 a) fun t hf y => ?_
  blk_simp
  rw [after3]
  unfold outB G
  have hn := (crd a t 1).isLt
  have e0 : ((((cfgA a).win (3 : Fin 4)).blk t).view.emb y 0).val = (crd a t 1).val * 1024 + (y (0 : Fin 2)).val := by
    blk_simp [index3 a t]
  have e1 : ((((cfgA a).win (3 : Fin 4)).blk t).view.emb y 1).val = (crd a t 0).val * 512 + (y (1 : Fin 2)).val := by
    blk_simp [index3 a t]
  generalize (((cfgA a).win (3 : Fin 4)).blk t).view.emb y = i at e0 e1 ⊢
  rw [if_pos (hu _ hn), pay_eq]
  have hx : ∀ k : Fin 2048, xB a V c t (ix2 (y (0 : Fin 2)) k) = (V c main_arg0 : S16384x2048.Idx → EReal) (ix2 (i 0) k) := fun k => by
    unfold xB
    blk_simp [iblk]
    blk_ext [index0 a t (hu _ hn)]
  have hg : ∀ k : Fin 2048, gB a V c t (ix3 0 k (y (1 : Fin 2))) = (V c main_arg1 : S2x2048x5632.Idx → EReal) (ix3 1 k (i 1)) := fun k => by
    unfold gB
    blk_simp [iblk]
    blk_ext [index1 a t]
    exact weight_of a hb hn
  have hw : ∀ k : Fin 2048, uB a V c t (ix3 0 k (y (1 : Fin 2))) = (V c main_arg2 : S2x2048x5632.Idx → EReal) (ix3 1 k (i 1)) := fun k => by
    unfold uB
    blk_simp [iblk]
    blk_ext [index2 a t]
    exact weight_of a hb hn
  unfold UpSpec.cell UpSpec.proj
  simp only [hx, hg, hw]

end

variable (m : (ℓ : Loc nD τ sig) → Buf (Elt Ideal) ℓ)

/-- The output array as a function of the arguments. -/
def res (c : Dev nD) : S16384x5632.Idx → EReal := fun i =>
  UpSpec.cell (m ((c : Thread nD τ).loc main_arg0)) (m ((c : Thread nD τ).loc main_arg1)) (m ((c : Thread nD τ).loc main_arg2)) (1 : Fin 2) (i 0) (i 1)

theorem G_eq : G (Ve m) 0 = res m 0 := by
  funext i
  unfold G res
  rw [Ve_arg0, Ve_arg1, Ve_arg2]

/-- Every block is below the number in use. -/
theorem all_used (n : ℕ) (hn : n < 16) : InUse (naOf (tabs m)) n := by
  rw [tabs_na]
  exact (Words.inUse_iff _ n (by omega)).2 (by show (n : ℤ) < 16; omega)

theorem arr_tabs (pf : (pcfg0 (F := Ideal)).Adm) (hp : pf.1 = tabs m) : (dats pf (Ve m) 0 0).arrAt (3 : Fin 4) grid0.N = res m 0 := by
  refine (arr_eq pf _ ?_ ?_ 0).trans (G_eq m)
  · rw [hp]; exact tabs_bw m
  · rw [hp]; exact all_used m

theorem out_eq (c : Dev nD) : (dats (adm m) (Ve m) 0 c).arrAt (3 : Fin 4) grid0.N = res m c := by
  obtain rfl : c = 0 := Subsingleton.elim _ _
  exact arr_tabs m (adm m) rfl

end Cert.Kernel3Ideal.DenseUp

end
-- ==== Proof.DenseUpRef.lean ====
/- What the reference computes: its array at an index is the mathematical output. -/
module

public import proofs.«01_k».proof.Proof.Gen.Reference3Ideal.Read
public import proofs.«01_k».proof.Proof.UpSpec
public import Idealize.ShloMosaic.Lib.IdealHost

@[expose] public section

noncomputable section

namespace Cert.Reference3Ideal.DenseUp

open Cert.Reference3Ideal Cert.Reference3Ideal.Gen Cert.Reference3Ideal.Read Idealize.ShloMosaic

variable (x : (⟨S16384x2048, .bf16⟩ : BufTy).Contents (Elt Ideal)) (wg wu : (⟨S2x2048x5632, .f32⟩ : BufTy).Contents (Elt Ideal))

/-- The layer's gate weights are the second of the two. -/
theorem v2_at (k : Fin 2048) (q : Fin 5632) : val_main_v2 (F := Ideal) wg (ix2 k q) = wg (ix3 1 k q) := by
  rw [val_main_v2_apply, val_main_v1_apply]
  refine congrArg wg (funext fun a => Fin.ext ?_)
  have hk := k.isLt
  have hq := q.isLt
  match a with
  | ⟨0, _⟩ => rfl
  | ⟨1, _⟩ => show (k.val * 5632 + q.val) / 5632 % 2048 = k.val; omega
  | ⟨2, _⟩ => show (k.val * 5632 + q.val) % 5632 = q.val; omega

/-- And so are its other weights. -/
theorem v6_at (k : Fin 2048) (q : Fin 5632) : val_main_v6 (F := Ideal) wu (ix2 k q) = wu (ix3 1 k q) := v2_at wu k q

/-- The product with the gate weights. -/
theorem v3_at (r : Fin 16384) (q : Fin 5632) : val_main_v3 (F := Ideal) x wg (ix2 r q) = UpSpec.proj x wg (1 : Fin 2) r q := by
  rw [val_main_v3_apply]
  refine Finset.sum_congr rfl fun k _ => congrArg₂ (· * ·) ?_ ?_
  · exact congrArg x (funext fun | ⟨0, _⟩ => rfl | ⟨1, _⟩ => rfl)
  · have e : ridx_main_v3 (ix2 r q) k = ix2 k q := funext fun | ⟨0, _⟩ => rfl | ⟨1, _⟩ => rfl
    rw [e]
    exact v2_at wg k q

/-- The product with the other weights. -/
theorem v7_at (r : Fin 16384) (q : Fin 5632) : val_main_v7 (F := Ideal) x wu (ix2 r q) = UpSpec.proj x wu (1 : Fin 2) r q := v3_at x wu r q

/-- One over one plus the exponential of the negated value is the logistic function of it. -/
theorem sigmoid_at (j : S16384x5632.Idx) :
    val_main_call0_v5 (F := Ideal) x wg j = Ideal.logistic (val_main_v3 (F := Ideal) x wg j) := by
  rw [val_main_call0_v5_apply, val_main_call0_v4_apply, val_main_call0_cst_0_apply, val_main_call0_v3_apply, val_main_call0_v2_apply,
    val_main_call0_cst_apply, val_main_call0_v1_apply, val_main_call0_v0_apply]
  show Ideal.div (Ideal.ofBits .f32 0x3F800000#32) (Ideal.ofBits .f32 0x3F800000#32 + Ideal.exp (-_)) = _
  rw [Ideal.ofBits_one_f32]
  rfl

/-- The reference's entry in row `r` and column `q` is the mathematical one. -/
theorem value_at (r : Fin 16384) (q : Fin 5632) : val_main_v9 (F := Ideal) x wg wu (ix2 r q) = UpSpec.cell x wg wu (1 : Fin 2) r q := by
  rw [val_main_v9_apply, val_main_v8_apply, val_main_v4_apply, sigmoid_at, v3_at, v7_at]
  rfl

/-- The reference's array is the mathematical output. -/
theorem value_eq (i : S16384x5632.Idx) : val_main_v9 (F := Ideal) x wg wu i = UpSpec.cell x wg wu (1 : Fin 2) (i 0) (i 1) :=
  (congrArg (val_main_v9 (F := Ideal) x wg wu) (funext fun | ⟨0, _⟩ => rfl | ⟨1, _⟩ => rfl : i = ix2 (i 0) (i 1))).trans (value_at x wg wu (i 0) (i 1))

end Cert.Reference3Ideal.DenseUp

end
-- ==== Proof.DenseUpSame.lean ====
/- The dense layer's up projection: the program read at the machine's floats and the program read on the extended
   reals are one text, so what is proved of the one for any reading of the floats holds of the other. -/
module

public import proofs.«01_k».proof.Proof.Gen.Kernel3.Skeleton
public import proofs.«01_k».proof.Proof.Gen.Kernel3Ideal.Skeleton

@[expose] public section

set_option maxRecDepth 16384

noncomputable section

namespace Cert.DenseUpSame

open Idealize.ShloMosaic Idealize.SL.Sem Cert.Kernel3.Gen Cert.Kernel3Ideal.Gen

variable {F : FTy → Type} [FloatOps F]

/-- The kernel's body is the same. -/
theorem body_eq : Cert.Kernel3.defs₀ (F := F) = Cert.Kernel3Ideal.defs₀ (F := F) := by
  funext p l a
  match p, l, a with
  | .tc, ⟨0, _⟩, (t, s) => rfl
  | .scScalar _, ⟨0, _⟩, (t, s) => rfl
  | .scVector _ _, ⟨0, _⟩, (t, s) => rfl

/-- So is the table of bodies, with the call's pipeline in it. -/
theorem defs_eq : Cert.Kernel3.defs (F := F) = Cert.Kernel3Ideal.defs (F := F) := congrArg (Pipeline.defs Cert.Kernel3.pcfgs) body_eq

set_option maxHeartbeats 4000000 in
/-- So is the host's program. -/
theorem main_eq : Cert.Kernel3.main (F := F) = Cert.Kernel3Ideal.main (F := F) := rfl

end Cert.DenseUpSame

end
-- ==== Proof.DenseUpClaims.lean ====
/- The claims about the dense layer's up projection: the kernel runs, leaves its arguments and its semaphores as it found
   them, and computes what the reference computes. -/
module

public import proofs.«01_k».proof.Defs
public import proofs.«01_k».proof.Proof.DenseUpOut
public import proofs.«01_k».proof.Proof.DenseUpRef
public import proofs.«01_k».proof.Proof.DenseUpSame
public import proofs.«01_k».proof.Proof.Runs
public import Idealize.ShloMosaic.Lib.Claim

@[expose] public section

noncomputable section

namespace Cert.DenseUpClaims

open Idealize.ShloMosaic Idealize.SL.Sem Cert.Kernel3.Gen Cert.Kernel3Ideal.Gen Cert.Reference3Ideal.Gen

/-- The kernel runs and changes no argument. -/
theorem frame_kernel : quiescent_Kernel3 := fun m g _ =>
  Runs.run_congr DenseUpSame.defs_eq DenseUpSame.main_eq
    ((θ_run _ _ _).mono (fun _ h => ⟨fun c => (h.1 c).2, h.2⟩) (Cert.Kernel3Ideal.DenseUp.run_out (F := Bits) m g))

/-- So does the kernel on the extended reals. -/
theorem frame_ideal : quiescent_Kernel3Ideal := fun m g _ =>
  (θ_run _ _ _).mono (fun _ h => ⟨fun c => (h.1 c).2, h.2⟩) (Cert.Kernel3Ideal.DenseUp.run_out m g)

/-- So does the reference. -/
theorem frame_reference : quiescent_Reference3Ideal := fun m g _ =>
  (θ_run _ _ _).mono (fun r h => ⟨fun c => (h c).2, sem_eq_zero_of_no_sems (by decide) r.2⟩) (Cert.Reference3Ideal.Value.run m g)

/-- The kernel's array and the reference's are one. -/
theorem equal : algebraic_Kernel3Ideal_Reference3Ideal := fun m g m' g' _ ha =>
  ⟨fun c => Cert.Kernel3Ideal.DenseUp.res m c,
    (θ_run _ _ _).mono (fun _ h c => ⟨(h.1 c).1.trans (Cert.Kernel3Ideal.DenseUp.out_eq m c), (h.1 c).2⟩)
      (Cert.Kernel3Ideal.DenseUp.run_out m g),
    (θ_run _ _ _).mono (fun _ h c => ⟨(h c).1.trans (by
        rw [Cert.Reference3Ideal.Read.val_main_v9_eq]
        obtain ⟨a0, a1, a2⟩ := ha c
        rw [a0, a1, a2]
        exact funext fun i => Cert.Reference3Ideal.DenseUp.value_eq _ _ _ i), (h c).2⟩)
      (Cert.Reference3Ideal.Value.run m' g')⟩

end Cert.DenseUpClaims

end
-- ==== Proof.DenseDownBody.lean ====
/- What the body of the dense down projection does at one grid point, by its three control cases: a block in use
   whose expert differs from the one before (its weight tile is converted into the scratch buffer first), a
   block in use whose weight tile is already there, and a block past the last one in use (zeros). -/
module

public import proofs.«01_k».proof.Proof.Gen.Kernel4Ideal.Skeleton
public import proofs.«01_k».proof.Proof.Gen.Kernel4Ideal.Launch
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.Lib.Pipeline.ValueKit

@[expose] public section

set_option maxRecDepth 16384

noncomputable section

namespace Cert.Kernel4Ideal.DenseDown

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table that names each block's expert, the number of blocks in use, and the table of the weights' blocks. -/
abbrev tb0 : Memref sig .tc .smem S32 .i32 := Memref.whole main_v0
abbrev tb1 : Memref sig .tc .smem S1 .i32 := Memref.whole main_v1
abbrev tb2 : Memref sig .tc .smem S32 .i32 := Memref.whole main_v13

/-- The scratch buffer of the converted weight tile. -/
abbrev sc0 : Memref sig .tc .vmem S5632x512 .bf16 := Memref.whole cc0_scratch0

/-- The words the body loads: the number of blocks in use, this block's expert, the expert of the block before. -/
abbrev wNa (T1 : S1.Idx → Elt F .i32) : Elt F .i32 :=
  View.readAt (Elt F) tb1.view (Rect.unit (s := S1) ![0] S1.size inb_S1_S1_0).toLoadRect T1 (Shape.Idx.first (numel1_S1.symm ▸ Nat.one_pos))
abbrev wBe (i : grid0.Coords) (T0 : S32.Idx → Elt F .i32) : Elt F .i32 :=
  View.readAt (Elt F) tb0.view (Rect.unit (s := S32) (k0_off1 i) S1.size (k0_off1_inb i)).toLoadRect T0 (Shape.Idx.first (numel1_S1.symm ▸ Nat.one_pos))
abbrev wPrev (i : grid0.Coords) (T0 : S32.Idx → Elt F .i32) : Elt F .i32 :=
  View.readAt (Elt F) tb0.view (Rect.unit (s := S32) (k0_off2 i) S1.size (k0_off2_inb i)).toLoadRect T0 (Shape.Idx.first (numel1_S1.symm ▸ Nat.one_pos))

/-- The condition under which the body converts the weight tile, over the words it loads. -/
def fresh (i : grid0.Coords) (v0 v4 v8 : BitVec 32) : BitVec 1 :=
  Scalar.cmpi .ne (Scalar.extui (Scalar.andi (Scalar.cmpi .slt (BitVec.ofNat 32 (i 1).val) v0)
    (Scalar.ori (Scalar.cmpi .eq (BitVec.ofNat 32 (i 1).val) 0#32) (Scalar.cmpi .ne v4 v8))) : BitVec 32) 0#32

set_option maxHeartbeats 4000000 in
/-- A block in use with a new expert: the scratch buffer ends at the converted weight tile, and the output block at
    the gated product computed from them. -/
theorem body_fresh (c : Dev nD) (i : grid0.Coords) (arg5 : Memref sig .tc .vmem S512x5632 .bf16) (harg5 : arg5.IsWhole) (arg6 : Memref sig .tc .vmem S1x5632x512 .f32) (harg6 : arg6.IsWhole) (arg7 : Memref sig .tc .vmem S512x512 .f32) (harg7 : arg7.IsWhole) (arg8 : Memref sig .tc .vmem S512x512 .f32) (harg8 : arg8.IsWhole)
    (T0 : S32.Idx → Elt F .i32) (T1 : S1.Idx → Elt F .i32) (T2 : S32.Idx → Elt F .i32)
    (x0 : S512x5632.Idx → Elt F .bf16) (x1 : S1x5632x512.Idx → Elt F .f32) (x2 : S512x512.Idx → Elt F .f32) (s0 : S5632x512.Idx → Elt F .bf16)
    (h1 : fresh i (wNa T1) (wBe i T0) (wPrev i T0) = 1#1) (h2 : k0_cond2 i (wNa T1) = 1#1) (h3 : ¬ k0_cond3 i (wNa T1) = 1#1) (K : PUnit → sProp 𝕄) :
    iprop(owns (c : Thread nD τ) arg5 fullShare x0 ∗ owns (c : Thread nD τ) arg6 fullShare x1 ∗ owns (c : Thread nD τ) arg7 fullShare x2
        ∗ (tb0.view.loc (c : Thread nD τ) ↦{fullShare.right} T0) ∗ (tb1.view.loc (c : Thread nD τ) ↦{fullShare.right} T1) ∗ (tb2.view.loc (c : Thread nD τ) ↦{fullShare.right} T2)
        ∗ (∃ d, owns (c : Thread nD τ) arg8 fullShare d)
        ∗ owns (c : Thread nD τ) sc0 fullShare s0
        ∗ (iprop(owns (c : Thread nD τ) arg5 fullShare x0 ∗ owns (c : Thread nD τ) arg6 fullShare x1 ∗ owns (c : Thread nD τ) arg7 fullShare x2
            ∗ (tb0.view.loc (c : Thread nD τ) ↦{fullShare.right} T0) ∗ (tb1.view.loc (c : Thread nD τ) ↦{fullShare.right} T1) ∗ (tb2.view.loc (c : Thread nD τ) ↦{fullShare.right} T2)
            ∗ owns (c : Thread nD τ) arg8 fullShare (k0_pay2 x0 (k0_pay1 x1) x2)
            ∗ owns (c : Thread nD τ) sc0 fullShare (k0_pay1 x1)) -∗ K ⟨⟩))
      ⊢ wp frame (wpE (defs₀ (F := F)) Variants.none c none) Set.univ (cc0_ffn_down i tb0 (Memref.isWhole_whole _) tb1 (Memref.isWhole_whole _) tb2 (Memref.isWhole_whole _) arg5 harg5 arg6 harg6 arg7 harg7 arg8 harg8 sc0 (Memref.isWhole_whole _)) K := by
  rw [cc0_ffn_down_eq_skeleton]; unfold cc0_ffn_down_skel
  unfold owns
  iintro ⟨⟨%f0, %hf0, H0⟩, ⟨%f1, %hf1, H1⟩, ⟨%f2, %hf2, H2⟩, HT0, HT1, HT2, ⟨%d3, %f3, -, HO3⟩, ⟨%g0, -, HS0⟩, Hk⟩
  have hS0 : sc0.IsWhole := Memref.isWhole_whole _
  have hT0 : tb0.IsWhole := Memref.isWhole_whole _
  have hT1 : tb1.IsWhole := Memref.isWhole_whole _
  have hT2 : tb2.IsWhole := Memref.isWhole_whole _
  sl_exec! (disch := first | (guard_target = k0_cond2 _ _ = _; exact h2) | (guard_target = ¬(k0_cond3 _ _ = _); exact h3) | exact h1)
  sl_step
  iapply Hk
  isplitl [H0]
  · iexists f0; isplitr
    · ipureintro; exact hf0
    · iexact H0
  isplitl [H1]
  · iexists f1; isplitr
    · ipureintro; exact hf1
    · iexact H1
  isplitl [H2]
  · iexists f2; isplitr
    · ipureintro; exact hf2
    · iexact H2
  isplitl [HT0]; · iexact HT0
  isplitl [HT1]; · iexact HT1
  isplitl [HT2]; · iexact HT2
  subst hf0 hf1 hf2
  isplitl [HO3]
  · iexists _; isplitr; swap
    · iexact HO3
    · ipureintro
      sl_unfold_words
      frame_out
  iexists _; isplitr; swap
  · iexact HS0
  · ipureintro
    sl_unfold_words
    frame_out

set_option maxHeartbeats 4000000 in
/-- A block in use whose expert is the one before it: the scratch buffer is read and kept. -/
theorem body_kept (c : Dev nD) (i : grid0.Coords) (arg5 : Memref sig .tc .vmem S512x5632 .bf16) (harg5 : arg5.IsWhole) (arg6 : Memref sig .tc .vmem S1x5632x512 .f32) (harg6 : arg6.IsWhole) (arg7 : Memref sig .tc .vmem S512x512 .f32) (harg7 : arg7.IsWhole) (arg8 : Memref sig .tc .vmem S512x512 .f32) (harg8 : arg8.IsWhole)
    (T0 : S32.Idx → Elt F .i32) (T1 : S1.Idx → Elt F .i32) (T2 : S32.Idx → Elt F .i32)
    (x0 : S512x5632.Idx → Elt F .bf16) (x1 : S1x5632x512.Idx → Elt F .f32) (x2 : S512x512.Idx → Elt F .f32) (s0 : S5632x512.Idx → Elt F .bf16)
    (h1 : ¬ fresh i (wNa T1) (wBe i T0) (wPrev i T0) = 1#1) (h2 : k0_cond2 i (wNa T1) = 1#1) (h3 : ¬ k0_cond3 i (wNa T1) = 1#1) (K : PUnit → sProp 𝕄) :
    iprop(owns (c : Thread nD τ) arg5 fullShare x0 ∗ owns (c : Thread nD τ) arg6 fullShare x1 ∗ owns (c : Thread nD τ) arg7 fullShare x2
        ∗ (tb0.view.loc (c : Thread nD τ) ↦{fullShare.right} T0) ∗ (tb1.view.loc (c : Thread nD τ) ↦{fullShare.right} T1) ∗ (tb2.view.loc (c : Thread nD τ) ↦{fullShare.right} T2)
        ∗ (∃ d, owns (c : Thread nD τ) arg8 fullShare d)
        ∗ owns (c : Thread nD τ) sc0 fullShare s0
        ∗ (iprop(owns (c : Thread nD τ) arg5 fullShare x0 ∗ owns (c : Thread nD τ) arg6 fullShare x1 ∗ owns (c : Thread nD τ) arg7 fullShare x2
            ∗ (tb0.view.loc (c : Thread nD τ) ↦{fullShare.right} T0) ∗ (tb1.view.loc (c : Thread nD τ) ↦{fullShare.right} T1) ∗ (tb2.view.loc (c : Thread nD τ) ↦{fullShare.right} T2)
            ∗ owns (c : Thread nD τ) arg8 fullShare (k0_pay2 x0 s0 x2)
            ∗ owns (c : Thread nD τ) sc0 fullShare s0) -∗ K ⟨⟩))
      ⊢ wp frame (wpE (defs₀ (F := F)) Variants.none c none) Set.univ (cc0_ffn_down i tb0 (Memref.isWhole_whole _) tb1 (Memref.isWhole_whole _) tb2 (Memref.isWhole_whole _) arg5 harg5 arg6 harg6 arg7 harg7 arg8 harg8 sc0 (Memref.isWhole_whole _)) K := by
  rw [cc0_ffn_down_eq_skeleton]; unfold cc0_ffn_down_skel
  unfold owns
  iintro ⟨⟨%f0, %hf0, H0⟩, ⟨%f1, %hf1, H1⟩, ⟨%f2, %hf2, H2⟩, HT0, HT1, HT2, ⟨%d3, %f3, -, HO3⟩, ⟨%g0, %hg0, HS0⟩, Hk⟩
  have hS0 : sc0.IsWhole := Memref.isWhole_whole _
  have hT0 : tb0.IsWhole := Memref.isWhole_whole _
  have hT1 : tb1.IsWhole := Memref.isWhole_whole _
  have hT2 : tb2.IsWhole := Memref.isWhole_whole _
  sl_exec! (disch := first | (guard_target = k0_cond2 _ _ = _; exact h2) | (guard_target = ¬(k0_cond3 _ _ = _); exact h3) | exact h1)
  sl_step
  iapply Hk
  isplitl [H0]
  · iexists f0; isplitr
    · ipureintro; exact hf0
    · iexact H0
  isplitl [H1]
  · iexists f1; isplitr
    · ipureintro; exact hf1
    · iexact H1
  isplitl [H2]
  · iexists f2; isplitr
    · ipureintro; exact hf2
    · iexact H2
  isplitl [HT0]; · iexact HT0
  isplitl [HT1]; · iexact HT1
  isplitl [HT2]; · iexact HT2
  subst hf0 hf1 hf2 hg0
  isplitl [HO3]
  · iexists _; isplitr; swap
    · iexact HO3
    · ipureintro
      sl_unfold_words
      frame_out
  iexists g0; isplitr
  · ipureintro; rfl
  · iexact HS0

set_option maxHeartbeats 4000000 in
/-- A block past the last one in use: zeros, and the scratch buffer is kept. -/
theorem body_past (c : Dev nD) (i : grid0.Coords) (arg5 : Memref sig .tc .vmem S512x5632 .bf16) (harg5 : arg5.IsWhole) (arg6 : Memref sig .tc .vmem S1x5632x512 .f32) (harg6 : arg6.IsWhole) (arg7 : Memref sig .tc .vmem S512x512 .f32) (harg7 : arg7.IsWhole) (arg8 : Memref sig .tc .vmem S512x512 .f32) (harg8 : arg8.IsWhole)
    (T0 : S32.Idx → Elt F .i32) (T1 : S1.Idx → Elt F .i32) (T2 : S32.Idx → Elt F .i32)
    (x0 : S512x5632.Idx → Elt F .bf16) (x1 : S1x5632x512.Idx → Elt F .f32) (x2 : S512x512.Idx → Elt F .f32) (s0 : S5632x512.Idx → Elt F .bf16)
    (h1 : ¬ fresh i (wNa T1) (wBe i T0) (wPrev i T0) = 1#1) (h2 : ¬ k0_cond2 i (wNa T1) = 1#1) (h3 : k0_cond3 i (wNa T1) = 1#1) (K : PUnit → sProp 𝕄) :
    iprop(owns (c : Thread nD τ) arg5 fullShare x0 ∗ owns (c : Thread nD τ) arg6 fullShare x1 ∗ owns (c : Thread nD τ) arg7 fullShare x2
        ∗ (tb0.view.loc (c : Thread nD τ) ↦{fullShare.right} T0) ∗ (tb1.view.loc (c : Thread nD τ) ↦{fullShare.right} T1) ∗ (tb2.view.loc (c : Thread nD τ) ↦{fullShare.right} T2)
        ∗ (∃ d, owns (c : Thread nD τ) arg8 fullShare d)
        ∗ owns (c : Thread nD τ) sc0 fullShare s0
        ∗ (iprop(owns (c : Thread nD τ) arg5 fullShare x0 ∗ owns (c : Thread nD τ) arg6 fullShare x1 ∗ owns (c : Thread nD τ) arg7 fullShare x2
            ∗ (tb0.view.loc (c : Thread nD τ) ↦{fullShare.right} T0) ∗ (tb1.view.loc (c : Thread nD τ) ↦{fullShare.right} T1) ∗ (tb2.view.loc (c : Thread nD τ) ↦{fullShare.right} T2)
            ∗ owns (c : Thread nD τ) arg8 fullShare k0_pay3
            ∗ owns (c : Thread nD τ) sc0 fullShare s0) -∗ K ⟨⟩))
      ⊢ wp frame (wpE (defs₀ (F := F)) Variants.none c none) Set.univ (cc0_ffn_down i tb0 (Memref.isWhole_whole _) tb1 (Memref.isWhole_whole _) tb2 (Memref.isWhole_whole _) arg5 harg5 arg6 harg6 arg7 harg7 arg8 harg8 sc0 (Memref.isWhole_whole _)) K := by
  rw [cc0_ffn_down_eq_skeleton]; unfold cc0_ffn_down_skel
  unfold owns
  iintro ⟨⟨%f0, %hf0, H0⟩, ⟨%f1, %hf1, H1⟩, ⟨%f2, %hf2, H2⟩, HT0, HT1, HT2, ⟨%d3, %f3, -, HO3⟩, ⟨%g0, %hg0, HS0⟩, Hk⟩
  have hS0 : sc0.IsWhole := Memref.isWhole_whole _
  have hT0 : tb0.IsWhole := Memref.isWhole_whole _
  have hT1 : tb1.IsWhole := Memref.isWhole_whole _
  have hT2 : tb2.IsWhole := Memref.isWhole_whole _
  sl_exec! (disch := first | (guard_target = ¬(k0_cond2 _ _ = _); exact h2) | (guard_target = k0_cond3 _ _ = _; exact h3) | exact h1)
  sl_step
  iapply Hk
  isplitl [H0]
  · iexists f0; isplitr
    · ipureintro; exact hf0
    · iexact H0
  isplitl [H1]
  · iexists f1; isplitr
    · ipureintro; exact hf1
    · iexact H1
  isplitl [H2]
  · iexists f2; isplitr
    · ipureintro; exact hf2
    · iexact H2
  isplitl [HT0]; · iexact HT0
  isplitl [HT1]; · iexact HT1
  isplitl [HT2]; · iexact HT2
  subst hf0 hf1 hf2 hg0
  isplitl [HO3]
  · iexists _; isplitr; swap
    · iexact HO3
    · ipureintro
      sl_unfold_words
      frame_out
  iexists g0; isplitr
  · ipureintro; rfl
  · iexact HS0

end Cert.Kernel4Ideal.DenseDown

end
-- ==== Proof.DenseDownRun.lean ====
/- The run of the dense down projection: at tables the program admits, what the scratch buffer holds between points,
   the body's obligation at every point, and the launch. -/
module

public import proofs.«01_k».proof.Proof.DenseDownBody
public import proofs.«01_k».proof.Proof.Words
public import Idealize.ShloMosaic.Lib.Pipeline.Frame
public import Idealize.ShloMosaic.Lib.Pipeline.TableIdle
public import Idealize.ShloMosaic.Lib.Pipeline.Kit

@[expose] public section

set_option maxRecDepth 16384

noncomputable section

namespace Cert.Kernel4Ideal.DenseDown

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Words (InUse)
open Idealize.ShloMosaic.Pipeline (Dat Cfg Window BodyObligation BodyObligationLoose cellOf)

variable {F : FTy → Type} [FloatOps F]

local notation "𝕄" => MT nD τ sig Unit (Elt F) ℕ (UR sig nD τ) ℕ

/-! ## The words -/

/-- The index `n` into a table of 32 words, and the one index into a table of one word. -/
abbrev ixB (n : ℕ) (hn : n < 32) : S32.Idx := fun a => ⟨n, by fin_cases a; exact hn⟩
abbrev ix1 : S1.Idx := fun a => ⟨0, by fin_cases a; exact Nat.one_pos⟩

/-- The number of blocks in use, read off its table. -/
abbrev naOf (pf : pre0.Contents (Elt F)) : BitVec 32 := (pf 1 : S1.Idx → Elt F .i32) ix1
/-- Block `n`'s expert. -/
abbrev beOf (pf : pre0.Contents (Elt F)) (n : ℕ) (hn : n < 32) : BitVec 32 := (pf 0 : S32.Idx → Elt F .i32) (ixB n hn)
/-- The index of the weights that block `n` reads. -/
abbrev bwOf (pf : pre0.Contents (Elt F)) (n : ℕ) (hn : n < 32) : BitVec 32 := (pf 2 : S32.Idx → Elt F .i32) (ixB n hn)

theorem wNa_eq (pf : pre0.Contents (Elt F)) : wNa (pf 1) = naOf pf :=
  congrArg (pf 1 : S1.Idx → Elt F .i32) (funext fun a => Fin.ext (by fin_cases a; rfl))

theorem off1_val (i : grid0.Coords) : k0_off1 i 0 = (i 1).val :=
  (by decide +kernel : ∀ n : Fin 32, (Scalar.indexCast (BitVec.ofNat 32 n.val) : Index).toNat = n.val) (i 1)

theorem off2_val (i : grid0.Coords) : k0_off2 i 0 = (i 1).val - 1 :=
  (by decide +kernel : ∀ n : Fin 32, (Scalar.indexCast (Scalar.maxsi (Scalar.subi (BitVec.ofNat 32 n.val) 1#32) 0#32) : Index).toNat = n.val - 1) (i 1)

theorem wBe_eq (pf : pre0.Contents (Elt F)) (i : grid0.Coords) : wBe i (pf 0) = beOf pf (i 1).val (i 1).isLt :=
  congrArg (pf 0 : S32.Idx → Elt F .i32) (funext fun a => Fin.ext (by fin_cases a; exact off1_val i))

theorem wPrev_eq (pf : pre0.Contents (Elt F)) (i : grid0.Coords) :
    wPrev i (pf 0) = beOf pf ((i 1).val - 1) (lt_of_le_of_lt (Nat.sub_le _ _) (i 1).isLt) :=
  congrArg (pf 0 : S32.Idx → Elt F .i32) (funext fun a => Fin.ext (by fin_cases a; exact off2_val i))

theorem cond2_iff (i : grid0.Coords) (v : BitVec 32) : k0_cond2 i v = 1#1 ↔ InUse v (i 1).val :=
  (by decide : ∀ b : Bool, Scalar.cmpi .ne (Scalar.extui (BitVec.ofBool b) : BitVec 32) 0#32 = 1#1 ↔ b = true) _

theorem cond3_iff (i : grid0.Coords) (v : BitVec 32) : k0_cond3 i v = 1#1 ↔ ¬ InUse v (i 1).val :=
  (by decide : ∀ b : Bool, Scalar.cmpi .ne (Scalar.extui (Scalar.xori (BitVec.ofBool b) 1#1) : BitVec 32) 0#32 = 1#1 ↔ ¬ b = true) _

theorem fresh_iff (i : grid0.Coords) (v a b : BitVec 32) :
    fresh i v a b = 1#1 ↔ InUse v (i 1).val ∧ ((i 1).val = 0 ∨ a ≠ b) := by
  have h0 := Words.eq_zero_small (i 1).val (lt_trans (show (i 1).val < 32 from (i 1).isLt) (by decide))
  have h1 : ((a != b) = true) ↔ a ≠ b := bne_iff_ne
  rw [← h0, ← h1]
  exact (by decide : ∀ p q r : Bool, Scalar.cmpi .ne (Scalar.extui (Scalar.andi (BitVec.ofBool p)
    (Scalar.ori (BitVec.ofBool q) (BitVec.ofBool r))) : BitVec 32) 0#32 = 1#1 ↔ p = true ∧ (q = true ∨ r = true)) _ _ _

/-! ## The pipeline at admitted tables -/

/-- The pipeline's windows and grid at the tables' contents `a`. -/
abbrev cfgA (a : (pcfg0 (F := F)).Adm) : Pipeline.Cfg sig Λ₀ := cfg0 (F := F) a

section Points
variable (a : (pcfg0 (F := F)).Adm)

/-- Point `t`'s coordinates: the column block and the row block. -/
abbrev crd (t : Fin (cfgA a).N) : grid0.Coords := grid0.coords t

abbrev ms0 (t : Fin (cfgA a).N) : Memref sig .tc .vmem S512x5632 .bf16 := spec0_0.stage ((cfgA a).slots t (0 : Fin 4))
abbrev hs0 (t : Fin (cfgA a).N) : (ms0 a t).IsWhole := hstage0_0 (((cfgA a).slots t (0 : Fin 4)).cast nbuf0_0)
abbrev ms1 (t : Fin (cfgA a).N) : Memref sig .tc .vmem S1x5632x512 .f32 := spec0_1.stage ((cfgA a).slots t (1 : Fin 4))
abbrev hs1 (t : Fin (cfgA a).N) : (ms1 a t).IsWhole := hstage0_1 (((cfgA a).slots t (1 : Fin 4)).cast nbuf0_1)
abbrev ms2 (t : Fin (cfgA a).N) : Memref sig .tc .vmem S512x512 .f32 := spec0_2.stage ((cfgA a).slots t (2 : Fin 4))
abbrev hs2 (t : Fin (cfgA a).N) : (ms2 a t).IsWhole := hstage0_2 (((cfgA a).slots t (2 : Fin 4)).cast nbuf0_2)
abbrev ms3 (t : Fin (cfgA a).N) : Memref sig .tc .vmem S512x512 .f32 := spec0_3.stage ((cfgA a).slots t (3 : Fin 4))
abbrev hs3 (t : Fin (cfgA a).N) : (ms3 a t).IsWhole := hstage0_3 (((cfgA a).slots t (3 : Fin 4)).cast nbuf0_3)

/-- The coordinates of point `t`, the row block the faster. -/
theorem crd_val : ∀ t : Fin grid0.N, (grid0.coords t 0).val = t.val / 32 ∧ (grid0.coords t 1).val = t.val % 32 := by
  decide +kernel

variable (V : (c : Dev nD) → (b : Ref sig .tc) → Buf (Elt F) ((c : Thread nD τ).loc b))

/-- Window `w`'s block at point `t`, of the array as the region finds it. -/
def iblk (c : Dev nD) (w : Fin 4) (t : Fin (cfgA a).N) : (((cfgA a).win w).xblock (crd a t)).Idx → Elt F ((cfgA a).win w).elt :=
  (((cfgA a).win w).blk t).view.read (Elt F) (V c (Pipeline.arrRef spec0 w))

/-- The input blocks at their own types. -/
abbrev xB (c : Dev nD) (t : Fin (cfgA a).N) : S512x5632.Idx → Elt F .bf16 := iblk a V c 0 t
abbrev gB (c : Dev nD) (t : Fin (cfgA a).N) : S1x5632x512.Idx → Elt F .f32 := iblk a V c 1 t
abbrev rB (c : Dev nD) (t : Fin (cfgA a).N) : S512x512.Idx → Elt F .f32 := iblk a V c 2 t

/-- What point `t` leaves in the output block. -/
def outB (c : Dev nD) (t : Fin (cfgA a).N) : S512x512.Idx → Elt F .f32 :=
  if InUse (naOf a.1) (crd a t 1).val then k0_pay2 (xB a V c t) (k0_pay1 (gB a V c t)) (rB a V c t) else k0_pay3

/-- Between points: the scratch buffer holds the converted weight tile of the point before, where that point's block
    is in use; the tables are held for reading. -/
def Phi (c : Dev nD) (t : Fin ((cfgA a).N + 1)) : sProp 𝕄 :=
  iprop((∃ s0, ⌜∀ p : Fin (cfgA a).N, p.val + 1 = t.val → InUse (naOf a.1) (crd a p 1).val →
          s0 = k0_pay1 (gB a V c p)⌝
        ∗ owns (c : Thread nD τ) sc0 fullShare s0)
    ∗ (tb0.view.loc (c : Thread nD τ) ↦{fullShare.right} a.1 0) ∗ (tb1.view.loc (c : Thread nD τ) ↦{fullShare.right} a.1 1)
    ∗ (tb2.view.loc (c : Thread nD τ) ↦{fullShare.right} a.1 2) ∗ ∃ r, prngReg c r)

/-- The proof data of the one pipeline on core `c`. -/
def dats (_ : Fin 1) (c : Dev nD) : Dat τ (Elt F) Unit ℕ (UR sig nD τ) ℕ (cfgA a) c where
  A w := V c (Pipeline.arrRef spec0 w)
  after w t := match w with
    | ⟨0, _⟩ => iblk a V c 0 t
    | ⟨1, _⟩ => iblk a V c 1 t
    | ⟨2, _⟩ => iblk a V c 2 t
    | ⟨3, _⟩ => outB a V c t
  Φ t := Phi a V c t
  q _ := fullShare
  owed _ := 0

theorem after0 (c : Dev nD) (t : Fin (cfgA a).N) : (dats a V 0 c).after (0 : Fin 4) t = iblk a V c 0 t := rfl
theorem after1 (c : Dev nD) (t : Fin (cfgA a).N) : (dats a V 0 c).after (1 : Fin 4) t = iblk a V c 1 t := rfl
theorem after2 (c : Dev nD) (t : Fin (cfgA a).N) : (dats a V 0 c).after (2 : Fin 4) t = iblk a V c 2 t := rfl
theorem after3 (c : Dev nD) (t : Fin (cfgA a).N) : (dats a V 0 c).after (3 : Fin 4) t = outB a V c t := rfl

/-- Each input window holds its block when the body runs, fetched at that point or not. -/
theorem before0 (c : Dev nD) (t : Fin (cfgA a).N) (d) : (dats a V 0 c).before (0 : Fin 4) t d = iblk a V c 0 t :=
  ((dats a V 0 c).before_in_eq_fetched (0 : Fin 4) rfl (fun _ => rfl) (fun _ _ _ => rfl) (fun t => by rw [after0]; unfold Dat.blockOf iblk; rfl) t d).trans
    (by unfold Dat.fetched Dat.blockOf iblk; rfl)
theorem before1 (c : Dev nD) (t : Fin (cfgA a).N) (d) : (dats a V 0 c).before (1 : Fin 4) t d = iblk a V c 1 t :=
  ((dats a V 0 c).before_in_eq_fetched (1 : Fin 4) rfl (fun _ => rfl) (fun _ _ _ => rfl) (fun t => by rw [after1]; unfold Dat.blockOf iblk; rfl) t d).trans
    (by unfold Dat.fetched Dat.blockOf iblk; rfl)
theorem before2 (c : Dev nD) (t : Fin (cfgA a).N) (d) : (dats a V 0 c).before (2 : Fin 4) t d = iblk a V c 2 t :=
  ((dats a V 0 c).before_in_eq_fetched (2 : Fin 4) rfl (fun _ => rfl) (fun _ _ _ => rfl) (fun t => by rw [after2]; unfold Dat.blockOf iblk; rfl) t d).trans
    (by unfold Dat.fetched Dat.blockOf iblk; rfl)

/-- The word that the windows' schedule reads for "in use" is the number of blocks in use. -/
theorem atD_na : a.1.atD 1 ![0] = naOf a.1 := by
  unfold Pipeline.Prefetch.Contents.atD
  rw [dif_pos (by intro b; fin_cases b; exact Nat.le_refl 1)]
  exact congrArg (a.1 1 : S1.Idx → Elt F .i32) (funext fun b => Fin.ext (by fin_cases b; rfl))

/-- The output block is stored at every point. -/
theorem idle3 (t : Fin (cfgA a).N) : (cfgA a).idle (3 : Fin 4) (crd a t) = false := by
  show (!(k0_cond2 (crd a t) (a.1.atD 1 ![0]) == 1#1) && !(k0_cond3 (crd a t) (a.1.atD 1 ![0]) == 1#1)) = false
  by_cases h : InUse (a.1.atD 1 ![0]) (crd a t 1).val
  · rw [(cond2_iff _ _).2 h]; rfl
  · rw [(cond3_iff _ _).2 h]; simp

/-- A column block's word is its number. -/
theorem coord0 (i : grid0.Coords) : (BitVec.ofNat 32 (i 0).val).toNat = (i 0).val :=
  (by decide +kernel : ∀ n : Fin 4, (BitVec.ofNat 32 n.val).toNat = n.val) (i 0)

/-- The word the weights' index maps load. -/
theorem bw_at (pf : pre0.Contents (Elt F)) (i : grid0.Coords) :
    pf.at 2 (Rect.unit (s := S32) (k0_off1 i) S1.size (k0_off1_inb i)) numel1_S1 = bwOf pf (i 1).val (i 1).isLt :=
  congrArg (pf 2 : S32.Idx → Elt F .i32) (funext fun b => Fin.ext (by fin_cases b; exact off1_val i))

/-- The weights' index map reads the third table at the row block, and the column block. -/
theorem index1 (t : Fin (cfgA a).N) : ((cfgA a).win (1 : Fin 4)).index t
    = ![(bwOf a.1 (crd a t 1).val (crd a t 1).isLt).toNat, 0, (crd a t 0).val] := by
  funext j
  fin_cases j
  · exact congrArg BitVec.toNat (bw_at a.1 (grid0.coords t))
  · rfl
  · exact coord0 (grid0.coords t)

/-- Two points with one column block and one weights' index read one weight tile. -/
theorem gB_congr (c : Dev nD) (t p : Fin (cfgA a).N) (h0 : (crd a t 0).val = (crd a p 0).val)
    (h : bwOf a.1 (crd a t 1).val (crd a t 1).isLt = bwOf a.1 (crd a p 1).val (crd a p 1).isLt) : gB a V c t = gB a V c p := by
  funext y
  unfold gB
  blk_simp [iblk]
  blk_ext [index1 a t, index1 a p]
  rw [h]

/-! ## The body's obligation -/

/-- The weights' index table agrees with the experts' table at the blocks in use. -/
def Agree : Prop := ∀ n (hn : n < 32), InUse (naOf a.1) n → bwOf a.1 n hn = beOf a.1 n hn

/-- The body at point `t` on its staging buffers, as the pipeline calls it. -/
abbrev bodyAt (t : Fin (cfgA a).N) : Prog (TpuEff nD τ sig (Elt F) Λ₀ .tc) PUnit :=
  cc0_ffn_down (crd a t) tb0 (Memref.isWhole_whole _) tb1 (Memref.isWhole_whole _) tb2 (Memref.isWhole_whole _) (ms0 a t) (hs0 a t) (ms1 a t) (hs1 a t)
    (ms2 a t) (hs2 a t) (ms3 a t) (hs3 a t) sc0 (Memref.isWhole_whole _)

set_option maxHeartbeats 1000000 in
/-- At every point the body takes the invariant and the input blocks to the invariant and the output block: at a block
    in use whose weights differ from the ones before, with the weights converted there; at another block in use, with
    the weights the scratch buffer holds; past the blocks in use, with zeros. -/
theorem sound_body (hag : Agree a) (c : Dev nD) (t : Fin (cfgA a).N) :
    iprop((dats a V 0 c).Φ t.castSucc ∗ (dats a V 0 c).owesAt () t.castSucc
        ∗ (∃ d, owns (c : Thread nD τ) (ms0 a t) fullShare ((dats a V 0 c).before (0 : Fin 4) t d))
        ∗ (∃ d, owns (c : Thread nD τ) (ms1 a t) fullShare ((dats a V 0 c).before (1 : Fin 4) t d))
        ∗ (∃ d, owns (c : Thread nD τ) (ms2 a t) fullShare ((dats a V 0 c).before (2 : Fin 4) t d))
        ∗ (∃ d, owns (c : Thread nD τ) (ms3 a t) fullShare ((dats a V 0 c).before (3 : Fin 4) t d)))
      ⊢ wp frame (wpE (defs₀ (F := F)) Variants.none c none) Set.univ (bodyAt a t) fun _ =>
          iprop((dats a V 0 c).Φ t.succ ∗ (dats a V 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a V 0 c).before w t d))
                  | true => owns (c : Thread nD τ) (((cfgA a).win w).stage ((cfgA a).slots t w)) fullShare ((dats a V 0 c).after w t)
                | false => owns (c : Thread nD τ) (((cfgA a).win w).stage ((cfgA a).slots t w)) fullShare ((dats a V 0 c).after w t)) := by
  rw [bigSep_W0]
  rewrite [show (cfgA a).idle (3 : Fin 4) ((cfgA a).grid.coords t) = false from idle3 a t]
  simp only [before0, before1, before2, after0, after1, after2, after3]
  rewrite [show (dats a V 0 c).Φ t.succ = Phi a V c t.succ from rfl, show (dats a V 0 c).Φ t.castSucc = Phi a V c t.castSucc from rfl,
    show (dats a V 0 c).owesAt () t.succ = (dats a V 0 c).owesAt () t.castSucc from rfl]
  unfold Phi
  simp only [Fin.val_castSucc, Fin.val_succ]
  iintro ⟨⟨⟨%s0, %hs, HS0⟩, HT0, HT1, HT2, Hr⟩, Ho, ⟨%d0, H0⟩, ⟨%d1, H1⟩, ⟨%d2, H2⟩, ⟨%d3, H3⟩⟩
  -- the next point's reading of the invariant is at this point
  have only : ∀ p : Fin (cfgA a).N, p.val + 1 = t.val + 1 → p = t := fun p hp => Fin.ext (Nat.succ.inj hp)
  by_cases hu : InUse (naOf a.1) (crd a t 1).val
  · have h2 : k0_cond2 (crd a t) (wNa (a.1 1)) = 1#1 := (cond2_iff _ _).2 (by rw [wNa_eq]; exact hu)
    have h3 : ¬ k0_cond3 (crd a t) (wNa (a.1 1)) = 1#1 := fun h => (cond3_iff _ _).1 h (by rw [wNa_eq]; exact hu)
    have eo : outB a V c t = k0_pay2 (xB a V c t) (k0_pay1 (gB a V c t)) (rB a V c t) := if_pos hu
    by_cases h1 : fresh (crd a t) (wNa (a.1 1)) (wBe (crd a t) (a.1 0)) (wPrev (crd a t) (a.1 0)) = 1#1
    · iapply (body_fresh c (crd a t) (ms0 a t) (hs0 a t) (ms1 a t) (hs1 a t) (ms2 a t) (hs2 a t) (ms3 a t) (hs3 a t)
        (a.1 0) (a.1 1) (a.1 2) (xB a V c t) (gB a V c t) (rB a V c t) s0 h1 h2 h3 _)
      isplitl [H0]; · iexact H0
      isplitl [H1]; · iexact H1
      isplitl [H2]; · iexact H2
      isplitl [HT0]; · iexact HT0
      isplitl [HT1]; · iexact HT1
      isplitl [HT2]; · iexact HT2
      isplitl [H3]; · iexists _; iexact H3
      isplitl [HS0]; · iexact HS0
      iintro ⟨H0, H1, H2, HT0, HT1, HT2, H3, HS0⟩
      isplitl [HS0 HT0 HT1 HT2 Hr]
      · isplitl [HS0]
        · iexists _
          isplitr; swap
          · iexact HS0
          · ipureintro; intro p hp _; rw [only p hp]
        isplitl [HT0]; · iexact HT0
        isplitl [HT1]; · iexact HT1
        isplitl [HT2]; · iexact HT2
        iexact Hr
      isplitl [Ho]; · iexact Ho
      isplitl [H0]; · iexact H0
      isplitl [H1]; · iexact H1
      isplitl [H2]; · iexact H2
      rw [eo]; iexact H3
    · -- the block before has the same expert and the same column block: the scratch buffer holds its weights
      have hk : s0 = k0_pay1 (gB a V c t) := by
        rw [fresh_iff, wNa_eq] at h1
        have hne : (crd a t 1).val ≠ 0 := fun h => h1 ⟨hu, Or.inl h⟩
        have hbe : wBe (crd a t) (a.1 0) = wPrev (crd a t) (a.1 0) := by_contra fun h => h1 ⟨hu, Or.inr h⟩
        rw [wBe_eq, wPrev_eq] at hbe
        obtain ⟨v0, v1⟩ := crd_val t
        have ht : t.val < 128 := lt_of_lt_of_eq t.isLt N_0
        let p : Fin (cfgA a).N := ⟨t.val - 1, by have := t.isLt; omega⟩
        obtain ⟨w0, w1⟩ := crd_val p
        have hp : p.val = t.val - 1 := rfl
        have e1 : (crd a p 1).val = (crd a t 1).val - 1 := by
          have v1' : (crd a t 1).val = t.val % 32 := v1
          have w1' : (crd a p 1).val = p.val % 32 := w1
          omega
        have e0 : (crd a t 0).val = (crd a p 0).val := by
          have v1' : (crd a t 1).val = t.val % 32 := v1
          have v0' : (crd a t 0).val = t.val / 32 := v0
          have w0' : (crd a p 0).val = p.val / 32 := w0
          omega
        have hup : InUse (naOf a.1) (crd a p 1).val := by
          rw [e1]; exact Words.inUse_pred _ _ (lt_trans (show (crd a t 1).val < 32 from (crd a t 1).isLt) (by decide)) hu
        have l72 : (crd a t 1).val < 32 := (crd a t 1).isLt
        have hb : bwOf a.1 (crd a t 1).val (crd a t 1).isLt = bwOf a.1 (crd a p 1).val (crd a p 1).isLt := by
          rw [hag _ (crd a t 1).isLt hu, hag _ (crd a p 1).isLt hup, hbe]
          exact congrArg (fun n : Fin 32 => beOf a.1 n.val n.isLt) (Fin.ext e1.symm : (⟨(crd a t 1).val - 1, lt_of_le_of_lt (Nat.sub_le _ _) l72⟩ : Fin 32) = ⟨(crd a p 1).val, (crd a p 1).isLt⟩)
        have ht0 : t.val ≠ 0 := fun h => hne (by
          have v1' : (crd a t 1).val = t.val % 32 := v1
          omega)
        rw [hs p (by omega) hup, gB_congr a V c t p e0 hb]
      subst hk
      iapply (body_kept c (crd a t) (ms0 a t) (hs0 a t) (ms1 a t) (hs1 a t) (ms2 a t) (hs2 a t) (ms3 a t) (hs3 a t)
        (a.1 0) (a.1 1) (a.1 2) (xB a V c t) (gB a V c t) (rB a V c t) _ h1 h2 h3 _)
      isplitl [H0]; · iexact H0
      isplitl [H1]; · iexact H1
      isplitl [H2]; · iexact H2
      isplitl [HT0]; · iexact HT0
      isplitl [HT1]; · iexact HT1
      isplitl [HT2]; · iexact HT2
      isplitl [H3]; · iexists _; iexact H3
      isplitl [HS0]; · iexact HS0
      iintro ⟨H0, H1, H2, HT0, HT1, HT2, H3, HS0⟩
      isplitl [HS0 HT0 HT1 HT2 Hr]
      · isplitl [HS0]
        · iexists _
          isplitr; swap
          · iexact HS0
          · ipureintro; intro p hp _; rw [only p hp]
        isplitl [HT0]; · iexact HT0
        isplitl [HT1]; · iexact HT1
        isplitl [HT2]; · iexact HT2
        iexact Hr
      isplitl [Ho]; · iexact Ho
      isplitl [H0]; · iexact H0
      isplitl [H1]; · iexact H1
      isplitl [H2]; · iexact H2
      rw [eo]; iexact H3
  · have h1 : ¬ fresh (crd a t) (wNa (a.1 1)) (wBe (crd a t) (a.1 0)) (wPrev (crd a t) (a.1 0)) = 1#1 := fun h => by
      rw [fresh_iff, wNa_eq] at h; exact hu h.1
    have h2 : ¬ k0_cond2 (crd a t) (wNa (a.1 1)) = 1#1 := fun h => hu (by rw [← wNa_eq]; exact (cond2_iff _ _).1 h)
    have h3 : k0_cond3 (crd a t) (wNa (a.1 1)) = 1#1 := (cond3_iff _ _).2 (by rw [wNa_eq]; exact hu)
    have eo : outB a V c t = k0_pay3 := if_neg hu
    iapply (body_past c (crd a t) (ms0 a t) (hs0 a t) (ms1 a t) (hs1 a t) (ms2 a t) (hs2 a t) (ms3 a t) (hs3 a t)
      (a.1 0) (a.1 1) (a.1 2) (xB a V c t) (gB a V c t) (rB a V c t) s0 h1 h2 h3 _)
    isplitl [H0]; · iexact H0
    isplitl [H1]; · iexact H1
    isplitl [H2]; · iexact H2
    isplitl [HT0]; · iexact HT0
    isplitl [HT1]; · iexact HT1
    isplitl [HT2]; · iexact HT2
    isplitl [H3]; · iexists _; iexact H3
    isplitl [HS0]; · iexact HS0
    iintro ⟨H0, H1, H2, HT0, HT1, HT2, H3, HS0⟩
    isplitl [HS0 HT0 HT1 HT2 Hr]
    · isplitl [HS0]
      · iexists _
        isplitr; swap
        · iexact HS0
        · ipureintro; intro p hp hi; rw [only p hp] at hi; exact absurd hi hu
      isplitl [HT0]; · iexact HT0
      isplitl [HT1]; · iexact HT1
      isplitl [HT2]; · iexact HT2
      iexact Hr
    isplitl [Ho]; · iexact Ho
    isplitl [H0]; · iexact H0
    isplitl [H1]; · iexact H1
    isplitl [H2]; · iexact H2
    rw [eo]; iexact H3

/-- The obligation at every point. -/
theorem body_obligation (hag : Agree a) (c : Dev nD) : BodyObligation (dats a V 0 c) (defs₀ (F := F)) Variants.none () Set.univ := fun t => by
  rw [bigSep_W0]
  exact sound_body a V hag c t

/-! ## The launch -/

theorem share_eq (c : Dev nD) (w : Fin (cfgA a).W) : (dats a V 0 c).share w = fullShare := by unfold Dat.share; split <;> rfl

/-- The tables as the launch hands them to the region, one by one. -/
theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((tb0.view.loc (c : Thread nD τ) ↦{q 0} v 0) ∗ (tb1.view.loc (c : Thread nD τ) ↦{q 1} v 1) ∗ (tb2.view.loc (c : Thread nD τ) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- To hold the scratch buffer is to hold its whole buffer. -/
theorem sc0_eq (c : Dev nD) (f : Buf (Elt F) ((c : Thread nD τ).loc cc0_scratch0)) :
    (owns (c : Thread nD τ) sc0 fullShare f : sProp 𝕄) = (((c : Thread nD τ).loc cc0_scratch0) ↦{fullShare} f) :=
  owns_whole (c : Thread nD τ) cc0_scratch0 fullShare f

/-- The invariant at the first point, from the scratch buffer and the tables; -/
theorem phi_first (c : Dev nD) : iprop(Pipeline.ΦA spec0 c ∗ Pipeline.ΦT pre0 a.1 c) ⊢ (dats a V 0 c).Φ 0 := by
  unfold Pipeline.ΦA Pipeline.ΦT
  rw [prefHeld_eq, scopedRest0_eq, show (dats a V 0 c).Φ 0 = Phi a V c 0 from rfl]
  unfold Phi
  iintro ⟨⟨⟨%f0, HS0⟩, Hr⟩, HT0, HT1, HT2⟩
  isplitl [HS0]
  · iexists f0
    isplitr
    · ipureintro; intro p hp; exact absurd hp (Nat.succ_ne_zero _)
    rw [sc0_eq]; iexact HS0
  isplitl [HT0]; · iexact HT0
  isplitl [HT1]; · iexact HT1
  isplitl [HT2]; · iexact HT2
  iexact Hr

/-- and after the last point it gives the scratch buffer back. -/
theorem phi_last (c : Dev nD) : (dats a V 0 c).Φ (Fin.last (cfgA a).N) ⊢ Pipeline.ΦA spec0 c := by
  unfold Pipeline.ΦA
  rw [scopedRest0_eq, show (dats a V 0 c).Φ (Fin.last (cfgA a).N) = Phi a V c (Fin.last _) from rfl]
  unfold Phi
  iintro ⟨⟨%s0, -, HS0⟩, -, -, -, Hr⟩
  isplitr [Hr]
  · iexists s0; rw [← sc0_eq]; iexact HS0
  iexact Hr

end Points

/-! ## The run -/

section Run
variable (m : (ℓ : Loc nD τ sig) → Buf (Elt F) ℓ) (g : Dev nD → PrngReg)

/-- The arrays as the region finds them: after the host's operations. -/
abbrev Ve (c : Dev nD) (b : Ref sig .tc) : Buf (Elt F) ((c : Thread nD τ).loc b) := StableHlo.after (hostOps0 (F := F)) (fun b => m (c, b)) b

theorem hostOps0_fresh : (hostOps0 (F := F)).Forall fun op => op.fresh = ∅ := by
  unfold hostOps0; repeat' first | exact trivial | refine ⟨rfl, ?_⟩ | rfl

set_option backward.isDefEq.respectTransparency.types false in
/-- Every execution ends with the arrays the pipeline's data say and every semaphore at zero. -/
theorem run (a : (pcfg0 (F := F)).Adm) (hag : Agree a) (htab : ∀ (c : Dev nD) k, Ve m c (pre0.ref k) = a.1 k) :
    θ_run (defs (F := F)) (onTc (τ := τ) (main (F := F))) ⟨m, fun _ => 0, g⟩
      (fun r => Pipeline.FramePost (Pipeline.pin pcfgs fun _ => a) (dats a (Ve m)) 0 (Ve m) r ∧ r.2.sem = fun _ => 0) :=
  Pipeline.θ_run_frameP_track pcfgs (fun _ => a) (dats a (Ve m)) 0 (launch0 (F := F)) (defs₀ (F := F)) Variants.none m g main
    (hbody := fun c => (body_obligation a (Ve m) hag c).loose) (hshare := share_eq a (Ve m)) (howed := fun _ _ => rfl)
    (V := Ve m) (hmain := Pipeline.hmainP_prefix pcfgs 0 defs₀ Variants.none m main hostOps0 hostOps0_sub hostOps0_fresh main_chain)
    (hA := fun _ _ => rfl) (hpf := htab) (hin := phi_first a (Ve m)) (hout := phi_last a (Ve m))
    (Q' := fun r => Pipeline.FramePost (Pipeline.pin pcfgs fun _ => a) (dats a (Ve m)) 0 (Ve m) r ∧ r.2.sem = fun _ => 0) (hQ' := fun _ h => h)

end Run

end Cert.Kernel4Ideal.DenseDown

end
-- ==== Proof.DenseDownHost.lean ====
/- The tables that the host computes for the dense down projection: every block is in use and reads the layer's weights. -/
module

public import proofs.«01_k».proof.Proof.DenseDownRun
public import Idealize.ShloMosaic.Lib.StableHlo.ReadAt
public import Idealize.ShloMosaic.Lib.StableHlo.Predicate

@[expose] public section

set_option maxRecDepth 16384

noncomputable section

namespace Cert.Kernel4Ideal.DenseDown

open Cert.Kernel4Ideal Cert.Kernel4Ideal.Gen
open Idealize.ShloMosaic Idealize.ShloMosaic.TcCoe Idealize.SL.Sem
open Cert.Words (InUse)

variable {F : FTy → Type} [FloatOps F]
variable (m : (ℓ : Loc nD τ sig) → Buf (Elt F) ℓ)

/-- Every block's weights are the second of the two; -/
theorem Ve_be (c : Dev nD) : (Ve m c main_v0 : S32.Idx → BitVec 32) = fun _ => 1#32 := by
  unfold Ve
  after_reads_simp
  funext j
  clean_types
  pointwise
/-- every block is in use; -/
theorem Ve_na (c : Dev nD) : (Ve m c main_v1 : S1.Idx → BitVec 32) = fun _ => 32#32 := by
  unfold Ve
  after_reads_simp
  funext j
  clean_types
  pointwise

set_option backward.isDefEq.respectTransparency.types false in
/-- and an entry gathered out of a table of ones is a one. -/
theorem Ve_bw (c : Dev nD) (n : ℕ) (hn : n < 32) : (Ve m c main_v13 : S32.Idx → BitVec 32) (ixB n hn) = 1#32 := by
  unfold Ve
  after_reads_simp
  have e : ixB n hn = Shape.Idx.ofFin (⟨n, hn⟩ : Fin 32) := by
    funext b; fin_cases b; rfl
  rw [e]
  refine (StableHlo.Predicate.gather_take gather_S32_S32x1_S32_n_0_n_n_0_1_1 rfl rfl rfl rfl _ _ (⟨n, hn⟩ : Fin 32) (by decide)).trans ?_
  rfl

/-! ## The tables are admitted -/

theorem na_at (pf : pre0.Contents (Elt F)) : pf.at 1 (Rect.unit (s := S1) ![0] S1.size inb_S1_S1_0) numel1_S1 = naOf pf :=
  congrArg (pf 1 : S1.Idx → Elt F .i32) (funext fun b => Fin.ext (by fin_cases b; rfl))

/-- The weights' index map at any tables. -/
theorem transform1_eq (pf : pre0.Contents (Elt F)) (i : grid0.Coords) :
    cc0_transform_1 k0_off1_inb numel1_S1 pf i = ![(bwOf pf (i 1).val (i 1).isLt).toNat, 0, (i 0).val] := by
  funext b; fin_cases b
  · exact congrArg BitVec.toNat (bw_at pf i)
  · rfl
  · exact coord0 i

/-- The rows' index map at any tables. -/
theorem transform0_eq (pf : pre0.Contents (Elt F)) (i : grid0.Coords) : cc0_transform_0 inb_S1_S1_0 numel1_S1 pf i
    = ![(Scalar.minsi (BitVec.ofNat 32 (i 1).val) (Scalar.subi (naOf pf) 1#32)).toNat, 0] := by
  exact congrArg (fun w : BitVec 32 => (![(Scalar.minsi (BitVec.ofNat 32 (i 1).val) (Scalar.subi w 1#32)).toNat, 0] : Fin 2 → ℕ)) (na_at pf)

theorem weights_in (n f : ℕ) (hn : n < 2) (hf : f < 4) : ∀ b, ((![n, 0, f] : Fin 3 → ℕ) b + 1) * S1x5632x512.size b ≤ S2x5632x2048.size b
  | ⟨0, _⟩ => by show (n + 1) * 1 ≤ 2; omega
  | ⟨1, _⟩ => by show (0 + 1) * 5632 ≤ 5632; omega
  | ⟨2, _⟩ => by show (f + 1) * 512 ≤ 2048; omega

theorem rows_in (n : ℕ) (hn : n < 32) : ∀ b, ((![n, 0] : Fin 2 → ℕ) b + 1) * S512x5632.size b ≤ S16384x5632.size b
  | ⟨0, _⟩ => by show (n + 1) * 512 ≤ 16384; omega
  | ⟨1, _⟩ => by show (0 + 1) * 5632 ≤ 5632; omega

/-- A row block starts and ends at whole words. -/
theorem rows_whole : ∀ (n : Fin 32) (h : ∀ b, ((![n.val, 0] : Fin 2 → ℕ) b + 1) * S512x5632.size b ≤ S16384x5632.size b),
    (Rect.block (s := S16384x5632) S512x5632.size ![n.val, 0] h).WholeWords (EltTy.packing .bf16) := by decide +kernel

/-- Every block that the index maps name is inside its array, where the weights' indices are below 2 and a block
    is in use. -/
theorem ok_of (pf : pre0.Contents (Elt F)) (hb : ∀ n (hn : n < 32), (bwOf pf n hn).toNat < 2) (hv : 1 ≤ (naOf pf).toInt) : ok0 pf := by
  refine ⟨fun i => ?_, fun i => ⟨?_, Or.inl rfl⟩⟩
  · have hl := Words.minsi_lt (naOf pf) hv 32 (i 1).val (by decide) (i 1).isLt
    rw [transform0_eq]
    generalize (Scalar.minsi (BitVec.ofNat 32 (i 1).val) (Scalar.subi (naOf pf) 1#32)).toNat = n at hl
    exact ⟨rows_in n hl, Or.inr (rows_whole ⟨n, hl⟩ (rows_in n hl))⟩
  · rw [transform1_eq]; exact weights_in _ _ (hb _ _) (i 0).isLt

/-- The tables' contents as the region finds them on the one core. -/
def tabs : pre0.Contents (Elt F) := fun k => Ve m (0 : Dev nD) (pre0.ref k)

theorem tabs_na : naOf (tabs m) = 32#32 := congrFun (Ve_na m 0) ix1
theorem tabs_be (n : ℕ) (hn : n < 32) : beOf (tabs m) n hn = 1#32 := congrFun (Ve_be m 0) (ixB n hn)
theorem tabs_bw (n : ℕ) (hn : n < 32) : bwOf (tabs m) n hn = 1#32 := Ve_bw m 0 n hn

theorem ok : ok0 (tabs m) := ok_of _ (fun n hn => by rw [tabs_bw]; decide) (by rw [tabs_na]; decide)

/-- The tables with that. -/
def adm : (pcfg0 (F := F)).Adm := ⟨tabs m, ok m⟩

theorem agree_of (pf : pre0.Contents (Elt F)) (hok : ok0 pf)
    (h : ∀ n (hn : n < 32), bwOf pf n hn = beOf pf n hn) : Agree ⟨pf, hok⟩ := fun n hn _ => h n hn

theorem agree : Agree (adm m) := agree_of (tabs m) (ok m) fun n hn => (tabs_bw m n hn).trans (tabs_be m n hn).symm

theorem tabs_at (c : Dev nD) (k : Fin 3) : Ve m c (pre0.ref k) = (adm m).1 k := by
  obtain rfl : c = 0 := Subsingleton.elim _ _
  rfl

theorem Ve_arg0 (c : Dev nD) : Ve m c main_arg0 = m ((c : Thread nD τ).loc main_arg0) := by
  unfold Ve; unfold_abbrev_sides; after_results
theorem Ve_arg1 (c : Dev nD) : Ve m c main_arg1 = m ((c : Thread nD τ).loc main_arg1) := by
  unfold Ve; unfold_abbrev_sides; after_results
theorem Ve_arg2 (c : Dev nD) : Ve m c main_arg2 = m ((c : Thread nD τ).loc main_arg2) := by
  unfold Ve; unfold_abbrev_sides; after_results

variable (g : Dev nD → PrngReg)

/-- Every execution ends with the output array the pipeline's data say, the arguments unchanged and every semaphore at
    zero. -/
theorem run_out : θ_run (defs (F := F)) (onTc (τ := τ) (main (F := F))) ⟨m, fun _ => 0, g⟩ (fun r =>
    (∀ c : Dev nD, r.2.mem ((c : Thread nD τ).loc main_v14) = (dats (adm m) (Ve m) 0 c).arrAt (3 : Fin 4) grid0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨h.1.out_eq c (3 : Fin 4), (h.1.in_eq c (0 : Fin 4) rfl).trans (Ve_arg0 m c),
      (h.1.in_eq c (1 : Fin 4) rfl).trans (Ve_arg1 m c), (h.1.in_eq c (2 : Fin 4) rfl).trans (Ve_arg2 m c)⟩, h.2⟩)
    (run m g (adm m) (agree m) (tabs_at m))

end Cert.Kernel4Ideal.DenseDown

end
-- ==== Proof.DenseDownPay.lean ====
/- What one block of the output holds, element by element, from the blocks of the rows and of the weights. -/
module

public import proofs.«01_k».proof.Proof.Gen.Kernel4Ideal.Skeleton
public import Idealize.ShloMosaic.Lib.Pipeline.ValueKit

@[expose] public section

set_option maxRecDepth 16384

noncomputable section

namespace Cert.Kernel4Ideal.DenseDown

open Cert.Kernel4Ideal Cert.Kernel4Ideal.Gen
open Idealize.ShloMosaic Idealize.ShloMosaic.TcCoe

/-- A block holds the residual plus the product of its rows and its columns. -/
theorem pay_eq (x : S512x5632.Idx → EReal) (w : S1x5632x512.Idx → EReal) (v : S512x512.Idx → EReal) (y : S512x512.Idx) :
    k0_pay2 (F := Ideal) x (k0_pay1 (F := Ideal) w) v y = v y + ∑ k : Fin 5632, x (ix2 (y 0) k) * w (ix3 0 k (y 1)) := by
  unfold k0_pay2 k0_pay1
  pointwise

end Cert.Kernel4Ideal.DenseDown

end
-- ==== Proof.DenseDownOut.lean ====
/- The output array after the run: every element is the mathematics' value of the arguments. -/
module

public import proofs.«01_k».proof.Proof.DenseDownHost
public import proofs.«01_k».proof.Proof.DenseDownPay
public import proofs.«01_k».proof.Proof.UpSpec
public import Idealize.ShloMosaic.Lib.Pipeline.Covers

@[expose] public section

set_option maxRecDepth 16384

noncomputable section

namespace Cert.Kernel4Ideal.DenseDown

open Cert.Kernel4Ideal Cert.Kernel4Ideal.Gen
open Idealize.ShloMosaic Idealize.ShloMosaic.TcCoe Idealize.SL.Sem
open Cert.Words (InUse)

section
variable (a : (pcfg0 (F := Ideal)).Adm)

theorem index0 (t : Fin (cfgA a).N) (h : InUse (naOf a.1) (crd a t 1).val) :
    ((cfgA a).win (0 : Fin 4)).index t = ![(crd a t 1).val, 0] := by
  rw [show ((cfgA a).win (0 : Fin 4)).index t = cc0_transform_0 inb_S1_S1_0 numel1_S1 a.1 (grid0.coords t) from rfl,
    transform0_eq, Words.minsi_inUse _ _ (lt_trans (show (crd a t 1).val < 32 from (crd a t 1).isLt) (by decide)) h]

theorem coord1 (i : grid0.Coords) : (BitVec.ofNat 32 (i 1).val).toNat = (i 1).val :=
  (by decide +kernel : ∀ n : Fin 32, (BitVec.ofNat 32 n.val).toNat = n.val) (i 1)

theorem transform3_eq (i : grid0.Coords) : cc0_transform_3 i = ![(i 1).val, (i 0).val] := by
  funext b; fin_cases b
  · exact coord1 i
  · exact coord0 i

/-- The residual's window moves with the output's. -/
theorem index2 (t : Fin (cfgA a).N) : ((cfgA a).win (2 : Fin 4)).index t = ![(crd a t 1).val, (crd a t 0).val] :=
  transform3_eq (grid0.coords t)

theorem index3 (t : Fin (cfgA a).N) : ((cfgA a).win (3 : Fin 4)).index t = ![(crd a t 1).val, (crd a t 0).val] :=
  transform3_eq (grid0.coords t)

theorem size3_pos : ∀ b, 0 < ((cfgA a).win (3 : Fin 4)).size b
  | ⟨0, _⟩ => by show 0 < 512; decide
  | ⟨1, _⟩ => by show 0 < 512; decide

theorem nblk3_0 : ((cfgA a).win (3 : Fin 4)).nblk (0 : Fin 2) = 32 := by
  show (16384 + 512 - 1) / 512 = 32; decide
theorem nblk3_1 : ((cfgA a).win (3 : Fin 4)).nblk (1 : Fin 2) = 4 := by
  show (2048 + 512 - 1) / 512 = 4; decide

/-- The point of row block `n` and column block `f`. -/
abbrev crdOf (n : Fin 32) (f : Fin 4) : grid0.Coords := fun | ⟨0, _⟩ => f | ⟨1, _⟩ => n

theorem map3 (n : Fin 32) (f : Fin 4) : ∀ b : Fin 2, ((cfgA a).win (3 : Fin 4)).indexMap (crdOf n f) b = (![n.val, f.val] : Fin 2 → ℕ) b :=
  fun b => congrFun (transform3_eq (crdOf n f)) b

/-- The blocks of the output tile its array. -/
theorem covers3 : ((cfgA a).win (3 : Fin 4)).Covers :=
  ((cfgA a).win (3 : Fin 4)).covers_of_indexMap_surj rfl (size3_pos a) fun β =>
    ⟨crdOf ⟨(β (0 : Fin 2)).val, lt_of_lt_of_eq (β (0 : Fin 2)).isLt (nblk3_0 a)⟩ ⟨(β (1 : Fin 2)).val, lt_of_lt_of_eq (β (1 : Fin 2)).isLt (nblk3_1 a)⟩,
      fun b => (map3 a _ _ b).trans (match b with | ⟨0, _⟩ => rfl | ⟨1, _⟩ => rfl)⟩

variable (V : (c : Dev nD) → (b : Ref sig .tc) → Buf (Elt Ideal) ((c : Thread nD τ).loc b))

/-- The output array's element from the arrays as the region finds them. -/
def G (c : Dev nD) : S16384x2048.Idx → EReal := fun i =>
  UpSpec.resid (V c main_arg0) (V c main_arg1) (V c main_arg2) (1 : Fin 2) (i 0) (i 1)

theorem weight_of (hb : ∀ n (hn : n < 32), bwOf a.1 n hn = 1#32) {n : ℕ} (hn : n < 32) : (bwOf a.1 n hn).toNat + 0 = 1 := by
  rw [hb n hn]; rfl

set_option maxHeartbeats 1000000 in
/-- The output array after the run: each block holds the residual plus the product of its rows with the layer's weights. -/
theorem arr_eq (hb : ∀ n (hn : n < 32), bwOf a.1 n hn = 1#32) (hu : ∀ n, n < 32 → InUse (naOf a.1) n) (c : Dev nD) :
    (dats a V 0 c).arrAt (3 : Fin 4) grid0.N = G V c := by
  refine (dats a V 0 c).arrAt_eq_of_covers (3 : Fin 4) _ (covers3 a) fun t hf y => ?_
  blk_simp
  rw [after3]
  unfold outB G
  have hn := (crd a t 1).isLt
  have e0 : ((((cfgA a).win (3 : Fin 4)).blk t).view.emb y 0).val = (crd a t 1).val * 512 + (y (0 : Fin 2)).val := by
    blk_simp [index3 a t]
  have e1 : ((((cfgA a).win (3 : Fin 4)).blk t).view.emb y 1).val = (crd a t 0).val * 512 + (y (1 : Fin 2)).val := by
    blk_simp [index3 a t]
  generalize (((cfgA a).win (3 : Fin 4)).blk t).view.emb y = i at e0 e1 ⊢
  rw [if_pos (hu _ hn), pay_eq]
  have hx : ∀ k : Fin 5632, xB a V c t (ix2 (y (0 : Fin 2)) k) = (V c main_arg0 : S16384x5632.Idx → EReal) (ix2 (i 0) k) := fun k => by
    unfold xB
    blk_simp [iblk]
    blk_ext [index0 a t (hu _ hn)]
  have hg : ∀ k : Fin 5632, gB a V c t (ix3 0 k (y (1 : Fin 2))) = (V c main_arg1 : S2x5632x2048.Idx → EReal) (ix3 1 k (i 1)) := fun k => by
    unfold gB
    blk_simp [iblk]
    blk_ext [index1 a t]
    exact weight_of a hb hn
  have hr : rB a V c t y = (V c main_arg2 : S16384x2048.Idx → EReal) (ix2 (i 0) (i 1)) := by
    unfold rB
    blk_simp [iblk]
    blk_ext [index2 a t]
  unfold UpSpec.resid UpSpec.proj
  simp only [hx, hg, hr]

end

variable (m : (ℓ : Loc nD τ sig) → Buf (Elt Ideal) ℓ)

/-- The output array as a function of the arguments. -/
def res (c : Dev nD) : S16384x2048.Idx → EReal := fun i =>
  UpSpec.resid (m ((c : Thread nD τ).loc main_arg0)) (m ((c : Thread nD τ).loc main_arg1)) (m ((c : Thread nD τ).loc main_arg2)) (1 : Fin 2) (i 0) (i 1)

theorem G_eq : G (Ve m) 0 = res m 0 := by
  funext i
  unfold G res
  rw [Ve_arg0, Ve_arg1, Ve_arg2]

/-- Every block is below the number in use. -/
theorem all_used (n : ℕ) (hn : n < 32) : InUse (naOf (tabs m)) n := by
  rw [tabs_na]
  exact (Words.inUse_iff _ n (by omega)).2 (by show (n : ℤ) < 32; omega)

theorem arr_tabs (pf : (pcfg0 (F := Ideal)).Adm) (hp : pf.1 = tabs m) : (dats pf (Ve m) 0 0).arrAt (3 : Fin 4) grid0.N = res m 0 := by
  refine (arr_eq pf _ ?_ ?_ 0).trans (G_eq m)
  · rw [hp]; exact tabs_bw m
  · rw [hp]; exact all_used m

theorem out_eq (c : Dev nD) : (dats (adm m) (Ve m) 0 c).arrAt (3 : Fin 4) grid0.N = res m c := by
  obtain rfl : c = 0 := Subsingleton.elim _ _
  exact arr_tabs m (adm m) rfl

end Cert.Kernel4Ideal.DenseDown

end
-- ==== Proof.DenseDownRef.lean ====
/- What the reference computes: its array at an index is the mathematical output. -/
module

public import proofs.«01_k».proof.Proof.Gen.Reference4Ideal.Read
public import proofs.«01_k».proof.Proof.UpSpec
public import Idealize.ShloMosaic.Lib.IdealHost

@[expose] public section

noncomputable section

namespace Cert.Reference4Ideal.DenseDown

open Cert.Reference4Ideal Cert.Reference4Ideal.Gen Cert.Reference4Ideal.Read Idealize.ShloMosaic

variable (x : (⟨S16384x5632, .bf16⟩ : BufTy).Contents (Elt Ideal)) (wg : (⟨S2x5632x2048, .f32⟩ : BufTy).Contents (Elt Ideal))
variable (v : (⟨S16384x2048, .f32⟩ : BufTy).Contents (Elt Ideal))

/-- The layer's weights are the second of the two. -/
theorem v2_at (k : Fin 5632) (q : Fin 2048) : val_main_v2 (F := Ideal) wg (ix2 k q) = wg (ix3 1 k q) := by
  rw [val_main_v2_apply, val_main_v1_apply]
  refine congrArg wg (funext fun a => Fin.ext ?_)
  have hk := k.isLt
  have hq := q.isLt
  match a with
  | ⟨0, _⟩ => rfl
  | ⟨1, _⟩ => show (k.val * 2048 + q.val) / 2048 % 5632 = k.val; omega
  | ⟨2, _⟩ => show (k.val * 2048 + q.val) % 2048 = q.val; omega

/-- The product with the weights. -/
theorem v3_at (r : Fin 16384) (q : Fin 2048) : val_main_v3 (F := Ideal) x wg (ix2 r q) = UpSpec.proj x wg (1 : Fin 2) r q := by
  rw [val_main_v3_apply]
  refine Finset.sum_congr rfl fun k _ => congrArg₂ (· * ·) ?_ ?_
  · exact congrArg x (funext fun | ⟨0, _⟩ => rfl | ⟨1, _⟩ => rfl)
  · have e : ridx_main_v3 (ix2 r q) k = ix2 k q := funext fun | ⟨0, _⟩ => rfl | ⟨1, _⟩ => rfl
    rw [e]
    exact v2_at wg k q

/-- The reference's entry in row `r` and column `q` is the mathematical one. -/
theorem value_at (r : Fin 16384) (q : Fin 2048) : val_main_v4 (F := Ideal) x wg v (ix2 r q) = UpSpec.resid x wg v (1 : Fin 2) r q := by
  rw [val_main_v4_apply, v3_at]
  rfl

/-- The reference's array is the mathematical output. -/
theorem value_eq (i : S16384x2048.Idx) : val_main_v4 (F := Ideal) x wg v i = UpSpec.resid x wg v (1 : Fin 2) (i 0) (i 1) :=
  (congrArg (val_main_v4 (F := Ideal) x wg v) (funext fun | ⟨0, _⟩ => rfl | ⟨1, _⟩ => rfl : i = ix2 (i 0) (i 1))).trans (value_at x wg v (i 0) (i 1))

end Cert.Reference4Ideal.DenseDown

end
-- ==== Proof.DenseDownSame.lean ====
/- The dense layer's down projection: the program read at the machine's floats and the program read on the extended
   reals are one text, so what is proved of the one for any reading of the floats holds of the other. -/
module

public import proofs.«01_k».proof.Proof.Gen.Kernel4.Skeleton
public import proofs.«01_k».proof.Proof.Gen.Kernel4Ideal.Skeleton

@[expose] public section

set_option maxRecDepth 16384

noncomputable section

namespace Cert.DenseDownSame

open Idealize.ShloMosaic Idealize.SL.Sem Cert.Kernel4.Gen Cert.Kernel4Ideal.Gen

variable {F : FTy → Type} [FloatOps F]

/-- The kernel's body is the same. -/
theorem body_eq : Cert.Kernel4.defs₀ (F := F) = Cert.Kernel4Ideal.defs₀ (F := F) := by
  funext p l a
  match p, l, a with
  | .tc, ⟨0, _⟩, (t, s) => rfl
  | .scScalar _, ⟨0, _⟩, (t, s) => rfl
  | .scVector _ _, ⟨0, _⟩, (t, s) => rfl

/-- So is the table of bodies, with the call's pipeline in it. -/
theorem defs_eq : Cert.Kernel4.defs (F := F) = Cert.Kernel4Ideal.defs (F := F) := congrArg (Pipeline.defs Cert.Kernel4.pcfgs) body_eq

set_option maxHeartbeats 4000000 in
/-- So is the host's program. -/
theorem main_eq : Cert.Kernel4.main (F := F) = Cert.Kernel4Ideal.main (F := F) := rfl

end Cert.DenseDownSame

end
-- ==== Proof.DenseDownClaims.lean ====
/- The claims about the dense layer's down projection with its residual: the kernel runs, leaves its arguments and its
   semaphores as it found them, and computes what the reference computes. -/
module

public import proofs.«01_k».proof.Defs
public import proofs.«01_k».proof.Proof.DenseDownOut
public import proofs.«01_k».proof.Proof.DenseDownRef
public import proofs.«01_k».proof.Proof.DenseDownSame
public import proofs.«01_k».proof.Proof.Runs
public import Idealize.ShloMosaic.Lib.Claim

@[expose] public section

noncomputable section

namespace Cert.DenseDownClaims

open Idealize.ShloMosaic Idealize.SL.Sem Cert.Kernel4.Gen Cert.Kernel4Ideal.Gen Cert.Reference4Ideal.Gen

/-- The kernel runs and changes no argument. -/
theorem frame_kernel : quiescent_Kernel4 := fun m g _ =>
  Runs.run_congr DenseDownSame.defs_eq DenseDownSame.main_eq
    ((θ_run _ _ _).mono (fun _ h => ⟨fun c => (h.1 c).2, h.2⟩) (Cert.Kernel4Ideal.DenseDown.run_out (F := Bits) m g))

/-- So does the kernel on the extended reals. -/
theorem frame_ideal : quiescent_Kernel4Ideal := fun m g _ =>
  (θ_run _ _ _).mono (fun _ h => ⟨fun c => (h.1 c).2, h.2⟩) (Cert.Kernel4Ideal.DenseDown.run_out m g)

/-- So does the reference. -/
theorem frame_reference : quiescent_Reference4Ideal := fun m g _ =>
  (θ_run _ _ _).mono (fun r h => ⟨fun c => (h c).2, sem_eq_zero_of_no_sems (by decide) r.2⟩) (Cert.Reference4Ideal.Value.run m g)

/-- The kernel's array and the reference's are one. -/
theorem equal : algebraic_Kernel4Ideal_Reference4Ideal := fun m g m' g' _ ha =>
  ⟨fun c => Cert.Kernel4Ideal.DenseDown.res m c,
    (θ_run _ _ _).mono (fun _ h c => ⟨(h.1 c).1.trans (Cert.Kernel4Ideal.DenseDown.out_eq m c), (h.1 c).2⟩)
      (Cert.Kernel4Ideal.DenseDown.run_out m g),
    (θ_run _ _ _).mono (fun _ h c => ⟨(h c).1.trans (by
        rw [Cert.Reference4Ideal.Read.val_main_v4_eq]
        obtain ⟨a0, a1, a2⟩ := ha c
        rw [a0, a1, a2]
        exact funext fun i => Cert.Reference4Ideal.DenseDown.value_eq _ _ _ i), (h c).2⟩)
      (Cert.Reference4Ideal.Value.run m' g')⟩

end Cert.DenseDownClaims

end
-- ==== Proof.InProjSpec.lean ====
/- The mathematics of the input projection: each row divided by the root of the mean of its squares and scaled by the
   layer's gain, times the layer's weights. -/
module

public import Idealize.ShloMosaic.Lib.Pipeline.ValueKit

@[expose] public section

noncomputable section

namespace Cert.InProjSpec

open Idealize.ShloMosaic

/-- One over the root of the mean of a row's squares, with the small constant added to the mean. -/
def scale (row : Fin 2048 → EReal) : EReal :=
  Ideal.rsqrt (Ideal.div (∑ k : Fin 2048, row k * row k) (Ideal.ofBits .f32 0x45000000#32) + Ideal.ofBits .f32 0x358637BD#32)

/-- An element of a normalized row: the row's element, scaled, times the gain of its column. -/
def normed (row gain : Fin 2048 → EReal) (k : Fin 2048) : EReal := row k * scale row * gain k

/-- An element of the output: a normalized row times a column of the weights. -/
def cell (row gain col : Fin 2048 → EReal) : EReal := ∑ k : Fin 2048, normed row gain k * col k

end Cert.InProjSpec

end
-- ==== Proof.InProjPay.lean ====
/- What the input projection's stores hold, element by element: the normalized rows of a block, and the product of
   normalized rows with a block of the weights. -/
module

public import proofs.«01_k».proof.Proof.Gen.Kernel5Ideal.Skeleton
public import proofs.«01_k».proof.Proof.InProjSpec

@[expose] public section

set_option maxRecDepth 16384

noncomputable section

namespace Cert.Kernel5Ideal.InProj

open Cert.Kernel5Ideal Cert.Kernel5Ideal.Gen
open Idealize.ShloMosaic Idealize.ShloMosaic.TcCoe

/-- The rows kept for a block of rows are the block's, normalized. -/
theorem kept_at (x : S1024x2048.Idx → EReal) (g : S1x2048.Idx → EReal) (r : Fin 1024) (k : Fin 2048) :
    k0_pay1 (F := Ideal) x g (ix2 r k) = InProjSpec.normed (fun j => x (ix2 r j)) (fun j => g (ix2 0 j)) k := by
  unfold k0_pay1 InProjSpec.normed InProjSpec.scale
  pointwise

/-- A block of the output is the product of the rows kept and the block of the weights. -/
theorem prod_at (h : S1024x2048.Idx → EReal) (w : S1x2048x1024.Idx → EReal) (y : S1024x1024.Idx) :
    k0_pay2 (F := Ideal) h w y = ∑ k : Fin 2048, h (ix2 (y 0) k) * w (ix3 0 k (y 1)) := by
  unfold k0_pay2
  pointwise

end Cert.Kernel5Ideal.InProj

end
-- ==== Proof.InProjOut.lean ====
/- The input projection's output array after the run: every element is the mathematics' value of the arguments. The
   points that share a block of rows come one after another; the first of them keeps the rows normalized, and all of them
   multiply the rows kept. -/
module

public import proofs.«01_k».proof.Proof.Gen.Kernel5Ideal.Frame
public import proofs.«01_k».proof.Proof.InProjPay
public import Idealize.ShloMosaic.Lib.Pipeline.Covers
public import Idealize.ShloMosaic.Lib.StableHlo.ReadAt

@[expose] public section

set_option maxRecDepth 16384

noncomputable section

namespace Cert.Kernel5Ideal.InProj

open Cert.Kernel5Ideal Cert.Kernel5Ideal.Gen
open Idealize.ShloMosaic Idealize.ShloMosaic.TcCoe Idealize.SL.Sem

section
variable {F : FTy → Type} [FloatOps F]

theorem zero2 : (![0, 0] : Fin 2 → ℕ) = fun _ => 0 := funext fun | ⟨0, _⟩ => rfl | ⟨1, _⟩ => rfl
theorem zero3 : (![0, 0, 0] : Fin 3 → ℕ) = fun _ => 0 := funext fun | ⟨0, _⟩ => rfl | ⟨1, _⟩ => rfl | ⟨2, _⟩ => rfl

variable (c : Dev nD) (i : grid0.Coords) (a2 : Memref sig .tc .vmem S1024x2048 .f32) (h2 : a2.IsWhole)
  (a3 : Memref sig .tc .vmem S1x2048 .f32) (h3 : a3.IsWhole) (a4 : Memref sig .tc .vmem S1x2048x1024 .f32) (h4 : a4.IsWhole)
  (a5 : Memref sig .tc .vmem S1024x1024 .bf16) (h5 : a5.IsWhole) (a6 : Memref sig .tc .vmem S1024x2048 .bf16) (h6 : a6.IsWhole)
  (x : Vec F S1024x2048 .f32) (g : Vec F S1x2048 .f32) (w : Vec F S1x2048x1024 .f32)

/-- The first point of a block of rows keeps them normalized; -/
theorem kept_first (hc : cond0_0 i) : sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  sl_unfold_words
  rw [View.canon_unit_zero zero2]
  simp only [View.readAt_eq_ld, h2.read_unread, h3.read_unread, View.ld_unit_zero (S := S1024x2048) zero2, View.ld_unit_zero (S := S1x2048) zero2]

/-- and multiplies them by its block of the weights, -/
theorem out_first (hc : cond0_0 i) : out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_unit_zero zero2, View.readCov_unit_zero (S := S1024x2048) _ zero2]
  simp only [View.readAt_eq_ld, h2.read_unread, h3.read_unread, h4.read_unread, View.ld_unit_zero (S := S1024x2048) zero2,
    View.ld_unit_zero (S := S1x2048) zero2, View.ld_unit_zero (S := S1x2048x1024) zero3]

/-- and so does a later point with the rows it finds kept. -/
theorem out_later (hc : ¬cond0_0 i) (k : Vec F S1024x2048 .bf16) :
    out0_B_3 c i a2 h2 a3 h3 a4 h4 a5 h5 a6 h6 hc x g w k = k0_pay2 k w := by
  unfold out0_B_3
  rw [View.read_writes_eq_canon _ _ _ (cover0_B_3 c i a2 h2 a3 h3 a4 h4 a5 h5 a6 h6 hc x g w k)]
  unfold kernelRun0_B
  dsimp only
  rw [View.canon_unit_zero zero2]
  simp only [View.readAt_eq_ld, h4.read_unread, h6.read_unread, View.ld_unit_zero (S := S1024x2048) zero2,
    View.ld_unit_zero (S := S1x2048x1024) zero3]

end

/-! ## The blocks -/

theorem index0 : ∀ t : Fin grid0.N, win0_0.index t = ![t.val / 7, 0] := by decide +kernel
theorem index1 : ∀ t : Fin grid0.N, win0_1.index t = ![0, 0] := by decide +kernel
theorem index2 : ∀ t : Fin grid0.N, win0_2.index t = ![1, 0, t.val % 7] := by decide +kernel
theorem index3 : ∀ t : Fin grid0.N, win0_3.index t = ![t.val / 7, t.val % 7] := by decide +kernel

variable (m : (ℓ : Loc nD τ sig) → Buf (Elt Ideal) ℓ)

/-- The rows, the layers' gains, the layers' weights. -/
abbrev X (c : Dev nD) : S16384x2048.Idx → EReal := m ((c : Thread nD τ).loc main_arg0)
abbrev Gn (c : Dev nD) : S4x2048.Idx → EReal := m ((c : Thread nD τ).loc main_arg1)
abbrev Wt (c : Dev nD) : S4x2048x7168.Idx → EReal := m ((c : Thread nD τ).loc main_arg2)

/-- The gain that the region finds is the layer's. -/
theorem gain_at (c : Dev nD) (k : Fin 2048) : (V m c main_v2 : S1x2048.Idx → EReal) (ix2 0 k) = Gn m c (ix2 1 k) := by
  unfold V
  after_reads_simp
  clean_types
  pointwise

/-- The row of the array that is row `r` of point `n`'s block. -/
abbrev rowOf (n : ℕ) (hn : n < grid0.N) (r : Fin 1024) : Fin 16384 :=
  ⟨n / 7 * 1024 + r.val, by have := N_0; have := r.isLt; omega⟩

theorem x_at (c : Dev nD) (t : Fin grid0.N) (r : Fin 1024) (k : Fin 2048) :
    (iblk m c (0 : Fin 4) t : S1024x2048.Idx → EReal) (ix2 r k) = X m c (ix2 (rowOf t.val t.isLt r) k) := by
  unfold X
  rw [← V_main_arg0 m c]
  blk_simp [iblk]
  blk_ext [index0 t]

theorem g_at (c : Dev nD) (t : Fin grid0.N) (k : Fin 2048) :
    (iblk m c (1 : Fin 4) t : S1x2048.Idx → EReal) (ix2 0 k) = Gn m c (ix2 1 k) := by
  rw [← gain_at m c k]
  blk_simp [iblk]
  blk_ext [index1 t]

theorem w_at (c : Dev nD) (t : Fin grid0.N) (k : Fin 2048) (q : Fin 1024) (p : Fin 7168) (hp : p.val = t.val % 7 * 1024 + q.val) :
    (iblk m c (2 : Fin 4) t : S1x2048x1024.Idx → EReal) (ix3 0 k q) = Wt m c (ix3 1 k p) := by
  unfold Wt
  rw [← V_main_arg2 m c]
  blk_simp [iblk]
  blk_ext [index2 t]

/-! ## The rows kept, and the products -/

/-- A row of the array, normalized with the layer's gain. -/
abbrev nrm (c : Dev nD) (r : Fin 16384) (k : Fin 2048) : EReal :=
  InProjSpec.normed (fun j => X m c (ix2 r j)) (fun j => Gn m c (ix2 1 j)) k

/-- What the first point of a block of rows keeps are the array's rows, normalized. -/
theorem first_at (c : Dev nD) (t : Fin grid0.N) (r : Fin 1024) (k : Fin 2048) :
    (k0_pay1 (F := Ideal) (iblk m c (0 : Fin 4) t) (iblk m c (1 : Fin 4) t) : S1024x2048.Idx → EReal) (ix2 r k)
      = nrm m c (rowOf t.val t.isLt r) k := by
  rw [kept_at]
  unfold nrm
  simp only [x_at, g_at]

/-- The pair that a point leaves — its block of the output and the rows kept — where the point is the first of its rows; -/
theorem after_first (c : Dev nD) (t : Fin grid0.N) (h : t.val % 7 = 0) : outsAt0 m c t.val t.isLt
    = (k0_pay2 (k0_pay1 (iblk m c (0 : Fin 4) t) (iblk m c (1 : Fin 4) t)) (iblk m c (2 : Fin 4) t),
      k0_pay1 (iblk m c (0 : Fin 4) t) (iblk m c (1 : Fin 4) t)) := by
  rw [outsAt0_A m c t h, kept_first, out_first]

/-- and where it is a later one. -/
theorem after_later (c : Dev nD) (t : Fin grid0.N) (h : ¬t.val % 7 = 0) : outsAt0 m c t.val t.isLt
    = (k0_pay2 (outsAt0 m c (t.val - 1) (Nat.lt_of_le_of_lt (Nat.sub_le _ _) t.isLt)).2 (iblk m c (2 : Fin 4) t),
      (outsAt0 m c (t.val - 1) (Nat.lt_of_le_of_lt (Nat.sub_le _ _) t.isLt)).2) := by
  rw [outsAt0_B m c t h, out_later]
  rfl

/-- After every point the rows kept are those of the point's block, normalized. -/
theorem kept_after (c : Dev nD) : ∀ (n : ℕ) (hn : n < grid0.N) (r : Fin 1024) (k : Fin 2048),
    ((outsAt0 m c n hn).2 : S1024x2048.Idx → EReal) (ix2 r k) = nrm m c (rowOf n hn r) k := by
  intro n
  induction n with
  | zero =>
    intro hn r k
    exact (congrFun (congrArg Prod.snd (after_first m c ⟨0, hn⟩ rfl)) (ix2 r k)).trans (first_at m c ⟨0, hn⟩ r k)
  | succ n ih =>
    intro hn r k
    by_cases h : (n + 1) % 7 = 0
    · exact (congrFun (congrArg Prod.snd (after_first m c ⟨n + 1, hn⟩ h)) (ix2 r k)).trans (first_at m c ⟨n + 1, hn⟩ r k)
    · refine (congrFun (congrArg Prod.snd (after_later m c ⟨n + 1, hn⟩ h)) (ix2 r k)).trans
        ((ih (Nat.lt_of_succ_lt hn) r k).trans (congrArg (nrm m c · k) (Fin.ext ?_)))
      show n / 7 * 1024 + r.val = (n + 1) / 7 * 1024 + r.val
      rw [show (n + 1) / 7 = n / 7 by omega]

/-- Every point leaves the product of the rows kept after it and its block of the weights. -/
theorem out_of_kept (c : Dev nD) (t : Fin grid0.N) :
    (outsAt0 m c t.val t.isLt).1 = k0_pay2 (outsAt0 m c t.val t.isLt).2 (iblk m c (2 : Fin 4) t) := by
  by_cases h : t.val % 7 = 0
  · rw [after_first m c t h]
  · rw [after_later m c t h]

/-- An element of a point's block is the mathematical one at the element's row and column of the array. -/
theorem out_after (c : Dev nD) (t : Fin grid0.N) (y : S1024x1024.Idx) (i : S16384x7168.Idx)
    (e0 : (i 0).val = t.val / 7 * 1024 + (y 0).val) (e1 : (i 1).val = t.val % 7 * 1024 + (y 1).val) :
    ((outsAt0 m c t.val t.isLt).1 : S1024x1024.Idx → EReal) y
      = InProjSpec.cell (fun j => X m c (ix2 (i 0) j)) (fun j => Gn m c (ix2 1 j)) (fun j => Wt m c (ix3 1 j (i 1))) := by
  have er : i 0 = rowOf t.val t.isLt (y 0) := Fin.ext e0
  rw [out_of_kept, prod_at, er]
  exact Finset.sum_congr rfl fun k _ => congrArg₂ (· * ·) (kept_after m c t.val t.isLt (y 0) k) (w_at m c t k (y 1) (i 1) e1)

/-! ## The output array -/

/-- The output array as a function of the arguments. -/
def res (c : Dev nD) : S16384x7168.Idx → EReal := fun i =>
  InProjSpec.cell (fun j => X m c (ix2 (i 0) j)) (fun j => Gn m c (ix2 1 j)) (fun j => Wt m c (ix3 1 j (i 1)))

theorem size3_pos : ∀ b, 0 < win0_3.size b
  | ⟨0, _⟩ => by show 0 < 1024; decide
  | ⟨1, _⟩ => by show 0 < 1024; decide

theorem nblk3_0 : win0_3.nblk (0 : Fin 2) = 16 := by
  show (16384 + 1024 - 1) / 1024 = 16; decide
theorem nblk3_1 : win0_3.nblk (1 : Fin 2) = 7 := by
  show (7168 + 1024 - 1) / 1024 = 7; decide

theorem map3 : ∀ (n : Fin 16) (f : Fin 7), cc0_transform_3 (fun | ⟨0, _⟩ => n | ⟨1, _⟩ => f) = ![n.val, f.val] := by decide +kernel

/-- The blocks of the output tile its array. -/
theorem covers3 : win0_3.Covers :=
  win0_3.covers_of_indexMap_surj rfl size3_pos fun β =>
    ⟨fun | ⟨0, _⟩ => ⟨(β (0 : Fin 2)).val, lt_of_lt_of_eq (β (0 : Fin 2)).isLt nblk3_0⟩
         | ⟨1, _⟩ => ⟨(β (1 : Fin 2)).val, lt_of_lt_of_eq (β (1 : Fin 2)).isLt nblk3_1⟩,
      fun b => (congrFun (map3 _ _) b).trans (match b with | ⟨0, _⟩ => rfl | ⟨1, _⟩ => rfl)⟩

/-- The output array after the run: each row normalized, times the layer's weights. -/
theorem out_eq (c : Dev nD) : (dats m 0 c).arrAt (3 : Fin 4) grid0.N = res m c := by
  refine (dats m 0 c).arrAt_eq_of_covers (3 : Fin 4) _ covers3 fun t hf y => ?_
  blk_simp
  rw [after0_3]
  exact out_after m c t y (((cfg0.win (3 : Fin 4)).blk t).view.emb y) (by blk_simp [index3 t]) (by blk_simp [index3 t])

end Cert.Kernel5Ideal.InProj

end
-- ==== Proof.InProjRef.lean ====
/- What the input projection's reference computes: its array at an index is the mathematical output. -/
module

public import proofs.«01_k».proof.Proof.Gen.Reference5Ideal.Read
public import proofs.«01_k».proof.Proof.InProjSpec
public import Idealize.ShloMosaic.Lib.IdealHost

@[expose] public section

noncomputable section

namespace Cert.Reference5Ideal.InProj

open Cert.Reference5Ideal Cert.Reference5Ideal.Gen Cert.Reference5Ideal.Read Idealize.ShloMosaic

variable (x : (⟨S16384x2048, .f32⟩ : BufTy).Contents (Elt Ideal)) (g : (⟨S4x2048, .f32⟩ : BufTy).Contents (Elt Ideal))
variable (w : (⟨S4x2048x7168, .f32⟩ : BufTy).Contents (Elt Ideal))

/-- The sum of a row's squares. -/
theorem squares_at (r : Fin 16384) : val_main_v1 (F := Ideal) x (ix1 r) = ∑ k : Fin 2048, x (ix2 r k) * x (ix2 r k) := by
  rw [val_main_v1_apply, val_main_cst_apply]
  refine (congrArg (· + _) Ideal.ofBits_zero_f32).trans ((zero_add _).trans (Finset.sum_congr rfl fun k _ => ?_))
  have e : idx_main_v1 (ix1 r) k = ix2 r k := funext fun | ⟨0, _⟩ => rfl | ⟨1, _⟩ => rfl
  rw [e]
  rfl

/-- What a row is scaled by. -/
theorem scale_at (r : Fin 16384) : val_main_v7 (F := Ideal) x (ix2 r 0) = InProjSpec.scale fun k => x (ix2 r k) := by
  rw [val_main_v7_apply, val_main_v6_apply, val_main_v5_apply, val_main_cst_1_apply, val_main_v4_apply, val_main_v3_apply,
    val_main_cst_0_apply, val_main_v2_apply]
  have e : idx_main_v2 (ix2 r 0) = ix1 r := funext fun | ⟨0, _⟩ => rfl
  rw [e, squares_at]
  rfl

/-- The layer's gain is the second of the four. -/
theorem gain_at (r : Fin 16384) (k : Fin 2048) : val_main_v13 (F := Ideal) g (ix2 r k) = g (ix2 1 k) := by
  rw [val_main_v13_apply, val_main_v12_apply, val_main_v11_apply, val_main_v10_apply]
  refine congrArg g (funext fun a => Fin.ext ?_)
  match a with
  | ⟨0, _⟩ => rfl
  | ⟨1, _⟩ => exact Nat.mod_eq_of_lt k.isLt

/-- A normalized row. -/
theorem normed_at (r : Fin 16384) (k : Fin 2048) :
    val_main_v14 (F := Ideal) x g (ix2 r k) = InProjSpec.normed (fun j => x (ix2 r j)) (fun j => g (ix2 1 j)) k := by
  rw [val_main_v14_apply, val_main_v9_apply, val_main_v8_apply, gain_at]
  have e : idx_main_v8 (ix2 r k) = ix2 r 0 := funext fun | ⟨0, _⟩ => rfl | ⟨1, _⟩ => rfl
  rw [e, scale_at]
  rfl

/-- The layer's weights are the second of the four. -/
theorem weight_at (k : Fin 2048) (q : Fin 7168) : val_main_v16 (F := Ideal) w (ix2 k q) = w (ix3 1 k q) := by
  rw [val_main_v16_apply, val_main_v15_apply]
  refine congrArg w (funext fun a => Fin.ext ?_)
  have hk := k.isLt
  have hq := q.isLt
  match a with
  | ⟨0, _⟩ => rfl
  | ⟨1, _⟩ => show (k.val * 7168 + q.val) / 7168 % 2048 = k.val; omega
  | ⟨2, _⟩ => show (k.val * 7168 + q.val) % 7168 = q.val; omega

/-- The reference's entry in row `r` and column `q` is the mathematical one. -/
theorem value_at (r : Fin 16384) (q : Fin 7168) : val_main_v18 (F := Ideal) x g w (ix2 r q)
    = InProjSpec.cell (fun j => x (ix2 r j)) (fun j => g (ix2 1 j)) (fun j => w (ix3 1 j q)) := by
  rw [val_main_v18_apply]
  refine (val_main_v17_apply x g w (ix2 r q)).trans (Finset.sum_congr rfl fun k _ => congrArg₂ (· * ·) ?_ ?_)
  · have e : lidx_main_v17 (ix2 r q) k = ix2 r k := funext fun | ⟨0, _⟩ => rfl | ⟨1, _⟩ => rfl
    rw [e]
    exact normed_at x g r k
  · have e : ridx_main_v17 (ix2 r q) k = ix2 k q := funext fun | ⟨0, _⟩ => rfl | ⟨1, _⟩ => rfl
    rw [e]
    exact weight_at w k q

/-- The reference's array is the mathematical output. -/
theorem value_eq (i : S16384x7168.Idx) : val_main_v18 (F := Ideal) x g w i
    = InProjSpec.cell (fun j => x (ix2 (i 0) j)) (fun j => g (ix2 1 j)) (fun j => w (ix3 1 j (i 1))) :=
  (congrArg (val_main_v18 (F := Ideal) x g w) (funext fun | ⟨0, _⟩ => rfl | ⟨1, _⟩ => rfl : i = ix2 (i 0) (i 1))).trans
    (value_at x g w (i 0) (i 1))

end Cert.Reference5Ideal.InProj

end
-- ==== Proof.InProjClaims.lean ====
/- The claims about the input projection: the kernel runs, leaves its arguments and its semaphores as it found them, and
   computes what the reference computes. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.InProjOut
public import proofs.«01_k».proof.Proof.InProjRef
public import Idealize.ShloMosaic.Lib.Claim

@[expose] public section

noncomputable section

namespace Cert.InProjClaims

open Idealize.ShloMosaic Idealize.SL.Sem Cert.Kernel5.Gen Cert.Kernel5Ideal.Gen Cert.Reference5Ideal.Gen

/-- The kernel runs and changes no argument. -/
theorem frame_kernel : quiescent_Kernel5 := fun m g _ => Cert.Kernel5.Gen.frame m g

/-- So does the kernel on the extended reals. -/
theorem frame_ideal : quiescent_Kernel5Ideal := fun m g _ => Cert.Kernel5Ideal.Gen.frame m g

/-- So does the reference. -/
theorem frame_reference : quiescent_Reference5Ideal := fun m g _ =>
  (θ_run _ _ _).mono (fun r h => ⟨fun c => (h c).2, sem_eq_zero_of_no_sems (by decide) r.2⟩) (Cert.Reference5Ideal.Value.run m g)

/-- The kernel's array and the reference's are one. -/
theorem equal : algebraic_Kernel5Ideal_Reference5Ideal := fun m g m' g' _ ha =>
  ⟨fun c => Cert.Kernel5Ideal.InProj.res m c,
    (θ_run _ _ _).mono (fun _ h c => ⟨(h c).1.trans (Cert.Kernel5Ideal.InProj.out_eq m c), (h c).2⟩)
      (Cert.Kernel5Ideal.Value.run_blocks m g),
    (θ_run _ _ _).mono (fun _ h c => ⟨(h c).1.trans (by
        rw [Cert.Reference5Ideal.Read.val_main_v18_eq]
        obtain ⟨a0, a1, a2⟩ := ha c
        rw [a0, a1, a2]
        exact funext fun i => Cert.Reference5Ideal.InProj.value_eq _ _ _ i), (h c).2⟩)
      (Cert.Reference5Ideal.Value.run m' g')⟩

end Cert.InProjClaims

end
-- ==== Proof.OutProjSpec.lean ====
/- The mathematics of the output projection: the two mixers' results, side by side, times the layer's weights, added to the
   rows; and those sums normalized for the channel mixer. -/
module

public import proofs.«01_k».proof.Proof.InProjSpec

@[expose] public section

noncomputable section

namespace Cert.OutProjSpec

open Idealize.ShloMosaic

/-- The weights' row that the first mixer's element `k` is multiplied by, and the second's. -/
abbrev lower (k : Fin 1024) : Fin 2048 := ⟨k.val, by omega⟩
abbrev upper (k : Fin 1024) : Fin 2048 := ⟨1024 + k.val, by omega⟩

/-- An element of the new row: the row's element, and the products of the two mixers' rows with their halves of the
    weights' column. -/
def mixed (row : Fin 2048 → EReal) (a b : Fin 1024 → EReal) (w : Fin 2048 → Fin 2048 → EReal) (d : Fin 2048) : EReal :=
  row d + ((∑ k : Fin 1024, a k * w (lower k) d) + ∑ k : Fin 1024, b k * w (upper k) d)

/-- An element of the new row, normalized. -/
def next (row : Fin 2048 → EReal) (a b : Fin 1024 → EReal) (w : Fin 2048 → Fin 2048 → EReal) (gain : Fin 2048 → EReal)
    (d : Fin 2048) : EReal := InProjSpec.normed (mixed row a b w) gain d

variable {row row' gain gain' : Fin 2048 → EReal} {a a' b b' : Fin 1024 → EReal} {w w' : Fin 2048 → Fin 2048 → EReal}

/-- The new row depends on the elements of what it is made of, -/
theorem mixed_congr (hx : ∀ d, row d = row' d) (ha : ∀ k, a k = a' k) (hb : ∀ k, b k = b' k) (hw : ∀ k d, w k d = w' k d) :
    mixed row a b w = mixed row' a' b' w' := by
  rw [funext hx, funext ha, funext hb, funext fun k => funext (hw k)]

/-- and so does the new row normalized. -/
theorem next_congr (hx : ∀ d, row d = row' d) (ha : ∀ k, a k = a' k) (hb : ∀ k, b k = b' k) (hw : ∀ k d, w k d = w' k d)
    (hg : ∀ d, gain d = gain' d) : next row a b w gain = next row' a' b' w' gain' := by
  unfold next
  rw [mixed_congr hx ha hb hw, funext hg]

end Cert.OutProjSpec

end
-- ==== Proof.OutProjPay.lean ====
/- What the output projection's body leaves in a block of each of its two outputs, element by element. The body treats the
   block's two halves of 256 rows one after the other, by the same arithmetic. -/
module

public import proofs.«01_k».proof.Proof.Gen.Kernel6Ideal.Frame
public import proofs.«01_k».proof.Proof.OutProjSpec

@[expose] public section

set_option maxRecDepth 16384

noncomputable section

namespace Cert.Kernel6Ideal.OutProj

open Cert.Kernel6Ideal Cert.Kernel6Ideal.Gen
open Idealize.ShloMosaic Idealize.ShloMosaic.TcCoe

/-! ## The payloads -/

/-- The new rows of a half, from the two mixers' rows, the two halves of the weights and the rows; -/
theorem sum_at (a b : S256x1024.Idx → EReal) (u v : S1024x2048.Idx → EReal) (x : S256x2048.Idx → EReal) (r : Fin 256) (d : Fin 2048) :
    k0_pay3 (F := Ideal) a u b v x (ix2 r d)
      = x (ix2 r d) + ((∑ k : Fin 1024, a (ix2 r k) * u (ix2 k d)) + ∑ k : Fin 1024, b (ix2 r k) * v (ix2 k d)) := by
  unfold k0_pay3
  pointwise

/-- and those rows normalized. -/
theorem normed_at (a b : S256x1024.Idx → EReal) (u v : S1024x2048.Idx → EReal) (x : S256x2048.Idx → EReal) (g : S1x2048.Idx → EReal)
    (r : Fin 256) (d : Fin 2048) :
    k0_pay4 (F := Ideal) a u b v x g (ix2 r d)
      = InProjSpec.normed (fun j => k0_pay3 (F := Ideal) a u b v x (ix2 r j)) (fun j => g (ix2 0 j)) d := by
  unfold k0_pay4 InProjSpec.normed InProjSpec.scale
  generalize k0_pay3 (F := Ideal) a u b v x = s
  pointwise

section
variable {F : FTy → Type} [FloatOps F]
variable (x0 x1 : Vec F S512x1024 .bf16) (x2 : Vec F S512x2048 .f32) (x3 : Vec F S2048x2048 .bf16) (x4 : Vec F S1x2048 .f32)

/-- The second half's payloads are the first half's arithmetic. -/
theorem second_sum : k0_pay1 (View.ld x0 r0_5) (k0_pay7 x0 x1 x2 x3 x4) (k0_pay6 x0 x1 x2 x3 x4) (View.ld x1 r0_5) (View.ld x3 r0_2) (View.ld x2 r0_6)
    = k0_pay3 (View.ld x0 r0_5) (View.ld x3 r0_1) (View.ld x1 r0_5) (View.ld x3 r0_2) (View.ld x2 r0_6) := rfl

theorem second_normed : k0_pay2 (View.ld x0 r0_5) (k0_pay7 x0 x1 x2 x3 x4) (k0_pay6 x0 x1 x2 x3 x4) (View.ld x1 r0_5) (View.ld x3 r0_2) (View.ld x2 r0_6) (View.ld x4 r0_4)
    = k0_pay4 (View.ld x0 r0_5) (View.ld x3 r0_1) (View.ld x1 r0_5) (View.ld x3 r0_2) (View.ld x2 r0_6) (View.ld x4 r0_4) := rfl

end

/-! ## The blocks -/

variable (x0 x1 : S512x1024.Idx → EReal) (x2 : S512x2048.Idx → EReal) (x3 : S2048x2048.Idx → EReal) (x4 : S1x2048.Idx → EReal)

/-- The new rows of a block, from the blocks the point reads; -/
def rows : S512x2048.Idx → EReal := fun y =>
  OutProjSpec.mixed (fun d => x2 (ix2 (y 0) d)) (fun k => x0 (ix2 (y 0) k)) (fun k => x1 (ix2 (y 0) k)) (fun k d => x3 (ix2 k d)) (y 1)

/-- and those rows normalized. -/
def nexts : S512x2048.Idx → EReal := fun y =>
  OutProjSpec.next (fun d => x2 (ix2 (y 0) d)) (fun k => x0 (ix2 (y 0) k)) (fun k => x1 (ix2 (y 0) k)) (fun k d => x3 (ix2 k d))
    (fun d => x4 (ix2 0 d)) (y 1)

/-- The row of the block that is row `r` of the half beginning at row `o`. -/
abbrev rowAt (o : ℕ) (ho : o + 256 ≤ 512) (r : Fin 256) : Fin 512 := ⟨o + r.val, by have := r.isLt; omega⟩

section
variable (o : ℕ) (ho : o + 256 ≤ 512) (ia : ∀ a, (![o, 0] : Fin 2 → ℕ) a + S256x1024.size a ≤ S512x1024.size a)
  (ix : ∀ a, (![o, 0] : Fin 2 → ℕ) a + S256x2048.size a ≤ S512x2048.size a)

/-- A load of a half of a mixer's rows reads the block's rows, -/
theorem half_mixer (X : Vec Ideal S512x1024 .bf16) (r : Fin 256) (k : Fin 1024) :
    View.ld X (Rect.unit (s := S512x1024) ![o, 0] S256x1024.size ia) (ix2 r k) = X (ix2 (rowAt o ho r) k) :=
  View.ld_unit_apply_of X _ _ ia _ _ fun | ⟨0, _⟩ => rfl | ⟨1, _⟩ => (Nat.zero_add _).symm

/-- a load of a half of the rows too, -/
theorem half_rows (X : Vec Ideal S512x2048 .f32) (r : Fin 256) (d : Fin 2048) :
    View.ld X (Rect.unit (s := S512x2048) ![o, 0] S256x2048.size ix) (ix2 r d) = X (ix2 (rowAt o ho r) d) :=
  View.ld_unit_apply_of X _ _ ix _ _ fun | ⟨0, _⟩ => rfl | ⟨1, _⟩ => (Nat.zero_add _).symm

/-- and the two loads of the weights read their lower and their upper half. -/
theorem lower_weights (X : Vec Ideal S2048x2048 .bf16) (k : Fin 1024) (d : Fin 2048) :
    View.ld X r0_1 (ix2 k d) = X (ix2 (OutProjSpec.lower k) d) :=
  View.ld_unit_apply_of X _ _ _ _ _ fun | ⟨0, _⟩ => (Nat.zero_add _).symm | ⟨1, _⟩ => (Nat.zero_add _).symm

theorem upper_weights (X : Vec Ideal S2048x2048 .bf16) (k : Fin 1024) (d : Fin 2048) :
    View.ld X r0_2 (ix2 k d) = X (ix2 (OutProjSpec.upper k) d) :=
  View.ld_unit_apply_of X _ _ _ _ _ fun | ⟨0, _⟩ => rfl | ⟨1, _⟩ => (Nat.zero_add _).symm

/-- The load of the gains reads them whole. -/
theorem whole_gains (X : Vec Ideal S1x2048 .f32) (d : Fin 2048) : View.ld X r0_4 (ix2 0 d) = X (ix2 0 d) :=
  View.ld_unit_apply_of X _ _ _ _ _ fun | ⟨0, _⟩ => rfl | ⟨1, _⟩ => (Nat.zero_add _).symm

/-- What is stored for the half beginning at row `o` are the block's new rows, -/
theorem half_sum (r : Fin 256) (d : Fin 2048) :
    k0_pay3 (F := Ideal) (View.ld x0 (Rect.unit (s := S512x1024) ![o, 0] S256x1024.size ia)) (View.ld x3 r0_1)
        (View.ld x1 (Rect.unit (s := S512x1024) ![o, 0] S256x1024.size ia)) (View.ld x3 r0_2)
        (View.ld x2 (Rect.unit (s := S512x2048) ![o, 0] S256x2048.size ix)) (ix2 r d)
      = rows x0 x1 x2 x3 (ix2 (rowAt o ho r) d) := by
  refine (sum_at _ _ _ _ _ r d).trans (congrArg₂ (· + ·) (half_rows o ho ix x2 r d) (congrArg₂ (· + ·) ?_ ?_))
  · exact Finset.sum_congr rfl fun k _ => congrArg₂ (· * ·) (half_mixer o ho ia x0 r k) (lower_weights x3 k d)
  · exact Finset.sum_congr rfl fun k _ => congrArg₂ (· * ·) (half_mixer o ho ia x1 r k) (upper_weights x3 k d)

/-- and those normalized. -/
theorem half_normed (r : Fin 256) (d : Fin 2048) :
    k0_pay4 (F := Ideal) (View.ld x0 (Rect.unit (s := S512x1024) ![o, 0] S256x1024.size ia)) (View.ld x3 r0_1)
        (View.ld x1 (Rect.unit (s := S512x1024) ![o, 0] S256x1024.size ia)) (View.ld x3 r0_2)
        (View.ld x2 (Rect.unit (s := S512x2048) ![o, 0] S256x2048.size ix)) (View.ld x4 r0_4) (ix2 r d)
      = nexts x0 x1 x2 x3 x4 (ix2 (rowAt o ho r) d) :=
  (normed_at _ _ _ _ _ _ r d).trans
    (congrArg₂ (InProjSpec.normed · · d) (funext (half_sum x0 x1 x2 x3 o ho ia ix r)) (funext (whole_gains x4)))

/-- Where the half's rectangle places an index. -/
theorem half_place (x : S256x2048.Idx) :
    (Rect.unit (s := S512x2048) ![o, 0] S256x2048.size ix).emb x = ix2 (rowAt o ho (x 0)) (x 1) :=
  Rect.emb_eq_of_coords _ _ _ fun | ⟨0, _⟩ => (congrArg (o + ·) (Nat.one_mul _)).symm | ⟨1, _⟩ => ((Nat.zero_add _).trans (Nat.one_mul _)).symm

/-- An index of a half by its row and its column. -/
theorem half_index (x : S256x2048.Idx) : x = ix2 (x 0) (x 1) := funext fun | ⟨0, _⟩ => rfl | ⟨1, _⟩ => rfl

include ho in
/-- The piece stored for a half agrees with the block's new rows, -/
theorem piece_sum (x : S256x2048.Idx) :
    k0_pay3 (F := Ideal) (View.ld x0 (Rect.unit (s := S512x1024) ![o, 0] S256x1024.size ia)) (View.ld x3 r0_1)
        (View.ld x1 (Rect.unit (s := S512x1024) ![o, 0] S256x1024.size ia)) (View.ld x3 r0_2)
        (View.ld x2 (Rect.unit (s := S512x2048) ![o, 0] S256x2048.size ix)) x
      = rows x0 x1 x2 x3 ((Rect.unit (s := S512x2048) ![o, 0] S256x2048.size ix).emb x) :=
  (congrArg _ (half_index x)).trans ((half_sum x0 x1 x2 x3 o ho ia ix (x 0) (x 1)).trans (congrArg _ (half_place o ho ix x).symm))

include ho in
/-- and with those normalized. -/
theorem piece_normed (x : S256x2048.Idx) :
    k0_pay4 (F := Ideal) (View.ld x0 (Rect.unit (s := S512x1024) ![o, 0] S256x1024.size ia)) (View.ld x3 r0_1)
        (View.ld x1 (Rect.unit (s := S512x1024) ![o, 0] S256x1024.size ia)) (View.ld x3 r0_2)
        (View.ld x2 (Rect.unit (s := S512x2048) ![o, 0] S256x2048.size ix)) (View.ld x4 r0_4) x
      = nexts x0 x1 x2 x3 x4 ((Rect.unit (s := S512x2048) ![o, 0] S256x2048.size ix).emb x) :=
  (congrArg _ (half_index x)).trans ((half_normed x0 x1 x2 x3 x4 o ho ia ix (x 0) (x 1)).trans (congrArg _ (half_place o ho ix x).symm))

end

/-- The body leaves the block's new rows, -/
theorem out_sum : out0_5 (F := Ideal) x0 x1 x2 x3 x4 = rows x0 x1 x2 x3 := by
  unfold out0_5
  rw [second_sum]
  refine funext fun y => View.canon_apply_of_pieces (Val := Elt Ideal) (e := .f32) (rows x0 x1 x2 x3) _ ?_ y (cover0_5 (F := Ideal) _ _ y)
  intro p hp
  rcases List.mem_cons.mp hp with rfl | hp
  · exact piece_sum x0 x1 x2 x3 256 (by decide) _ _
  rcases List.mem_singleton.mp hp with rfl
  exact piece_sum x0 x1 x2 x3 0 (by decide) _ _

/-- and those rows normalized. -/
theorem out_normed : out0_6 (F := Ideal) x0 x1 x2 x3 x4 = nexts x0 x1 x2 x3 x4 := by
  unfold out0_6
  rw [second_normed]
  refine funext fun y => View.canon_apply_of_pieces (Val := Elt Ideal) (e := .bf16) (nexts x0 x1 x2 x3 x4) _ ?_ y (cover0_6 (F := Ideal) _ _ y)
  intro p hp
  rcases List.mem_cons.mp hp with rfl | hp
  · exact piece_normed x0 x1 x2 x3 x4 256 (by decide) _ _
  rcases List.mem_singleton.mp hp with rfl
  exact piece_normed x0 x1 x2 x3 x4 0 (by decide) _ _

end Cert.Kernel6Ideal.OutProj

end
-- ==== Proof.OutProjOut.lean ====
/- The output projection's two arrays after the run: every element is the mathematics' value of the arguments. Each point
   leaves one block of rows of each. -/
module

public import proofs.«01_k».proof.Proof.OutProjPay
public import Idealize.ShloMosaic.Lib.Pipeline.Covers
public import Idealize.ShloMosaic.Lib.StableHlo.ReadAt

@[expose] public section

set_option maxRecDepth 16384

noncomputable section

namespace Cert.Kernel6Ideal.OutProj

open Cert.Kernel6Ideal Cert.Kernel6Ideal.Gen
open Idealize.ShloMosaic Idealize.ShloMosaic.TcCoe Idealize.SL.Sem

/-! ## The blocks -/

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![t.val, 0] := by decide +kernel
theorem index6 : ∀ t : Fin grid0.N, win0_6.index t = ![t.val, 0] := by decide +kernel

variable (m : (ℓ : Loc nD τ sig) → Buf (Elt Ideal) ℓ)

/-- The two mixers' results, the rows, the layers' weights, the layers' gains. -/
abbrev A (c : Dev nD) : S16384x1024.Idx → EReal := m ((c : Thread nD τ).loc main_arg0)
abbrev B (c : Dev nD) : S16384x1024.Idx → EReal := m ((c : Thread nD τ).loc main_arg1)
abbrev X (c : Dev nD) : S16384x2048.Idx → EReal := m ((c : Thread nD τ).loc main_arg2)
abbrev Wt (c : Dev nD) : S4x2048x2048.Idx → EReal := m ((c : Thread nD τ).loc main_arg3)
abbrev Gn (c : Dev nD) : S4x2048.Idx → EReal := m ((c : Thread nD τ).loc main_arg4)

/-- The weights that the region finds are the layer's, -/
theorem weight_at (c : Dev nD) (k d : Fin 2048) : (V m c main_v2 : S2048x2048.Idx → EReal) (ix2 k d) = Wt m c (ix3 2 k d) := by
  unfold V
  after_reads_simp
  clean_types
  pointwise

/-- and so is the gain. -/
theorem gain_at (c : Dev nD) (d : Fin 2048) : (V m c main_v5 : S1x2048.Idx → EReal) (ix2 0 d) = Gn m c (ix2 2 d) := by
  unfold V
  after_reads_simp
  clean_types
  pointwise

/-- The row of the arrays that is row `r` of point `t`'s block. -/
abbrev rowOf (t : Fin grid0.N) (r : Fin 512) : Fin 16384 := ⟨t.val * 512 + r.val, by have := N_0; have := t.isLt; have := r.isLt; omega⟩

theorem a_at (c : Dev nD) (t : Fin grid0.N) (r : Fin 512) (k : Fin 1024) :
    (iblk m c (0 : Fin 7) t : S512x1024.Idx → EReal) (ix2 r k) = A m c (ix2 (rowOf t r) k) := by
  unfold A
  rw [← V_main_arg0 m c]
  blk_simp [iblk]
  blk_ext [index0 t]

theorem b_at (c : Dev nD) (t : Fin grid0.N) (r : Fin 512) (k : Fin 1024) :
    (iblk m c (1 : Fin 7) t : S512x1024.Idx → EReal) (ix2 r k) = B m c (ix2 (rowOf t r) k) := by
  unfold B
  rw [← V_main_arg1 m c]
  blk_simp [iblk]
  blk_ext [index1 t]

theorem x_at (c : Dev nD) (t : Fin grid0.N) (r : Fin 512) (d : Fin 2048) :
    (iblk m c (2 : Fin 7) t : S512x2048.Idx → EReal) (ix2 r d) = X m c (ix2 (rowOf t r) d) := by
  unfold X
  rw [← V_main_arg2 m c]
  blk_simp [iblk]
  blk_ext [index2 t]

theorem w_at (c : Dev nD) (t : Fin grid0.N) (k d : Fin 2048) :
    (iblk m c (3 : Fin 7) t : S2048x2048.Idx → EReal) (ix2 k d) = Wt m c (ix3 2 k d) := by
  rw [← weight_at m c k d]
  blk_simp [iblk]
  blk_ext [index3 t]

theorem g_at (c : Dev nD) (t : Fin grid0.N) (d : Fin 2048) :
    (iblk m c (4 : Fin 7) t : S1x2048.Idx → EReal) (ix2 0 d) = Gn m c (ix2 2 d) := by
  rw [← gain_at m c d]
  blk_simp [iblk]
  blk_ext [index4 t]

/-! ## The output arrays -/

/-- The new rows as a function of the arguments, -/
def res (c : Dev nD) : S16384x2048.Idx → EReal := fun i =>
  OutProjSpec.mixed (fun d => X m c (ix2 (i 0) d)) (fun k => A m c (ix2 (i 0) k)) (fun k => B m c (ix2 (i 0) k))
    (fun k d => Wt m c (ix3 2 k d)) (i 1)

/-- and those rows normalized. -/
def resNormed (c : Dev nD) : S16384x2048.Idx → EReal := fun i =>
  OutProjSpec.next (fun d => X m c (ix2 (i 0) d)) (fun k => A m c (ix2 (i 0) k)) (fun k => B m c (ix2 (i 0) k))
    (fun k d => Wt m c (ix3 2 k d)) (fun d => Gn m c (ix2 2 d)) (i 1)

/-- An element of a point's block of new rows is the mathematical one at the element's row and column of the array, -/
theorem sum_after (c : Dev nD) (t : Fin grid0.N) (y : S512x2048.Idx) (i : S16384x2048.Idx)
    (e0 : (i 0).val = t.val * 512 + (y 0).val) (e1 : (i 1).val = (y 1).val) :
    rows (iblk m c (0 : Fin 7) t) (iblk m c (1 : Fin 7) t) (iblk m c (2 : Fin 7) t) (iblk m c (3 : Fin 7) t) y = res m c i := by
  have er : i 0 = rowOf t (y 0) := Fin.ext e0
  have ec : i 1 = y 1 := Fin.ext e1
  unfold rows res
  rw [er, ec]
  exact congrFun (OutProjSpec.mixed_congr (x_at m c t (y 0)) (a_at m c t (y 0)) (b_at m c t (y 0)) (w_at m c t)) (y 1)

/-- and so is one of those normalized. -/
theorem normed_after (c : Dev nD) (t : Fin grid0.N) (y : S512x2048.Idx) (i : S16384x2048.Idx)
    (e0 : (i 0).val = t.val * 512 + (y 0).val) (e1 : (i 1).val = (y 1).val) :
    nexts (iblk m c (0 : Fin 7) t) (iblk m c (1 : Fin 7) t) (iblk m c (2 : Fin 7) t) (iblk m c (3 : Fin 7) t)
      (iblk m c (4 : Fin 7) t) y = resNormed m c i := by
  have er : i 0 = rowOf t (y 0) := Fin.ext e0
  have ec : i 1 = y 1 := Fin.ext e1
  unfold nexts resNormed
  rw [er, ec]
  exact congrFun (OutProjSpec.next_congr (x_at m c t (y 0)) (a_at m c t (y 0)) (b_at m c t (y 0)) (w_at m c t) (g_at m c t)) (y 1)

theorem size5_pos : ∀ b, 0 < win0_5.size b
  | ⟨0, _⟩ => by show 0 < 512; decide
  | ⟨1, _⟩ => by show 0 < 2048; decide

theorem nblk5_0 : win0_5.nblk (0 : Fin 2) = 32 := by
  show (16384 + 512 - 1) / 512 = 32; decide
theorem nblk5_1 : win0_5.nblk (1 : Fin 2) = 1 := by
  show (2048 + 2048 - 1) / 2048 = 1; decide

theorem map5 : ∀ n : Fin 32, cc0_transform_5 (fun | ⟨0, _⟩ => n) = ![n.val, 0] := by decide +kernel

/-- The blocks of the new rows tile their array, -/
theorem covers5 : win0_5.Covers :=
  win0_5.covers_of_indexMap_surj rfl size5_pos fun β =>
    ⟨fun | ⟨0, _⟩ => ⟨(β (0 : Fin 2)).val, lt_of_lt_of_eq (β (0 : Fin 2)).isLt nblk5_0⟩,
      fun b => (congrFun (map5 _) b).trans (match b with
        | ⟨0, _⟩ => rfl
        | ⟨1, _⟩ => (Nat.lt_one_iff.mp (lt_of_lt_of_eq (β (1 : Fin 2)).isLt nblk5_1)).symm)⟩

/-- and those of the normalized rows theirs: the two have the same blocks. -/
theorem covers6 : win0_6.Covers :=
  win0_6.covers_of_indexMap_surj rfl size5_pos fun β =>
    ⟨fun | ⟨0, _⟩ => ⟨(β (0 : Fin 2)).val, lt_of_lt_of_eq (β (0 : Fin 2)).isLt nblk5_0⟩,
      fun b => (congrFun (map5 _) b).trans (match b with
        | ⟨0, _⟩ => rfl
        | ⟨1, _⟩ => (Nat.lt_one_iff.mp (lt_of_lt_of_eq (β (1 : Fin 2)).isLt nblk5_1)).symm)⟩

/-- The first output array after the run: the rows with the mixers' results, projected, added; -/
theorem out_eq (c : Dev nD) : (dats m 0 c).arrAt (5 : Fin 7) grid0.N = res m c := by
  refine (dats m 0 c).arrAt_eq_of_covers (5 : Fin 7) _ covers5 fun t hf y => ?_
  blk_simp
  rw [after0_5, out_sum]
  exact sum_after m c t y (((cfg0.win (5 : Fin 7)).blk t).view.emb y) (by blk_simp [index5 t]) (by blk_simp [index5 t])

/-- the second: those normalized. -/
theorem out_normed_eq (c : Dev nD) : (dats m 0 c).arrAt (6 : Fin 7) grid0.N = resNormed m c := by
  refine (dats m 0 c).arrAt_eq_of_covers (6 : Fin 7) _ covers6 fun t hf y => ?_
  blk_simp
  rw [after0_6, out_normed]
  exact normed_after m c t y (((cfg0.win (6 : Fin 7)).blk t).view.emb y) (by blk_simp [index6 t]) (by blk_simp [index6 t])

end Cert.Kernel6Ideal.OutProj

end
-- ==== Proof.OutProjRef.lean ====
/- What the output projection's reference computes: its two arrays at an index are the mathematical outputs. The product
   over the two mixers' results side by side is the sum of the products over each. -/
module

public import proofs.«01_k».proof.Proof.Gen.Reference6Ideal.Read
public import proofs.«01_k».proof.Proof.OutProjSpec
public import Idealize.ShloMosaic.Lib.Pointwise
public import Idealize.ShloMosaic.Lib.IdealHost

@[expose] public section

noncomputable section

namespace Cert.Reference6Ideal.OutProj

open Cert.Reference6Ideal Cert.Reference6Ideal.Gen Cert.Reference6Ideal.Read Idealize.ShloMosaic
open OutProjSpec (lower upper)

variable (a b : (⟨S16384x1024, .bf16⟩ : BufTy).Contents (Elt Ideal)) (x : (⟨S16384x2048, .f32⟩ : BufTy).Contents (Elt Ideal))
variable (w : (⟨S4x2048x2048, .f32⟩ : BufTy).Contents (Elt Ideal)) (g : (⟨S4x2048, .f32⟩ : BufTy).Contents (Elt Ideal))

/-- The two mixers' results side by side, in the first half of the columns; -/
theorem left_at (r : Fin 16384) (k : Fin 1024) : val_main_v2 (F := Ideal) a b (ix2 r (lower k)) = a (ix2 r k) :=
  concatenate_pair_apply_left (t := S16384x2048) (s₁ := S16384x1024) (s₂ := S16384x1024) 1 (val_main_v0 (F := Ideal) a)
    (val_main_v1 (F := Ideal) b) _ (ix2 r (lower k)) rfl (ix2 r k) fun | ⟨0, _⟩ => rfl | ⟨1, _⟩ => rfl

/-- and in the second. -/
theorem right_at (r : Fin 16384) (k : Fin 1024) : val_main_v2 (F := Ideal) a b (ix2 r (upper k)) = b (ix2 r k) :=
  concatenate_pair_apply_right (t := S16384x2048) (s₁ := S16384x1024) (s₂ := S16384x1024) 1 (val_main_v0 (F := Ideal) a)
    (val_main_v1 (F := Ideal) b) _ (ix2 r (upper k)) rfl rfl (ix2 r k)
    (fun | ⟨0, _⟩ => fun _ => rfl | ⟨1, _⟩ => fun h => absurd rfl h) (Nat.add_comm k.val 1024)

/-- The layer's weights are the third of the four. -/
theorem weight_at (k d : Fin 2048) : val_main_v4 (F := Ideal) w (ix2 k d) = w (ix3 2 k d) := by
  rw [val_main_v4_apply, val_main_v3_apply]
  refine congrArg w (funext fun e => Fin.ext ?_)
  have hk := k.isLt
  have hd := d.isLt
  match e with
  | ⟨0, _⟩ => rfl
  | ⟨1, _⟩ => show (k.val * 2048 + d.val) / 2048 % 2048 = k.val; omega
  | ⟨2, _⟩ => show (k.val * 2048 + d.val) % 2048 = d.val; omega

/-- The layer's gain is the third of the four. -/
theorem gain_at (r : Fin 16384) (d : Fin 2048) : val_main_v20 (F := Ideal) g (ix2 r d) = g (ix2 2 d) := by
  rw [val_main_v20_apply, val_main_v19_apply, val_main_v18_apply, val_main_v17_apply]
  refine congrArg g (funext fun e => Fin.ext ?_)
  match e with
  | ⟨0, _⟩ => rfl
  | ⟨1, _⟩ => exact Nat.mod_eq_of_lt d.isLt

/-- The new row `r` of the arguments. -/
abbrev newRow (r : Fin 16384) : Fin 2048 → EReal :=
  OutProjSpec.mixed (fun d => x (ix2 r d)) (fun k => a (ix2 r k)) (fun k => b (ix2 r k)) (fun k d => w (ix3 2 k d))

/-- The reference's product is the two halves' products. -/
theorem product_at (r : Fin 16384) (d : Fin 2048) : val_main_v5 (F := Ideal) a b w (ix2 r d)
    = (∑ k : Fin 1024, a (ix2 r k) * w (ix3 2 (lower k) d)) + ∑ k : Fin 1024, b (ix2 r k) * w (ix3 2 (upper k) d) := by
  have el : ∀ k, lidx_main_v5 (ix2 r d) k = ix2 r k := fun k => funext fun | ⟨0, _⟩ => rfl | ⟨1, _⟩ => rfl
  have er : ∀ k, ridx_main_v5 (ix2 r d) k = ix2 k d := fun k => funext fun | ⟨0, _⟩ => rfl | ⟨1, _⟩ => rfl
  refine (val_main_v5_apply a b w (ix2 r d)).trans ((Fin.sum_univ_two_halves 1024 1024 rfl _).trans (congrArg₂ (· + ·) ?_ ?_))
  · refine Finset.sum_congr rfl fun k _ => ?_
    rw [el, er]
    exact congrArg₂ (· * ·) (left_at a b r k) (weight_at w (lower k) d)
  · refine Finset.sum_congr rfl fun k _ => ?_
    rw [el, er]
    exact congrArg₂ (· * ·) (right_at a b r k) (weight_at w (upper k) d)

/-- The reference's new rows. -/
theorem row_at (r : Fin 16384) (d : Fin 2048) : val_main_v6 (F := Ideal) a b x w (ix2 r d) = newRow a b x w r d :=
  (val_main_v6_apply a b x w (ix2 r d)).trans (congrArg (x (ix2 r d) + ·) (product_at a b w r d))

/-- The sum of a new row's squares. -/
theorem squares_at (r : Fin 16384) :
    val_main_v8 (F := Ideal) a b x w (ix1 r) = ∑ k : Fin 2048, newRow a b x w r k * newRow a b x w r k := by
  rw [val_main_v8_apply, val_main_cst_apply]
  refine (congrArg (· + _) Ideal.ofBits_zero_f32).trans ((zero_add _).trans (Finset.sum_congr rfl fun k _ => ?_))
  have e : idx_main_v8 (ix1 r) k = ix2 r k := funext fun | ⟨0, _⟩ => rfl | ⟨1, _⟩ => rfl
  rw [e, val_main_v7_apply, row_at]
  rfl

/-- What a new row is scaled by. -/
theorem scale_at (r : Fin 16384) : val_main_v14 (F := Ideal) a b x w (ix2 r 0) = InProjSpec.scale (newRow a b x w r) := by
  rw [val_main_v14_apply, val_main_v13_apply, val_main_v12_apply, val_main_cst_1_apply, val_main_v11_apply, val_main_v10_apply,
    val_main_cst_0_apply, val_main_v9_apply]
  have e : idx_main_v9 (ix2 r 0) = ix1 r := funext fun | ⟨0, _⟩ => rfl
  rw [e, squares_at]
  rfl

/-- The reference's new rows, normalized. -/
theorem next_at (r : Fin 16384) (d : Fin 2048) :
    val_main_v22 (F := Ideal) a b x w g (ix2 r d) = InProjSpec.normed (newRow a b x w r) (fun j => g (ix2 2 j)) d := by
  rw [val_main_v22_apply, val_main_v21_apply, val_main_v16_apply, val_main_v15_apply, gain_at, row_at]
  have e : idx_main_v15 (ix2 r d) = ix2 r 0 := funext fun | ⟨0, _⟩ => rfl | ⟨1, _⟩ => rfl
  rw [e, scale_at]
  rfl

/-- An index of the arrays by its row and its column. -/
theorem index_eq (i : S16384x2048.Idx) : i = ix2 (i 0) (i 1) := funext fun | ⟨0, _⟩ => rfl | ⟨1, _⟩ => rfl

/-- The reference's first array is the mathematical one, -/
theorem row_eq (i : S16384x2048.Idx) : val_main_v6 (F := Ideal) a b x w i
    = OutProjSpec.mixed (fun d => x (ix2 (i 0) d)) (fun k => a (ix2 (i 0) k)) (fun k => b (ix2 (i 0) k))
      (fun k d => w (ix3 2 k d)) (i 1) :=
  (congrArg (val_main_v6 (F := Ideal) a b x w) (index_eq i)).trans (row_at a b x w (i 0) (i 1))

/-- and so is its second. -/
theorem next_eq (i : S16384x2048.Idx) : val_main_v22 (F := Ideal) a b x w g i
    = OutProjSpec.next (fun d => x (ix2 (i 0) d)) (fun k => a (ix2 (i 0) k)) (fun k => b (ix2 (i 0) k))
      (fun k d => w (ix3 2 k d)) (fun d => g (ix2 2 d)) (i 1) :=
  (congrArg (val_main_v22 (F := Ideal) a b x w g) (index_eq i)).trans (next_at a b x w g (i 0) (i 1))

end Cert.Reference6Ideal.OutProj

end
-- ==== Proof.OutProjClaims.lean ====
/- The claims about the output projection: the kernel runs, leaves its arguments and its semaphores as it found them, and
   computes what the reference computes. -/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.OutProjOut
public import proofs.«01_k».proof.Proof.OutProjRef
public import Idealize.ShloMosaic.Lib.Claim

@[expose] public section

noncomputable section

namespace Cert.OutProjClaims

open Idealize.ShloMosaic Idealize.SL.Sem Cert.Kernel6.Gen Cert.Kernel6Ideal.Gen Cert.Reference6Ideal.Gen

/-- The kernel runs and changes no argument. -/
theorem frame_kernel : quiescent_Kernel6 := fun m g _ => Cert.Kernel6.Gen.frame m g

/-- So does the kernel on the extended reals. -/
theorem frame_ideal : quiescent_Kernel6Ideal := fun m g _ => Cert.Kernel6Ideal.Gen.frame m g

/-- So does the reference. -/
theorem frame_reference : quiescent_Reference6Ideal := fun m g _ =>
  (θ_run _ _ _).mono (fun r h => ⟨fun c => (h c).2.2, sem_eq_zero_of_no_sems (by decide) r.2⟩) (Cert.Reference6Ideal.Value.run m g)

/-- The kernel's two arrays and the reference's are the same. -/
theorem equal : algebraic_Kernel6Ideal_Reference6Ideal := fun m g m' g' _ ha =>
  ⟨fun c => Cert.Kernel6Ideal.OutProj.res m c, fun c => Cert.Kernel6Ideal.OutProj.resNormed m c,
    (θ_run _ _ _).mono (fun _ h c => ⟨(h c).1.trans (Cert.Kernel6Ideal.OutProj.out_eq m c),
        (h c).2.1.trans (Cert.Kernel6Ideal.OutProj.out_normed_eq m c), (h c).2.2⟩)
      (Cert.Kernel6Ideal.Value.run_blocks m g),
    (θ_run _ _ _).mono (fun _ h c => ⟨(h c).1.trans (by
        rw [Cert.Reference6Ideal.Read.val_main_v6_eq]
        obtain ⟨a0, a1, a2, a3, -⟩ := ha c
        rw [a0, a1, a2, a3]
        exact funext fun i => Cert.Reference6Ideal.OutProj.row_eq _ _ _ _ i),
      (h c).2.1.trans (by
        rw [Cert.Reference6Ideal.Read.val_main_v22_eq]
        obtain ⟨a0, a1, a2, a3, a4⟩ := ha c
        rw [a0, a1, a2, a3, a4]
        exact funext fun i => Cert.Reference6Ideal.OutProj.next_eq _ _ _ _ _ i), (h c).2.2⟩)
      (Cert.Reference6Ideal.Value.run m' g')⟩

end Cert.OutProjClaims

end
-- ==== Proof.OutProjRoutedOut.lean ====
/- The routing layers' output projection: its two arrays of rows after the run. The body forms the new rows and normalizes
   them as the other layers' body does, and only then routes them, so what it leaves of them is what that body leaves. -/
module

public import proofs.«01_k».proof.Proof.Gen.Kernel7Ideal.Frame
public import proofs.«01_k».proof.Proof.OutProjOut

@[expose] public section

set_option maxRecDepth 16384

noncomputable section

namespace Cert.Kernel7Ideal.OutProj

open Cert.Kernel7Ideal Cert.Kernel7Ideal.Gen
open Idealize.ShloMosaic Idealize.ShloMosaic.TcCoe Idealize.SL.Sem
open Cert.Kernel6Ideal.OutProj (rows nexts)

/-! ## The body -/

section
variable (x0 x1 : S512x1024.Idx → EReal) (x2 : S512x2048.Idx → EReal) (x3 : S2048x2048.Idx → EReal) (x4 : S1x2048.Idx → EReal)
  (x5 : S2x2048x128.Idx → EReal)

/-- The body leaves the block's new rows, -/
theorem out_sum : out0_6 (F := Ideal) x0 x1 x2 x3 x4 x5 = rows x0 x1 x2 x3 :=
  (rfl : out0_6 (F := Ideal) x0 x1 x2 x3 x4 x5 = Cert.Kernel6Ideal.Gen.out0_5 (F := Ideal) x0 x1 x2 x3 x4).trans
    (Cert.Kernel6Ideal.OutProj.out_sum x0 x1 x2 x3 x4)

/-- and those rows normalized. -/
theorem out_normed : out0_7 (F := Ideal) x0 x1 x2 x3 x4 x5 = nexts x0 x1 x2 x3 x4 :=
  (rfl : out0_7 (F := Ideal) x0 x1 x2 x3 x4 x5 = Cert.Kernel6Ideal.Gen.out0_6 (F := Ideal) x0 x1 x2 x3 x4).trans
    (Cert.Kernel6Ideal.OutProj.out_normed x0 x1 x2 x3 x4)

end

/-! ## The blocks -/

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![0, 0] := by decide +kernel
theorem index6 : ∀ t : Fin grid0.N, win0_6.index t = ![t.val, 0] := by decide +kernel
theorem index7 : ∀ t : Fin grid0.N, win0_7.index t = ![t.val, 0] := by decide +kernel

variable (m : (ℓ : Loc nD τ sig) → Buf (Elt Ideal) ℓ)

/-- The two mixers' results, the rows, the layers' weights, the layers' gains. -/
abbrev A (c : Dev nD) : S16384x1024.Idx → EReal := m ((c : Thread nD τ).loc main_arg0)
abbrev B (c : Dev nD) : S16384x1024.Idx → EReal := m ((c : Thread nD τ).loc main_arg1)
abbrev X (c : Dev nD) : S16384x2048.Idx → EReal := m ((c : Thread nD τ).loc main_arg2)
abbrev Wt (c : Dev nD) : S4x2048x2048.Idx → EReal := m ((c : Thread nD τ).loc main_arg3)
abbrev Gn (c : Dev nD) : S4x2048.Idx → EReal := m ((c : Thread nD τ).loc main_arg4)

/-- The row of the arrays that is row `r` of point `t`'s block. -/
abbrev rowOf (t : Fin grid0.N) (r : Fin 512) : Fin 16384 := ⟨t.val * 512 + r.val, by have := N_0; have := t.isLt; have := r.isLt; omega⟩

theorem a_at (c : Dev nD) (t : Fin grid0.N) (r : Fin 512) (k : Fin 1024) :
    (iblk m c (0 : Fin 10) t : S512x1024.Idx → EReal) (ix2 r k) = A m c (ix2 (rowOf t r) k) := by
  unfold A
  rw [← V_main_arg0 m c]
  blk_simp [iblk]
  blk_ext [index0 t]

theorem b_at (c : Dev nD) (t : Fin grid0.N) (r : Fin 512) (k : Fin 1024) :
    (iblk m c (1 : Fin 10) t : S512x1024.Idx → EReal) (ix2 r k) = B m c (ix2 (rowOf t r) k) := by
  unfold B
  rw [← V_main_arg1 m c]
  blk_simp [iblk]
  blk_ext [index1 t]

theorem x_at (c : Dev nD) (t : Fin grid0.N) (r : Fin 512) (d : Fin 2048) :
    (iblk m c (2 : Fin 10) t : S512x2048.Idx → EReal) (ix2 r d) = X m c (ix2 (rowOf t r) d) := by
  unfold X
  rw [← V_main_arg2 m c]
  blk_simp [iblk]
  blk_ext [index2 t]

/-- The weights that the region finds are the layer's, -/
theorem weight_at (c : Dev nD) (k d : Fin 2048) : (V m c main_v2 : S2048x2048.Idx → EReal) (ix2 k d) = Wt m c (ix3 1 k d) := by
  unfold V
  after_reads_simp
  clean_types
  pointwise

/-- and so is the gain. -/
theorem gain_at (c : Dev nD) (d : Fin 2048) : (V m c main_v7 : S1x2048.Idx → EReal) (ix2 0 d) = Gn m c (ix2 1 d) := by
  unfold V
  after_reads_simp
  clean_types
  pointwise

theorem w_at (c : Dev nD) (t : Fin grid0.N) (k d : Fin 2048) :
    (iblk m c (3 : Fin 10) t : S2048x2048.Idx → EReal) (ix2 k d) = Wt m c (ix3 1 k d) := by
  rw [← weight_at m c k d]
  blk_simp [iblk]
  blk_ext [index3 t]

theorem g_at (c : Dev nD) (t : Fin grid0.N) (d : Fin 2048) :
    (iblk m c (4 : Fin 10) t : S1x2048.Idx → EReal) (ix2 0 d) = Gn m c (ix2 1 d) := by
  rw [← gain_at m c d]
  blk_simp [iblk]
  blk_ext [index4 t]

/-! ## The arrays of rows -/

/-- The new rows as a function of the arguments, -/
def res (c : Dev nD) : S16384x2048.Idx → EReal := fun i =>
  OutProjSpec.mixed (fun d => X m c (ix2 (i 0) d)) (fun k => A m c (ix2 (i 0) k)) (fun k => B m c (ix2 (i 0) k))
    (fun k d => Wt m c (ix3 1 k d)) (i 1)

/-- and those rows normalized. -/
def resNormed (c : Dev nD) : S16384x2048.Idx → EReal := fun i =>
  OutProjSpec.next (fun d => X m c (ix2 (i 0) d)) (fun k => A m c (ix2 (i 0) k)) (fun k => B m c (ix2 (i 0) k))
    (fun k d => Wt m c (ix3 1 k d)) (fun d => Gn m c (ix2 1 d)) (i 1)

/-- An element of a point's block of new rows is the mathematical one at the element's row and column of the array, -/
theorem sum_after (c : Dev nD) (t : Fin grid0.N) (y : S512x2048.Idx) (i : S16384x2048.Idx)
    (e0 : (i 0).val = t.val * 512 + (y 0).val) (e1 : (i 1).val = (y 1).val) :
    rows (iblk m c (0 : Fin 10) t) (iblk m c (1 : Fin 10) t) (iblk m c (2 : Fin 10) t) (iblk m c (3 : Fin 10) t) y = res m c i := by
  have er : i 0 = rowOf t (y 0) := Fin.ext e0
  have ec : i 1 = y 1 := Fin.ext e1
  unfold rows res
  rw [er, ec]
  exact congrFun (OutProjSpec.mixed_congr (x_at m c t (y 0)) (a_at m c t (y 0)) (b_at m c t (y 0)) (w_at m c t)) (y 1)

/-- and so is one of those normalized. -/
theorem normed_after (c : Dev nD) (t : Fin grid0.N) (y : S512x2048.Idx) (i : S16384x2048.Idx)
    (e0 : (i 0).val = t.val * 512 + (y 0).val) (e1 : (i 1).val = (y 1).val) :
    nexts (iblk m c (0 : Fin 10) t) (iblk m c (1 : Fin 10) t) (iblk m c (2 : Fin 10) t) (iblk m c (3 : Fin 10) t)
      (iblk m c (4 : Fin 10) t) y = resNormed m c i := by
  have er : i 0 = rowOf t (y 0) := Fin.ext e0
  have ec : i 1 = y 1 := Fin.ext e1
  unfold nexts resNormed
  rw [er, ec]
  exact congrFun (OutProjSpec.next_congr (x_at m c t (y 0)) (a_at m c t (y 0)) (b_at m c t (y 0)) (w_at m c t) (g_at m c t)) (y 1)

/-- The blocks of the new rows tile their array, as the other layers' do, -/
theorem covers6 : win0_6.Covers := Cert.Kernel6Ideal.OutProj.covers5

/-- and those of the normalized rows theirs. -/
theorem covers7 : win0_7.Covers := Cert.Kernel6Ideal.OutProj.covers6

/-- The first output array after the run: the rows with the mixers' results, projected, added; -/
theorem out_eq (c : Dev nD) : (dats m 0 c).arrAt (6 : Fin 10) grid0.N = res m c := by
  refine (dats m 0 c).arrAt_eq_of_covers (6 : Fin 10) _ covers6 fun t hf y => ?_
  blk_simp
  rw [after0_6, out_sum]
  exact sum_after m c t y (((cfg0.win (6 : Fin 10)).blk t).view.emb y) (by blk_simp [index6 t]) (by blk_simp [index6 t])

/-- the second: those normalized. -/
theorem out_normed_eq (c : Dev nD) : (dats m 0 c).arrAt (7 : Fin 10) grid0.N = resNormed m c := by
  refine (dats m 0 c).arrAt_eq_of_covers (7 : Fin 10) _ covers7 fun t hf y => ?_
  blk_simp
  rw [after0_7, out_normed]
  exact normed_after m c t y (((cfg0.win (7 : Fin 10)).blk t).view.emb y) (by blk_simp [index7 t]) (by blk_simp [index7 t])

end Cert.Kernel7Ideal.OutProj

end
-- ==== Proof.OutProjRoutedRef.lean ====
/- What the reference of the routing layers' output projection computes. It is the other layers' reference for another
   layer's weights and gains, without the last cast. -/
module

public import proofs.«01_k».proof.Proof.Gen.Reference7Ideal.Read
public import proofs.«01_k».proof.Proof.OutProjRef

@[expose] public section

noncomputable section

namespace Cert.Reference7Ideal.OutProj

open Cert.Reference7Ideal Cert.Reference7Ideal.Gen Cert.Reference7Ideal.Read Idealize.ShloMosaic

variable (a b : (⟨S16384x1024, .bf16⟩ : BufTy).Contents (Elt Ideal)) (x : (⟨S16384x2048, .f32⟩ : BufTy).Contents (Elt Ideal))
variable (w : (⟨S4x2048x2048, .f32⟩ : BufTy).Contents (Elt Ideal)) (g : (⟨S4x2048, .f32⟩ : BufTy).Contents (Elt Ideal))

/-- The stack of weights that has the second layer's everywhere, -/
abbrev weights : (⟨S4x2048x2048, .f32⟩ : BufTy).Contents (Elt Ideal) := fun i => w (ix3 1 (i 1) (i 2))

/-- and the stack of gains. -/
abbrev gains : (⟨S4x2048, .f32⟩ : BufTy).Contents (Elt Ideal) := fun i => g (ix2 1 (i 1))

/-- The weights taken are the second of the four: the other reference's, of that stack; -/
theorem weight_eq : val_main_v4 (F := Ideal) w = Cert.Reference6Ideal.Read.val_main_v4 (F := Ideal) (weights w) := by
  funext i
  rw [val_main_v4_apply, val_main_v3_apply, Cert.Reference6Ideal.Read.val_main_v4_apply, Cert.Reference6Ideal.Read.val_main_v3_apply]
  exact congrArg w (funext fun | ⟨0, _⟩ => rfl | ⟨1, _⟩ => rfl | ⟨2, _⟩ => rfl)

/-- so are the gains. -/
theorem gain_eq : val_main_v20 (F := Ideal) g = Cert.Reference6Ideal.Read.val_main_v20 (F := Ideal) (gains g) := by
  funext i
  rw [val_main_v20_apply, val_main_v19_apply, val_main_v18_apply, val_main_v17_apply, Cert.Reference6Ideal.Read.val_main_v20_apply,
    Cert.Reference6Ideal.Read.val_main_v19_apply, Cert.Reference6Ideal.Read.val_main_v18_apply, Cert.Reference6Ideal.Read.val_main_v17_apply]
  exact congrArg g (funext fun | ⟨0, _⟩ => rfl | ⟨1, _⟩ => rfl)

/-- The new rows are the other reference's. -/
theorem rows_eq : val_main_v6 (F := Ideal) a b x w = Cert.Reference6Ideal.Read.val_main_v6 (F := Ideal) a b x (weights w) := by
  unfold val_main_v6 val_main_v5
  rw [weight_eq]
  rfl

/-- The first array is the mathematical one, -/
theorem row_eq (i : S16384x2048.Idx) : val_main_v6 (F := Ideal) a b x w i
    = OutProjSpec.mixed (fun d => x (ix2 (i 0) d)) (fun k => a (ix2 (i 0) k)) (fun k => b (ix2 (i 0) k))
      (fun k d => w (ix3 1 k d)) (i 1) :=
  (congrFun (rows_eq a b x w) i).trans (Cert.Reference6Ideal.OutProj.row_eq a b x (weights w) i)

/-- and so is the second. -/
theorem next_eq (i : S16384x2048.Idx) : val_main_v21 (F := Ideal) a b x w g i
    = OutProjSpec.next (fun d => x (ix2 (i 0) d)) (fun k => a (ix2 (i 0) k)) (fun k => b (ix2 (i 0) k))
      (fun k d => w (ix3 1 k d)) (fun d => g (ix2 1 d)) (i 1) := by
  refine Eq.trans ?_ (Cert.Reference6Ideal.OutProj.next_eq a b x (weights w) (gains g) i)
  unfold val_main_v21 val_main_v16 val_main_v15 val_main_v14 val_main_v13 val_main_v11 val_main_v9 val_main_v8 val_main_v7
  rw [gain_eq, rows_eq]
  rfl

end Cert.Reference7Ideal.OutProj

end
-- ==== Proof.OutProjRoutedClaims.lean ====
/- The claims about the routing layers' output projection: the kernel runs, leaves its arguments and its semaphores as it found
   them, and its two arrays of rows are what the reference computes. Nothing is said of the gates and the experts it chooses. -/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import proofs.«01_k».proof.Proof.OutProjRoutedOut
public import proofs.«01_k».proof.Proof.OutProjRoutedRef
public import Idealize.ShloMosaic.Lib.Claim

@[expose] public section

noncomputable section

namespace Cert.OutProjRoutedClaims

open Idealize.ShloMosaic Idealize.SL.Sem Cert.Kernel7.Gen Cert.Kernel7Ideal.Gen Cert.Reference7Ideal.Gen

/-- The kernel runs and changes no argument. -/
theorem frame_kernel : quiescent_Kernel7 := fun m g _ => Cert.Kernel7.Gen.frame m g

/-- So does the kernel on the extended reals. -/
theorem frame_ideal : quiescent_Kernel7Ideal := fun m g _ => Cert.Kernel7Ideal.Gen.frame m g

/-- So does the reference. -/
theorem frame_reference : quiescent_Reference7Ideal := fun m g _ =>
  (θ_run _ _ _).mono (fun r h => ⟨fun c => (h c).2.2, sem_eq_zero_of_no_sems (by decide) r.2⟩) (Cert.Reference7Ideal.Value.run m g)

/-- The kernel's two arrays of rows and the reference's are the same. -/
theorem equal : algebraic_Kernel7Ideal_Reference7Ideal := fun m g m' g' _ ha =>
  ⟨fun c => Cert.Kernel7Ideal.OutProj.res m c, fun c => Cert.Kernel7Ideal.OutProj.resNormed m c,
    (θ_run _ _ _).mono (fun _ h c => ⟨(h c).1.trans (Cert.Kernel7Ideal.OutProj.out_eq m c),
        (h c).2.1.trans (Cert.Kernel7Ideal.OutProj.out_normed_eq m c), (h c).2.2.2.2⟩)
      (Cert.Kernel7Ideal.Value.run_blocks m g),
    (θ_run _ _ _).mono (fun _ h c => ⟨(h c).1.trans (by
        rw [Cert.Reference7Ideal.Read.val_main_v6_eq]
        obtain ⟨a0, a1, a2, a3, -⟩ := ha c
        rw [a0, a1, a2, a3]
        exact funext fun i => Cert.Reference7Ideal.OutProj.row_eq _ _ _ _ i),
      (h c).2.1.trans (by
        rw [Cert.Reference7Ideal.Read.val_main_v21_eq]
        obtain ⟨a0, a1, a2, a3, a4, -⟩ := ha c
        rw [a0, a1, a2, a3, a4]
        exact funext fun i => Cert.Reference7Ideal.OutProj.next_eq _ _ _ _ _ i), (h c).2.2⟩)
      (Cert.Reference7Ideal.Value.run m' g')⟩

end Cert.OutProjRoutedClaims

end
-- ==== Proof.lean ====
module

public import proofs.«01_k».proof.Proof.UpClaims
public import proofs.«01_k».proof.Proof.DownClaims
public import proofs.«01_k».proof.Proof.DenseUpClaims
public import proofs.«01_k».proof.Proof.DenseDownClaims
public import proofs.«01_k».proof.Proof.InProjClaims
public import proofs.«01_k».proof.Proof.OutProjClaims
public import proofs.«01_k».proof.Proof.OutProjRoutedClaims
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Reference4Ideal.Run
public import proofs.«01_k».proof.Proof.Gen.Reference4Ideal.Read
public import proofs.«01_k».proof.Proof.Gen.Pre_table_ok2
public import proofs.«01_k».proof.Proof.Gen.Kernel4Ideal.Launch
public import proofs.«01_k».proof.Proof.Gen.Kernel4Ideal.Skeleton
public import proofs.«01_k».proof.Proof.Gen.Kernel4.Skeleton
public import proofs.«01_k».proof.Proof.Gen.Kernel3Ideal.Launch
public import proofs.«01_k».proof.Proof.Gen.Kernel3Ideal.Skeleton
public import proofs.«01_k».proof.Proof.Gen.Kernel3.Skeleton
public import proofs.«01_k».proof.Proof.Gen.Kernel2Ideal.Launch
public import proofs.«01_k».proof.Proof.Gen.Kernel2Ideal.Skeleton
public import proofs.«01_k».proof.Proof.Gen.Kernel2.Skeleton

@[expose] public section

noncomputable section

namespace Cert.Proof

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_table_ok.Gen.facts, Cert.Pre_table_ok2.Gen.facts,
    UpClaims.frame_kernel, UpClaims.frame_ideal, UpClaims.frame_reference, UpClaims.frame_reference_pre,
    DownClaims.frame_kernel, DownClaims.frame_ideal, DownClaims.frame_reference, DownClaims.frame_reference_pre,
    DenseUpClaims.frame_kernel, DenseUpClaims.frame_ideal, DenseUpClaims.frame_reference,
    DenseDownClaims.frame_kernel, DenseDownClaims.frame_ideal, DenseDownClaims.frame_reference,
    InProjClaims.frame_kernel, InProjClaims.frame_ideal, InProjClaims.frame_reference,
    OutProjClaims.frame_kernel, OutProjClaims.frame_ideal, OutProjClaims.frame_reference,
    OutProjRoutedClaims.frame_kernel, OutProjRoutedClaims.frame_ideal, OutProjRoutedClaims.frame_reference,
    trivial, UpClaims.equal, trivial, DownClaims.equal, trivial, DenseUpClaims.equal, trivial, DenseDownClaims.equal,
    trivial, InProjClaims.equal, trivial, OutProjClaims.equal,
    trivial, OutProjRoutedClaims.equal⟩

end Cert.Proof

end
